-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.2.1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.2.1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_conv [hPre_finite_conv : Cert.Pre_finite_conv.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_conv.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_finite_conv.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.1 = (fun _ => 1#1)
    ∧ (Cert.Pre_finite_conv.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_conv [hPre_finite_conv : Cert.Pre_finite_conv.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_conv.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_finite_conv.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.1 = (fun _ => 1#1)
    ∧ (Cert.Pre_finite_conv.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite_conv [hKernel7Ideal : Cert.Kernel7Ideal.Facts] [hPre_finite_conv : Cert.Pre_finite_conv.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_conv m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite_conv [hReference7Ideal : Cert.Reference7Ideal.Facts] [hPre_finite_conv : Cert.Pre_finite_conv.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_conv m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "inv_sqrt_dk" .f32 0x3DB504F3#32 (((Real.sqrt 128)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v28_0)) (v1 : (c : Dev Cert.Kernel2Ideal.nD) → Buf (Elt Ideal) ((c.tc : Thread Cert.Kernel2Ideal.nD Cert.Kernel2Ideal.τ).loc Cert.Kernel2Ideal.main_v28_1)) (v2 : (c : Dev Cert.Kernel2Ideal.nD) → Buf (Elt Ideal) ((c.tc : Thread Cert.Kernel2Ideal.nD Cert.Kernel2Ideal.τ).loc Cert.Kernel2Ideal.main_v28_2)) (v3 : (c : Dev Cert.Kernel2Ideal.nD) → Buf (Elt Ideal) ((c.tc : Thread Cert.Kernel2Ideal.nD Cert.Kernel2Ideal.τ).loc Cert.Kernel2Ideal.main_v28_3)) (v4 : (c : Dev Cert.Kernel2Ideal.nD) → Buf (Elt Ideal) ((c.tc : Thread Cert.Kernel2Ideal.nD Cert.Kernel2Ideal.τ).loc Cert.Kernel2Ideal.main_v28_4)) (v5 : (c : Dev Cert.Kernel2Ideal.nD) → Buf (Elt Ideal) ((c.tc : Thread Cert.Kernel2Ideal.nD Cert.Kernel2Ideal.τ).loc Cert.Kernel2Ideal.main_v28_5)) (v6 : (c : Dev Cert.Kernel2Ideal.nD) → Buf (Elt Ideal) ((c.tc : Thread Cert.Kernel2Ideal.nD Cert.Kernel2Ideal.τ).loc Cert.Kernel2Ideal.main_v28_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28_0) = v0 c
          ∧ r.2.mem ((c.tc : Thread Cert.Kernel2Ideal.nD Cert.Kernel2Ideal.τ).loc Cert.Kernel2Ideal.main_v28_1) = v1 c
          ∧ r.2.mem ((c.tc : Thread Cert.Kernel2Ideal.nD Cert.Kernel2Ideal.τ).loc Cert.Kernel2Ideal.main_v28_2) = v2 c
          ∧ r.2.mem ((c.tc : Thread Cert.Kernel2Ideal.nD Cert.Kernel2Ideal.τ).loc Cert.Kernel2Ideal.main_v28_3) = v3 c
          ∧ r.2.mem ((c.tc : Thread Cert.Kernel2Ideal.nD Cert.Kernel2Ideal.τ).loc Cert.Kernel2Ideal.main_v28_4) = v4 c
          ∧ r.2.mem ((c.tc : Thread Cert.Kernel2Ideal.nD Cert.Kernel2Ideal.τ).loc Cert.Kernel2Ideal.main_v28_5) = v5 c
          ∧ r.2.mem ((c.tc : Thread Cert.Kernel2Ideal.nD Cert.Kernel2Ideal.τ).loc Cert.Kernel2Ideal.main_v28_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_v67) = v1 c
          ∧ r.2.mem ((c.tc : Thread Cert.Reference2Ideal.nD Cert.Reference2Ideal.τ).loc Cert.Reference2Ideal.main_v68) = v2 c
          ∧ r.2.mem ((c.tc : Thread Cert.Reference2Ideal.nD Cert.Reference2Ideal.τ).loc Cert.Reference2Ideal.main_v103) = v3 c
          ∧ r.2.mem ((c.tc : Thread Cert.Reference2Ideal.nD Cert.Reference2Ideal.τ).loc Cert.Reference2Ideal.main_v105) = v4 c
          ∧ r.2.mem ((c.tc : Thread Cert.Reference2Ideal.nD Cert.Reference2Ideal.τ).loc Cert.Reference2Ideal.main_v106) = v5 c
          ∧ r.2.mem ((c.tc : Thread Cert.Reference2Ideal.nD Cert.Reference2Ideal.τ).loc Cert.Reference2Ideal.main_v108) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_conv [hKernel7Ideal : Cert.Kernel7Ideal.Facts] [hReference7Ideal : Cert.Reference7Ideal.Facts] [hPre_finite_conv : Cert.Pre_finite_conv.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_conv m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v12)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v12) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v259) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite_conv : Cert.Pre_finite_conv.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_conv (hKernel7Ideal := hKernel7Ideal) (hPre_finite_conv := hPre_finite_conv)
    ∧ quiescent_Reference7Ideal (hReference7Ideal := hReference7Ideal)
    ∧ quiescent_Reference7Ideal_pre_finite_conv (hReference7Ideal := hReference7Ideal) (hPre_finite_conv := hPre_finite_conv)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_conv (hKernel7Ideal := hKernel7Ideal) (hReference7Ideal := hReference7Ideal) (hPre_finite_conv := hPre_finite_conv)
-- ==== Pre_finite.lean ====
abbrev S2x16384x1024 : Shape := ⟨3, ![2, 16384, 1024]⟩
abbrev S1024 : Shape := ⟨1, ![1024]⟩
abbrev S2x1x1024 : Shape := ⟨3, ![2, 1, 1024]⟩
abbrev S1024x2048 : Shape := ⟨2, ![1024, 2048]⟩
abbrev S8x2x128x128 : Shape := ⟨4, ![8, 2, 128, 128]⟩
abbrev S_ : Shape := ⟨0, ![]⟩

class Facts : Prop where
  bcast_S_S2x16384x1024 : S_.BroadcastsInDim S2x16384x1024 (![] : Fin 0 → Fin S2x16384x1024.rank)
  bcast_S_S1024 : S_.BroadcastsInDim S1024 (![] : Fin 0 → Fin S1024.rank)
  bcast_S_S2x1x1024 : S_.BroadcastsInDim S2x1x1024 (![] : Fin 0 → Fin S2x1x1024.rank)
  bcast_S_S1024x2048 : S_.BroadcastsInDim S1024x2048 (![] : Fin 0 → Fin S1024x2048.rank)
  bcast_S_S8x2x128x128 : S_.BroadcastsInDim S8x2x128x128 (![] : Fin 0 → Fin S8x2x128x128.rank)

variable [Facts]

def fn {F : FTy → Type} [FloatOps F] (main_arg0 : FVec F S2x16384x1024 .f32) (main_arg1 : FVec F S1024 .f32) (main_arg2 : FVec F S2x1x1024 .f32) (main_arg3 : FVec F S2x1x1024 .f32) (main_arg4 : FVec F S1024x2048 .f32) (main_arg5 : FVec F S8x2x128x128 .f32) : IVec S2x16384x1024 1 × IVec S1024 1 × IVec S2x1x1024 1 × IVec S2x1x1024 1 × IVec S1024x2048 1 × IVec S8x2x128x128 1 :=
  let main_v0 : FVec F S2x16384x1024 .f32 := Host.absf main_arg0
  let main_cst : FVec F S_ .f32 := constant S_ .f32 0x7F800000#32
  let main_v1 : FVec F S2x16384x1024 .f32 := broadcastInDim S2x16384x1024 ![] bcast_S_S2x16384x1024 main_cst
  let main_v2 : IVec S2x16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S2x1x1024 .f32 := Host.absf main_arg2
  let main_cst_1 : FVec F S_ .f32 := constant S_ .f32 0x7F800000#32
  let main_v7 : FVec F S2x1x1024 .f32 := broadcastInDim S2x1x1024 ![] bcast_S_S2x1x1024 main_cst_1
  let main_v8 : IVec S2x1x1024 1 := cmpf .olt main_v6 main_v7
  let main_v9 : FVec F S2x1x1024 .f32 := Host.absf main_arg3
  let main_cst_2 : FVec F S_ .f32 := constant S_ .f32 0x7F800000#32
  let main_v10 : FVec F S2x1x1024 .f32 := broadcastInDim S2x1x1024 ![] bcast_S_S2x1x1024 main_cst_2
  let main_v11 : IVec S2x1x1024 1 := cmpf .olt main_v9 main_v10
  let main_v12 : FVec F S1024x2048 .f32 := Host.absf main_arg4
  let main_cst_3 : FVec F S_ .f32 := constant S_ .f32 0x7F800000#32
  let main_v13 : FVec F S1024x2048 .f32 := broadcastInDim S1024x2048 ![] bcast_S_S1024x2048 main_cst_3
  let main_v14 : IVec S1024x2048 1 := cmpf .olt main_v12 main_v13
  let main_v15 : FVec F S8x2x128x128 .f32 := Host.absf main_arg5
  let main_cst_4 : FVec F S_ .f32 := constant S_ .f32 0x7F800000#32
  let main_v16 : FVec F S8x2x128x128 .f32 := broadcastInDim S8x2x128x128 ![] bcast_S_S8x2x128x128 main_cst_4
  let main_v17 : IVec S8x2x128x128 1 := cmpf .olt main_v15 main_v16
  (main_v2, main_v5, main_v8, main_v11, main_v14, main_v17)
-- ==== Pre_finite_conv.lean ====
abbrev S2x16384x512 : Shape := ⟨3, ![2, 16384, 512]⟩
abbrev S31x256 : Shape := ⟨2, ![31, 256]⟩
abbrev S256 : Shape := ⟨1, ![256]⟩
abbrev S_ : Shape := ⟨0, ![]⟩

class Facts : Prop where
  bitsLt_bf16_f32 : FTy.bits .bf16 < FTy.bits .f32
  bcast_S_S2x16384x512 : S_.BroadcastsInDim S2x16384x512 (![] : Fin 0 → Fin S2x16384x512.rank)
  bcast_S_S31x256 : S_.BroadcastsInDim S31x256 (![] : Fin 0 → Fin S31x256.rank)
  bcast_S_S256 : S_.BroadcastsInDim S256 (![] : Fin 0 → Fin S256.rank)

variable [Facts]

def fn {F : FTy → Type} [FloatOps F] (main_arg0 : FVec F S2x16384x512 .bf16) (main_arg1 : FVec F S31x256 .f32) (main_arg2 : FVec F S256 .f32) (main_arg3 : FVec F S256 .f32) (main_arg4 : FVec F S256 .f32) : IVec S2x16384x512 1 × IVec S31x256 1 × IVec S256 1 :=
  let main_v0 : FVec F S2x16384x512 .f32 := (extf .f32 · bitsLt_bf16_f32) main_arg0
  let main_v1 : FVec F S2x16384x512 .f32 := Host.absf main_v0
  let main_cst : FVec F S_ .f32 := constant S_ .f32 0x7F800000#32
  let main_v2 : FVec F S2x16384x512 .f32 := broadcastInDim S2x16384x512 ![] bcast_S_S2x16384x512 main_cst
  let main_v3 : IVec S2x16384x512 1 := cmpf .olt main_v1 main_v2
  let main_v4 : FVec F S31x256 .f32 := Host.absf main_arg1
  let main_cst_0 : FVec F S_ .f32 := constant S_ .f32 0x7F800000#32
  let main_v5 : FVec F S31x256 .f32 := broadcastInDim S31x256 ![] bcast_S_S31x256 main_cst_0
  let main_v6 : IVec S31x256 1 := cmpf .olt main_v4 main_v5
  let main_v7 : FVec F S256 .f32 := Host.absf main_arg2
  let main_cst_1 : FVec F S_ .f32 := constant S_ .f32 0x7F800000#32
  let main_v8 : FVec F S256 .f32 := broadcastInDim S256 ![] bcast_S_S256 main_cst_1
  let main_v9 : IVec S256 1 := cmpf .olt main_v7 main_v8
  (main_v3, main_v6, main_v9)
-- ==== Kernel.lean ====
abbrev S16x128x128 : Shape := ⟨3, ![16, 128, 128]⟩
abbrev S2x2x16384x512 : Shape := ⟨4, ![2, 2, 16384, 512]⟩
abbrev S2x2x512x16384 : Shape := ⟨4, ![2, 2, 512, 16384]⟩
abbrev S2x16384x128 : Shape := ⟨3, ![2, 16384, 128]⟩
abbrev S2x16384x512 : Shape := ⟨3, ![2, 16384, 512]⟩
abbrev S1x2x256x512 : Shape := ⟨4, ![1, 2, 256, 512]⟩
abbrev S1x2x512x256 : Shape := ⟨4, ![1, 2, 512, 256]⟩
abbrev S2x256x128 : Shape := ⟨3, ![2, 256, 128]⟩
abbrev S2x256x512 : Shape := ⟨3, ![2, 256, 512]⟩
abbrev S1x128x128 : Shape := ⟨3, ![1, 128, 128]⟩
abbrev S128x128 : Shape := ⟨2, ![128, 128]⟩
abbrev S1x1x128x128 : Shape := ⟨4, ![1, 1, 128, 128]⟩
abbrev S1x1x1 : Shape := ⟨3, ![1, 1, 1]⟩
abbrev S1x1 : Shape := ⟨2, ![1, 1]⟩

abbrev nBuf : Space → Nat
  | .hbm => 10
  | .vmem => 31
  | .smem => 0
  | _ => 0

abbrev bufTy : (tb : Table) → Fin (tcTables nBuf tb) → BufTy
  | .hbm, ⟨0, _⟩ => ⟨S16x128x128, .f32⟩
  | .hbm, ⟨1, _⟩ => ⟨S2x2x16384x512, .f32⟩
  | .hbm, ⟨2, _⟩ => ⟨S2x2x16384x512, .bf16⟩
  | .hbm, ⟨3, _⟩ => ⟨S2x2x16384x512, .bf16⟩
  | .hbm, ⟨4, _⟩ => ⟨S2x2x16384x512, .bf16⟩
  | .hbm, ⟨5, _⟩ => ⟨S2x2x512x16384, .bf16⟩
  | .hbm, ⟨6, _⟩ => ⟨S2x16384x128, .f32⟩
  | .hbm, ⟨7, _⟩ => ⟨S2x16384x512, .bf16⟩
  | .hbm, ⟨8, _⟩ => ⟨S2x16384x512, .bf16⟩
  | .hbm, ⟨9, _⟩ => ⟨S16x128x128, .f32⟩
  | .local _ .vmem, ⟨0, _⟩ => ⟨S16x128x128, .f32⟩
  | .local _ .vmem, ⟨1, _⟩ => ⟨S1x2x256x512, .f32⟩
  | .local _ .vmem, ⟨2, _⟩ => ⟨S1x2x256x512, .f32⟩
  | .local _ .vmem, ⟨3, _⟩ => ⟨S1x2x256x512, .bf16⟩
  | .local _ .vmem, ⟨4, _⟩ => ⟨S1x2x256x512, .bf16⟩
  | .local _ .vmem, ⟨5, _⟩ => ⟨S1x2x256x512, .bf16⟩
  | .local _ .vmem, ⟨6, _⟩ => ⟨S1x2x256x512, .bf16⟩
  | .local _ .vmem, ⟨7, _⟩ => ⟨S1x2x256x512, .bf16⟩
  | .local _ .vmem, ⟨8, _⟩ => ⟨S1x2x256x512, .bf16⟩
  | .local _ .vmem, ⟨9, _⟩ => ⟨S1x2x512x256, .bf16⟩
  | .local _ .vmem, ⟨10, _⟩ => ⟨S1x2x512x256, .bf16⟩
  | .local _ .vmem, ⟨11, _⟩ => ⟨S2x256x128, .f32⟩
  | .local _ .vmem, ⟨12, _⟩ => ⟨S2x256x128, .f32⟩
  | .local _ .vmem, ⟨13, _⟩ => ⟨S1x2x256x512, .f32⟩
  | .local _ .vmem, ⟨14, _⟩ => ⟨S1x2x256x512, .f32⟩
  | .local _ .vmem, ⟨15, _⟩ => ⟨S1x2x256x512, .bf16⟩
  | .local _ .vmem, ⟨16, _⟩ => ⟨S1x2x256x512, .bf16⟩
  | .local _ .vmem, ⟨17, _⟩ => ⟨S1x2x256x512, .bf16⟩
  | .local _ .vmem, ⟨18, _⟩ => ⟨S1x2x256x512, .bf16⟩
  | .local _ .vmem, ⟨19, _⟩ => ⟨S1x2x256x512, .bf16⟩
  | .local _ .vmem, ⟨20, _⟩ => ⟨S1x2x256x512, .bf16⟩
  | .local _ .vmem, ⟨21, _⟩ => ⟨S1x2x512x256, .bf16⟩
  | .local _ .vmem, ⟨22, _⟩ => ⟨S1x2x512x256, .bf16⟩
  | .local _ .vmem, ⟨23, _⟩ => ⟨S2x256x128, .f32⟩
  | .local _ .vmem, ⟨24, _⟩ => ⟨S2x256x128, .f32⟩
  | .local _ .vmem, ⟨25, _⟩ => ⟨S2x256x512, .bf16⟩
  | .local _ .vmem, ⟨26, _⟩ => ⟨S2x256x512, .bf16⟩
  | .local _ .vmem, ⟨27, _⟩ => ⟨S2x256x512, .bf16⟩
  | .local _ .vmem, ⟨28, _⟩ => ⟨S2x256x512, .bf16⟩
  | .local _ .vmem, ⟨29, _⟩ => ⟨S16x128x128, .f32⟩
  | .local _ .vmem, ⟨30, _⟩ => ⟨S16x128x128, .f32⟩
  | _, _ => ⟨S16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_scratch0 : Ref sig .tc := ⟨.vmem, 30, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v1123 : BitVec 1 := Scalar.cmpi .eq arg0 c63_i32
  let v1124 : BitVec 32 := Scalar.extui v1123
  let c0_i32_1221 : BitVec 32 := 0#32
  let v1125 : BitVec 1 := Scalar.cmpi .ne v1124 c0_i32_1221
  v1125

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 4 → Nat :=
  let arg0 : BitVec 32 := BitVec.ofNat 32 (i 0).val
  let c63_i32 : BitVec 32 := 63#32
  let v0 : BitVec 32 := Scalar.subi c63_i32 arg0
  let c1_i32 : BitVec 32 := 1#32
  let c0_i32 : BitVec 32 := 0#32
  let c0_i32_0 : BitVec 32 := 0#32
  let c0_i32_1 : BitVec 32 := 0#32
  ![c1_i32.toNat, c0_i32.toNat, v0.toNat, c0_i32_0.toNat]

def cc0_transform_8 (i : grid0.Coords) : Fin 4 → Nat :=
  let arg0 : BitVec 32 := BitVec.ofNat 32 (i 0).val
  let c63_i32 : BitVec 32 := 63#32
  let v0 : BitVec 32 := Scalar.subi c63_i32 arg0
  let c1_i32 : BitVec 32 := 1#32
  let c0_i32 : BitVec 32 := 0#32
  let c0_i32_0 : BitVec 32 := 0#32
  let c0_i32_1 : BitVec 32 := 0#32
  ![c1_i32.toNat, c0_i32.toNat, v0.toNat, c0_i32_0.toNat]

def cc0_transform_9 (i : grid0.Coords) : Fin 4 → Nat :=
  let arg0 : BitVec 32 := BitVec.ofNat 32 (i 0).val
  let c63_i32 : BitVec 32 := 63#32
  let v0 : BitVec 32 := Scalar.subi c63_i32 arg0
  let c1_i32 : BitVec 32 := 1#32
  let c0_i32 : BitVec 32 := 0#32
  let c0_i32_0 : BitVec 32 := 0#32
  let c0_i32_1 : BitVec 32 := 0#32
  ![c1_i32.toNat, c0_i32.toNat, v0.toNat, c0_i32_0.toNat]

def cc0_transform_10 (i : grid0.Coords) : Fin 4 → Nat :=
  let arg0 : BitVec 32 := BitVec.ofNat 32 (i 0).val
  let c63_i32 : BitVec 32 := 63#32
  let v0 : BitVec 32 := Scalar.subi c63_i32 arg0
  let c1_i32 : BitVec 32 := 1#32
  let c0_i32 : BitVec 32 := 0#32
  let c0_i32_0 : BitVec 32 := 0#32
  let c0_i32_1 : BitVec 32 := 0#32
  ![c1_i32.toNat, c0_i32.toNat, v0.toNat, c0_i32_0.toNat]

def cc0_transform_11 (i : grid0.Coords) : Fin 4 → Nat :=
  let arg0 : BitVec 32 := BitVec.ofNat 32 (i 0).val
  let c63_i32 : BitVec 32 := 63#32
  let v0 : BitVec 32 := Scalar.subi c63_i32 arg0
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, v0.toNat]

def cc0_transform_12 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S16x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S16x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S16x128x128 : Shape := ⟨3, ![16, 128, 128]⟩
abbrev S2x2x16384x512 : Shape := ⟨4, ![2, 2, 16384, 512]⟩
abbrev S2x2x512x16384 : Shape := ⟨4, ![2, 2, 512, 16384]⟩
abbrev S2x16384x128 : Shape := ⟨3, ![2, 16384, 128]⟩
abbrev S2x128x8 : Shape := ⟨3, ![2, 128, 8]⟩
abbrev S2x128x2x4 : Shape := ⟨4, ![2, 128, 2, 4]⟩
abbrev S2x2x128x128x4x128 : Shape := ⟨6, ![2, 2, 128, 128, 4, 128]⟩
abbrev S2x128x2x4x128x128 : Shape := ⟨6, ![2, 128, 2, 4, 128, 128]⟩
abbrev S1x128x2x4x128x128 : Shape := ⟨6, ![1, 128, 2, 4, 128, 128]⟩
abbrev S128x2x4x128x128 : Shape := ⟨5, ![128, 2, 4, 128, 128]⟩
abbrev S128x1x2x4x128x128 : Shape := ⟨6, ![128, 1, 2, 4, 128, 128]⟩
abbrev S128x2x2x4x128x128 : Shape := ⟨6, ![128, 2, 2, 4, 128, 128]⟩
abbrev S2x2x4x128x128x128 : Shape := ⟨6, ![2, 2, 4, 128, 128, 128]⟩
abbrev S1x128x2x4 : Shape := ⟨4, ![1, 128, 2, 4]⟩
abbrev S128x2x4 : Shape := ⟨3, ![128, 2, 4]⟩
abbrev S128x1x2x4 : Shape := ⟨4, ![128, 1, 2, 4]⟩
abbrev S128x2x2x4 : Shape := ⟨4, ![128, 2, 2, 4]⟩
abbrev S2x2x4x128x128 : Shape := ⟨5, ![2, 2, 4, 128, 128]⟩
abbrev S_ : Shape := ⟨0, ![]⟩
abbrev S1x2x2x4x128x128 : Shape := ⟨6, ![1, 2, 2, 4, 128, 128]⟩
abbrev S1x2x2x4 : Shape := ⟨4, ![1, 2, 2, 4]⟩
abbrev S2x2x4 : Shape := ⟨3, ![2, 2, 4]⟩
abbrev S2x2x4x1x1 : Shape := ⟨5, ![2, 2, 4, 1, 1]⟩
abbrev S2x128x128x4x128 : Shape := ⟨5, ![2, 128, 128, 4, 128]⟩
abbrev S2x16384x512 : Shape := ⟨3, ![2, 16384, 512]⟩

abbrev nBuf : Space → Nat
  | .hbm => 159
  | .vmem => 0
  | .smem => 0
  | _ => 0

abbrev hbmTy0_0 (i : Nat) : BufTy := match i % 128 with
  | 0 => ⟨S16x128x128, .f32⟩
  | 1 => ⟨S2x2x16384x512, .f32⟩
  | 2 => ⟨S2x2x16384x512, .bf16⟩
  | 3 => ⟨S2x2x16384x512, .bf16⟩
  | 4 => ⟨S2x2x16384x512, .bf16⟩
  | 5 => ⟨S2x2x512x16384, .bf16⟩
  | 6 => ⟨S2x16384x128, .f32⟩
  | 7 => ⟨S2x128x8, .f32⟩
  | 8 => ⟨S2x128x2x4, .f32⟩
  | 9 => ⟨S2x128x2x4, .f32⟩
  | 10 => ⟨S2x2x16384x512, .f32⟩
  | 11 => ⟨S2x2x128x128x4x128, .f32⟩
  | 12 => ⟨S2x128x2x4x128x128, .f32⟩
  | 13 => ⟨S1x128x2x4x128x128, .f32⟩
  | 14 => ⟨S128x2x4x128x128, .f32⟩
  | 15 => ⟨S1x128x2x4x128x128, .f32⟩
  | 16 => ⟨S128x2x4x128x128, .f32⟩
  | 17 => ⟨S128x2x4x128x128, .f32⟩
  | 18 => ⟨S128x1x2x4x128x128, .f32⟩
  | 19 => ⟨S128x1x2x4x128x128, .f32⟩
  | 20 => ⟨S128x2x2x4x128x128, .f32⟩
  | 21 => ⟨S2x2x512x16384, .f32⟩
  | 22 => ⟨S2x2x4x128x128x128, .f32⟩
  | 23 => ⟨S2x128x2x4x128x128, .f32⟩
  | 24 => ⟨S1x128x2x4x128x128, .f32⟩
  | 25 => ⟨S128x2x4x128x128, .f32⟩
  | 26 => ⟨S1x128x2x4x128x128, .f32⟩
  | 27 => ⟨S128x2x4x128x128, .f32⟩
  | 28 => ⟨S128x2x4x128x128, .f32⟩
  | 29 => ⟨S128x1x2x4x128x128, .f32⟩
  | 30 => ⟨S128x1x2x4x128x128, .f32⟩
  | 31 => ⟨S128x2x2x4x128x128, .f32⟩
  | 32 => ⟨S2x2x128x128x4x128, .f32⟩
  | 33 => ⟨S2x128x2x4x128x128, .f32⟩
  | 34 => ⟨S1x128x2x4x128x128, .f32⟩
  | 35 => ⟨S128x2x4x128x128, .f32⟩
  | 36 => ⟨S1x128x2x4x128x128, .f32⟩
  | 37 => ⟨S128x2x4x128x128, .f32⟩
  | 38 => ⟨S128x2x4x128x128, .f32⟩
  | 39 => ⟨S128x1x2x4x128x128, .f32⟩
  | 40 => ⟨S128x1x2x4x128x128, .f32⟩
  | 41 => ⟨S128x2x2x4x128x128, .f32⟩
  | 42 => ⟨S2x2x16384x512, .f32⟩
  | 43 => ⟨S2x2x128x128x4x128, .f32⟩
  | 44 => ⟨S2x128x2x4x128x128, .f32⟩
  | 45 => ⟨S1x128x2x4x128x128, .f32⟩
  | 46 => ⟨S128x2x4x128x128, .f32⟩
  | 47 => ⟨S1x128x2x4x128x128, .f32⟩
  | 48 => ⟨S128x2x4x128x128, .f32⟩
  | 49 => ⟨S128x2x4x128x128, .f32⟩
  | 50 => ⟨S128x1x2x4x128x128, .f32⟩
  | 51 => ⟨S128x1x2x4x128x128, .f32⟩
  | 52 => ⟨S128x2x2x4x128x128, .f32⟩
  | 53 => ⟨S2x2x16384x512, .f32⟩
  | 54 => ⟨S2x2x128x128x4x128, .f32⟩
  | 55 => ⟨S2x128x2x4x128x128, .f32⟩
  | 56 => ⟨S1x128x2x4x128x128, .f32⟩
  | 57 => ⟨S128x2x4x128x128, .f32⟩
  | 58 => ⟨S1x128x2x4x128x128, .f32⟩
  | 59 => ⟨S128x2x4x128x128, .f32⟩
  | 60 => ⟨S128x2x4x128x128, .f32⟩
  | 61 => ⟨S128x1x2x4x128x128, .f32⟩
  | 62 => ⟨S128x1x2x4x128x128, .f32⟩
  | 63 => ⟨S128x2x2x4x128x128, .f32⟩
  | 64 => ⟨S1x128x2x4, .f32⟩
  | 65 => ⟨S128x2x4, .f32⟩
  | 66 => ⟨S1x128x2x4, .f32⟩
  | 67 => ⟨S128x2x4, .f32⟩
  | 68 => ⟨S128x2x4, .f32⟩
  | 69 => ⟨S128x1x2x4, .f32⟩
  | 70 => ⟨S128x1x2x4, .f32⟩
  | 71 => ⟨S128x2x2x4, .f32⟩
  | 72 => ⟨S2x2x4x128x128, .f32⟩
  | 73 => ⟨S_, .f32⟩
  | 74 => ⟨S128x2x2x4x128x128, .f32⟩
  | 75 => ⟨S_, .i32⟩
  | 76 => ⟨S128x2x2x4x128x128, .f32⟩
  | 77 => ⟨S128x2x2x4x128x128, .f32⟩
  | 78 => ⟨S128x2x2x4x128x128, .f32⟩
  | 79 => ⟨S128x2x2x4x128x128, .f32⟩
  | 80 => ⟨S128x2x2x4x128x128, .f32⟩
  | 81 => ⟨S128x2x2x4, .f32⟩
  | 82 => ⟨S_, .i32⟩
  | 83 => ⟨S2x2x4x128x128, .f32⟩
  | 84 => ⟨S128x2x2x4x128x128, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i32⟩
  | 92 => ⟨S1x2x2x4x128x128, .f32⟩
  | 93 => ⟨S2x2x4x128x128, .f32⟩
  | 94 => ⟨S_, .i32⟩
  | 95 => ⟨S_, .i32⟩
  | 96 => ⟨S_, .i32⟩
  | 97 => ⟨S_, .i32⟩
  | 98 => ⟨S_, .i32⟩
  | 99 => ⟨S1x2x2x4x128x128, .f32⟩
  | 100 => ⟨S2x2x4x128x128, .f32⟩
  | 101 => ⟨S_, .i32⟩
  | 102 => ⟨S_, .i32⟩
  | 103 => ⟨S_, .i32⟩
  | 104 => ⟨S_, .i32⟩
  | 105 => ⟨S_, .i32⟩
  | 106 => ⟨S1x2x2x4x128x128, .f32⟩
  | 107 => ⟨S2x2x4x128x128, .f32⟩
  | 108 => ⟨S_, .i32⟩
  | 109 => ⟨S_, .i32⟩
  | 110 => ⟨S_, .i32⟩
  | 111 => ⟨S_, .i32⟩
  | 112 => ⟨S_, .i32⟩
  | 113 => ⟨S1x2x2x4x128x128, .f32⟩
  | 114 => ⟨S2x2x4x128x128, .f32⟩
  | 115 => ⟨S_, .i32⟩
  | 116 => ⟨S_, .i32⟩
  | 117 => ⟨S_, .i32⟩
  | 118 => ⟨S_, .i32⟩
  | 119 => ⟨S_, .i32⟩
  | 120 => ⟨S1x2x2x4x128x128, .f32⟩
  | 121 => ⟨S2x2x4x128x128, .f32⟩
  | 122 => ⟨S_, .i32⟩
  | 123 => ⟨S_, .i32⟩
  | 124 => ⟨S_, .i32⟩
  | 125 => ⟨S1x2x2x4, .f32⟩
  | 126 => ⟨S2x2x4, .f32⟩
  | 127 => ⟨S2x2x4x128x128, .f32⟩
  | _ => ⟨S16x128x128, .f32⟩

abbrev hbmTy0_1 (i : Nat) : BufTy := match i % 128 with
  | 0 => ⟨S2x2x4x128x128, .f32⟩
  | 1 => ⟨S2x2x4x128x128, .f32⟩
  | 2 => ⟨S2x2x4x128x128, .f32⟩
  | 3 => ⟨S2x2x4x128x128, .f32⟩
  | 4 => ⟨S2x2x4, .f32⟩
  | 5 => ⟨S2x2x4x1x1, .f32⟩
  | 6 => ⟨S2x2x4x128x128, .f32⟩
  | 7 => ⟨S2x2x4x128x128, .f32⟩
  | 8 => ⟨S2x2x4x128x128, .f32⟩
  | 9 => ⟨S2x2x4x128x128, .f32⟩
  | 10 => ⟨S1x2x2x4x128x128, .f32⟩
  | 11 => ⟨S_, .i32⟩
  | 12 => ⟨S_, .i32⟩
  | 13 => ⟨S_, .i32⟩
  | 14 => ⟨S_, .i32⟩
  | 15 => ⟨S_, .i32⟩
  | 16 => ⟨S128x2x2x4x128x128, .f32⟩
  | 17 => ⟨S_, .i32⟩
  | 18 => ⟨S_, .i32⟩
  | 19 => ⟨S128x1x2x4x128x128, .f32⟩
  | 20 => ⟨S128x2x4x128x128, .f32⟩
  | 21 => ⟨S2x128x128x4x128, .f32⟩
  | 22 => ⟨S2x16384x512, .f32⟩
  | 23 => ⟨S2x16384x512, .bf16⟩
  | 24 => ⟨S128x1x2x4x128x128, .f32⟩
  | 25 => ⟨S128x2x4x128x128, .f32⟩
  | 26 => ⟨S128x2x4x128x128, .f32⟩
  | 27 => ⟨S2x128x128x4x128, .f32⟩
  | 28 => ⟨S2x16384x512, .f32⟩
  | 29 => ⟨S2x16384x512, .bf16⟩
  | 30 => ⟨S16x128x128, .f32⟩
  | _ => ⟨S16x128x128, .f32⟩

abbrev hbmTy (i : Nat) : BufTy := match i / 128 with
  | 0 => hbmTy0_0 i
  | 1 => hbmTy0_1 i
  | _ => ⟨S16x128x128, .f32⟩

abbrev bufTy : (tb : Table) → Fin (tcTables nBuf tb) → BufTy
  | .hbm, ⟨i, _⟩ => hbmTy i
  | _, _ => ⟨S16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_cst : Ref sig .tc := ⟨.hbm, 73, rfl⟩
abbrev main_v66 : Ref sig .tc := ⟨.hbm, 74, rfl⟩
abbrev main_c : Ref sig .tc := ⟨.hbm, 75, rfl⟩
abbrev main_v67_0 : Ref sig .tc := ⟨.hbm, 76, rfl⟩
abbrev main_v67_1 : Ref sig .tc := ⟨.hbm, 77, rfl⟩
abbrev main_v67_2 : Ref sig .tc := ⟨.hbm, 78, rfl⟩
abbrev main_v67_3 : Ref sig .tc := ⟨.hbm, 79, rfl⟩
abbrev main_v67_4 : Ref sig .tc := ⟨.hbm, 80, rfl⟩
abbrev main_v67_5 : Ref sig .tc := ⟨.hbm, 81, rfl⟩
abbrev main_v67_6 : Ref sig .tc := ⟨.hbm, 82, rfl⟩
abbrev main_v67_7 : Ref sig .tc := ⟨.hbm, 83, rfl⟩
abbrev main_v67_8 : Ref sig .tc := ⟨.hbm, 84, rfl⟩
abbrev main_while0c_c_8 : Ref sig .tc := ⟨.hbm, 85, rfl⟩
abbrev main_while0c_v80 : Ref sig .tc := ⟨.hbm, 86, rfl⟩
abbrev main_while0b_call6_c : Ref sig .tc := ⟨.hbm, 87, rfl⟩
abbrev main_while0b_call6_c_0 : Ref sig .tc := ⟨.hbm, 88, rfl⟩
abbrev main_while0b_call6_c_1 : Ref sig .tc := ⟨.hbm, 89, rfl⟩
abbrev main_while0b_call6_c_2 : Ref sig .tc := ⟨.hbm, 90, rfl⟩
abbrev main_while0b_call6_c_3 : Ref sig .tc := ⟨.hbm, 91, rfl⟩
abbrev main_while0b_call6_v0 : Ref sig .tc := ⟨.hbm, 92, rfl⟩
abbrev main_while0b_v80 : Ref sig .tc := ⟨.hbm, 93, rfl⟩
abbrev main_while0b_call7_c : Ref sig .tc := ⟨.hbm, 94, rfl⟩
abbrev main_while0b_call7_c_0 : Ref sig .tc := ⟨.hbm, 95, rfl⟩
abbrev main_while0b_call7_c_1 : Ref sig .tc := ⟨.hbm, 96, rfl⟩
abbrev main_while0b_call7_c_2 : Ref sig .tc := ⟨.hbm, 97, rfl⟩
abbrev main_while0b_call7_c_3 : Ref sig .tc := ⟨.hbm, 98, rfl⟩
abbrev main_while0b_call7_v0 : Ref sig .tc := ⟨.hbm, 99, rfl⟩
abbrev main_while0b_v81 : Ref sig .tc := ⟨.hbm, 100, rfl⟩
abbrev main_while0b_call8_c : Ref sig .tc := ⟨.hbm, 101, rfl⟩
abbrev main_while0b_call8_c_0 : Ref sig .tc := ⟨.hbm, 102, rfl⟩
abbrev main_while0b_call8_c_1 : Ref sig .tc := ⟨.hbm, 103, rfl⟩
abbrev main_while0b_call8_c_2 : Ref sig .tc := ⟨.hbm, 104, rfl⟩
abbrev main_while0b_call8_c_3 : Ref sig .tc := ⟨.hbm, 105, rfl⟩
abbrev main_while0b_call8_v0 : Ref sig .tc := ⟨.hbm, 106, rfl⟩
abbrev main_while0b_v82 : Ref sig .tc := ⟨.hbm, 107, rfl⟩
abbrev main_while0b_call9_c : Ref sig .tc := ⟨.hbm, 108, rfl⟩
abbrev main_while0b_call9_c_0 : Ref sig .tc := ⟨.hbm, 109, rfl⟩
abbrev main_while0b_call9_c_1 : Ref sig .tc := ⟨.hbm, 110, rfl⟩
abbrev main_while0b_call9_c_2 : Ref sig .tc := ⟨.hbm, 111, rfl⟩
abbrev main_while0b_call9_c_3 : Ref sig .tc := ⟨.hbm, 112, rfl⟩
abbrev main_while0b_call9_v0 : Ref sig .tc := ⟨.hbm, 113, rfl⟩
abbrev main_while0b_v83 : Ref sig .tc := ⟨.hbm, 114, rfl⟩
abbrev main_while0b_call10_c : Ref sig .tc := ⟨.hbm, 115, rfl⟩
abbrev main_while0b_call10_c_0 : Ref sig .tc := ⟨.hbm, 116, rfl⟩
abbrev main_while0b_call10_c_1 : Ref sig .tc := ⟨.hbm, 117, rfl⟩
abbrev main_while0b_call10_c_2 : Ref sig .tc := ⟨.hbm, 118, rfl⟩
abbrev main_while0b_call10_c_3 : Ref sig .tc := ⟨.hbm, 119, rfl⟩
abbrev main_while0b_call10_v0 : Ref sig .tc := ⟨.hbm, 120, rfl⟩
abbrev main_while0b_v84 : Ref sig .tc := ⟨.hbm, 121, rfl⟩
abbrev main_while0b_call11_c : Ref sig .tc := ⟨.hbm, 122, rfl⟩
abbrev main_while0b_call11_c_0 : Ref sig .tc := ⟨.hbm, 123, rfl⟩
abbrev main_while0b_call11_c_1 : Ref sig .tc := ⟨.hbm, 124, rfl⟩
abbrev main_while0b_call11_v0 : Ref sig .tc := ⟨.hbm, 125, rfl⟩
abbrev main_while0b_v85 : Ref sig .tc := ⟨.hbm, 126, rfl⟩
abbrev main_while0b_v86 : Ref sig .tc := ⟨.hbm, 127, rfl⟩
abbrev main_while0b_v87 : Ref sig .tc := ⟨.hbm, 128, rfl⟩
abbrev main_while0b_v88 : Ref sig .tc := ⟨.hbm, 129, rfl⟩
abbrev main_while0b_v89 : Ref sig .tc := ⟨.hbm, 130, rfl⟩
abbrev main_while0b_v90 : Ref sig .tc := ⟨.hbm, 131, rfl⟩
abbrev main_while0b_v91 : Ref sig .tc := ⟨.hbm, 132, rfl⟩
abbrev main_while0b_v92 : Ref sig .tc := ⟨.hbm, 133, rfl⟩
abbrev main_while0b_v93 : Ref sig .tc := ⟨.hbm, 134, rfl⟩
abbrev main_while0b_v94 : Ref sig .tc := ⟨.hbm, 135, rfl⟩
abbrev main_while0b_v95 : Ref sig .tc := ⟨.hbm, 136, rfl⟩
abbrev main_while0b_v96 : Ref sig .tc := ⟨.hbm, 137, rfl⟩
abbrev main_while0b_call12_v0 : Ref sig .tc := ⟨.hbm, 138, rfl⟩
abbrev main_while0b_call12_c : Ref sig .tc := ⟨.hbm, 139, rfl⟩
abbrev main_while0b_call12_c_0 : Ref sig .tc := ⟨.hbm, 140, rfl⟩
abbrev main_while0b_call12_c_1 : Ref sig .tc := ⟨.hbm, 141, rfl⟩
abbrev main_while0b_call12_c_2 : Ref sig .tc := ⟨.hbm, 142, rfl⟩
abbrev main_while0b_call12_c_3 : Ref sig .tc := ⟨.hbm, 143, rfl⟩
abbrev main_while0b_v97 : Ref sig .tc := ⟨.hbm, 144, rfl⟩
abbrev main_while0b_c_8 : Ref sig .tc := ⟨.hbm, 145, rfl⟩
abbrev main_while0b_v98 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S2x16384x1024 : Shape := ⟨3, ![2, 16384, 1024]⟩
abbrev S1024 : Shape := ⟨1, ![1024]⟩
abbrev S2x1x1024 : Shape := ⟨3, ![2, 1, 1024]⟩
abbrev S1024x2832 : Shape := ⟨2, ![1024, 2832]⟩
abbrev S3x1536 : Shape := ⟨2, ![3, 1536]⟩
abbrev S2x4 : Shape := ⟨2, ![2, 4]⟩
abbrev S1024x16 : Shape := ⟨2, ![1024, 16]⟩
abbrev S_ : Shape := ⟨0, ![]⟩
abbrev S1024x128 : Shape := ⟨2, ![1024, 128]⟩
abbrev S1024x2048 : Shape := ⟨2, ![1024, 2048]⟩
abbrev S1024x768 : Shape := ⟨2, ![1024, 768]⟩
abbrev S1024x2944 : Shape := ⟨2, ![1024, 2944]⟩
abbrev S256x256 : Shape := ⟨2, ![256, 256]⟩
abbrev S1x1024 : Shape := ⟨2, ![1, 1024]⟩
abbrev S1x8 : Shape := ⟨2, ![1, 8]⟩
abbrev S1x128 : Shape := ⟨2, ![1, 128]⟩
abbrev S2x16384x512 : Shape := ⟨3, ![2, 16384, 512]⟩
abbrev S2x16384x128 : Shape := ⟨3, ![2, 16384, 128]⟩
abbrev S2x16384x256 : Shape := ⟨3, ![2, 16384, 256]⟩
abbrev S1x8x1024 : Shape := ⟨3, ![1, 8, 1024]⟩
abbrev S1x256x1024 : Shape := ⟨3, ![1, 256, 1024]⟩
abbrev S1x1x1024 : Shape := ⟨3, ![1, 1, 1024]⟩
abbrev S1x256x512 : Shape := ⟨3, ![1, 256, 512]⟩
abbrev S1x256x128 : Shape := ⟨3, ![1, 256, 128]⟩
abbrev S1x256x256 : Shape := ⟨3, ![1, 256, 256]⟩
abbrev S8x1024 : Shape := ⟨2, ![8, 1024]⟩
abbrev S256x1024 : Shape := ⟨2, ![256, 1024]⟩
abbrev S272x1024 : Shape := ⟨2, ![272, 1024]⟩
abbrev S272 : Shape := ⟨1, ![272]⟩
abbrev S272x1 : Shape := ⟨2, ![272, 1]⟩
abbrev S1024x512 : Shape := ⟨2, ![1024, 512]⟩
abbrev S256x512 : Shape := ⟨2, ![256, 512]⟩
abbrev S1024x256 : Shape := ⟨2, ![1024, 256]⟩
abbrev S256x128 : Shape := ⟨2, ![256, 128]⟩
abbrev S1024x1536 : Shape := ⟨2, ![1024, 1536]⟩
abbrev S272x1536 : Shape := ⟨2, ![272, 1536]⟩
abbrev S256 : Shape := ⟨1, ![256]⟩
abbrev S256x1 : Shape := ⟨2, ![256, 1]⟩

abbrev nBuf : Space → Nat
  | .hbm => 63
  | .vmem => 32
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x2832, .f32⟩
  | .hbm, ⟨5, _⟩ => ⟨S3x1536, .f32⟩
  | .hbm, ⟨6, _⟩ => ⟨S2x4, .f32⟩
  | .hbm, ⟨7, _⟩ => ⟨S2x4, .f32⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x2048, .f32⟩
  | .hbm, ⟨13, _⟩ => ⟨S1024x768, .f32⟩
  | .hbm, ⟨14, _⟩ => ⟨S1024x2944, .f32⟩
  | .hbm, ⟨15, _⟩ => ⟨S1024x2944, .bf16⟩
  | .hbm, ⟨16, _⟩ => ⟨S256x256, .i32⟩
  | .hbm, ⟨17, _⟩ => ⟨S256x256, .i32⟩
  | .hbm, ⟨18, _⟩ => ⟨S_, .i32⟩
  | .hbm, ⟨19, _⟩ => ⟨S256x256, .i32⟩
  | .hbm, ⟨20, _⟩ => ⟨S256x256, .i32⟩
  | .hbm, ⟨21, _⟩ => ⟨S_, .i32⟩
  | .hbm, ⟨22, _⟩ => ⟨S256x256, .i32⟩
  | .hbm, ⟨23, _⟩ => ⟨S256x256, .i32⟩
  | .hbm, ⟨24, _⟩ => ⟨S256x256, .i1⟩
  | .hbm, ⟨25, _⟩ => ⟨S256x256, .i1⟩
  | .hbm, ⟨26, _⟩ => ⟨S256x256, .i1⟩
  | .hbm, ⟨27, _⟩ => ⟨S_, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S256x256, .bf16⟩
  | .hbm, ⟨33, _⟩ => ⟨S256x256, .i1⟩
  | .hbm, ⟨34, _⟩ => ⟨S256x256, .i1⟩
  | .hbm, ⟨35, _⟩ => ⟨S_, .f32⟩
  | .hbm, ⟨36, _⟩ => ⟨S_, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S256x256, .bf16⟩
  | .hbm, ⟨41, _⟩ => ⟨S_, .f32⟩
  | .hbm, ⟨42, _⟩ => ⟨S_, .f32⟩
  | .hbm, ⟨43, _⟩ => ⟨S256x256, .f32⟩
  | .hbm, ⟨44, _⟩ => ⟨S256x256, .f32⟩
  | .hbm, ⟨45, _⟩ => ⟨S256x256, .f32⟩
  | .hbm, ⟨46, _⟩ => ⟨S256x256, .bf16⟩
  | .hbm, ⟨47, _⟩ => ⟨S1x1024, .f32⟩
  | .hbm, ⟨48, _⟩ => ⟨S1x8, .f32⟩
  | .hbm, ⟨49, _⟩ => ⟨S_, .i32⟩
  | .hbm, ⟨50, _⟩ => ⟨S_, .f32⟩
  | .hbm, ⟨51, _⟩ => ⟨S1x128, .f32⟩
  | .hbm, ⟨52, _⟩ => ⟨S1x8, .f32⟩
  | .hbm, ⟨53, _⟩ => ⟨S_, .i32⟩
  | .hbm, ⟨54, _⟩ => ⟨S_, .f32⟩
  | .hbm, ⟨55, _⟩ => ⟨S1x128, .f32⟩
  | .hbm, ⟨56, _⟩ => ⟨S2x16384x512, .f32⟩
  | .hbm, ⟨57, _⟩ => ⟨S2x16384x512, .f32⟩
  | .hbm, ⟨58, _⟩ => ⟨S2x16384x512, .f32⟩
  | .hbm, ⟨59, _⟩ => ⟨S2x16384x128, .f32⟩
  | .hbm, ⟨60, _⟩ => ⟨S2x16384x512, .bf16⟩
  | .hbm, ⟨61, _⟩ => ⟨S2x16384x256, .f32⟩
  | .hbm, ⟨62, _⟩ => ⟨S2x16384x512, .bf16⟩
  | .local _ .vmem, ⟨0, _⟩ => ⟨S1x8x1024, .f32⟩
  | .local _ .vmem, ⟨1, _⟩ => ⟨S1x8x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1024x2944, .bf16⟩
  | .local _ .vmem, ⟨12, _⟩ => ⟨S3x1536, .f32⟩
  | .local _ .vmem, ⟨13, _⟩ => ⟨S1x128, .f32⟩
  | .local _ .vmem, ⟨14, _⟩ => ⟨S1x128, .f32⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .vmem, ⟨23, _⟩ => ⟨S1x256x512, .f32⟩
  | .local _ .vmem, ⟨24, _⟩ => ⟨S1x256x128, .f32⟩
  | .local _ .vmem, ⟨25, _⟩ => ⟨S1x256x128, .f32⟩
  | .local _ .vmem, ⟨26, _⟩ => ⟨S1x256x512, .bf16⟩
  | .local _ .vmem, ⟨27, _⟩ => ⟨S1x256x512, .bf16⟩
  | .local _ .vmem, ⟨28, _⟩ => ⟨S1x256x256, .f32⟩
  | .local _ .vmem, ⟨29, _⟩ => ⟨S1x256x256, .f32⟩
  | .local _ .vmem, ⟨30, _⟩ => ⟨S1x256x512, .bf16⟩
  | .local _ .vmem, ⟨31, _⟩ => ⟨S1x256x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_cst_4 : Ref sig .tc := ⟨.hbm, 36, rfl⟩
abbrev main_call2_v0 : Ref sig .tc := ⟨.hbm, 37, rfl⟩
abbrev main_call2_v1 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_cst_6 : Ref sig .tc := ⟨.hbm, 42, rfl⟩
abbrev main_call3_v0 : Ref sig .tc := ⟨.hbm, 43, rfl⟩
abbrev main_call3_v1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_7 : Ref sig .tc := ⟨.hbm, 49, rfl⟩
abbrev main_call4_v0 : Ref sig .tc := ⟨.hbm, 50, rfl⟩
abbrev main_v25 : Ref sig .tc := ⟨.hbm, 51, rfl⟩
abbrev main_v26 : Ref sig .tc := ⟨.hbm, 52, rfl⟩
abbrev main_c_8 : Ref sig .tc := ⟨.hbm, 53, rfl⟩
abbrev main_call5_v0 : Ref sig .tc := ⟨.hbm, 54, rfl⟩
abbrev main_v27 : Ref sig .tc := ⟨.hbm, 55, rfl⟩
abbrev main_v28_0 : Ref sig .tc := ⟨.hbm, 56, rfl⟩
abbrev main_v28_1 : Ref sig .tc := ⟨.hbm, 57, rfl⟩
abbrev main_v28_2 : Ref sig .tc := ⟨.hbm, 58, rfl⟩
abbrev main_v28_3 : Ref sig .tc := ⟨.hbm, 59, rfl⟩
abbrev main_v28_4 : Ref sig .tc := ⟨.hbm, 60, rfl⟩
abbrev main_v28_5 : Ref sig .tc := ⟨.hbm, 61, rfl⟩
abbrev main_v28_6 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x2944 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Kernel2Ideal.lean ====
variable {F : FTy → Type} [FloatOps F] [Named F]
def κ : String → Option EReal := fun
  | "inv_sqrt_dk" => some (((Real.sqrt 128)⁻¹ : ℝ) : EReal)
  | _ => none
-- ==== Reference2Ideal.lean ====
abbrev S2x16384x1024 : Shape := ⟨3, ![2, 16384, 1024]⟩
abbrev S1024 : Shape := ⟨1, ![1024]⟩
abbrev S2x1x1024 : Shape := ⟨3, ![2, 1, 1024]⟩
abbrev S1024x2832 : Shape := ⟨2, ![1024, 2832]⟩
abbrev S3x1536 : Shape := ⟨2, ![3, 1536]⟩
abbrev S2x4 : Shape := ⟨2, ![2, 4]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2832 : Shape := ⟨3, ![2, 16384, 2832]⟩
abbrev S2x16384x1536 : Shape := ⟨3, ![2, 16384, 1536]⟩
abbrev S2x16386x1536 : Shape := ⟨3, ![2, 16386, 1536]⟩
abbrev S1x1536 : Shape := ⟨2, ![1, 1536]⟩
abbrev S1536 : Shape := ⟨1, ![1536]⟩
abbrev S1x1x1536 : Shape := ⟨3, ![1, 1, 1536]⟩
abbrev S2x16384x512 : Shape := ⟨3, ![2, 16384, 512]⟩
abbrev S2x16384x4x128 : Shape := ⟨4, ![2, 16384, 4, 128]⟩
abbrev S2x16384x4 : Shape := ⟨3, ![2, 16384, 4]⟩
abbrev S2x16384x4x1 : Shape := ⟨4, ![2, 16384, 4, 1]⟩
abbrev S2x16384x8 : Shape := ⟨3, ![2, 16384, 8]⟩
abbrev S2x16384x2x4 : Shape := ⟨4, ![2, 16384, 2, 4]⟩
abbrev S1x1x2x4 : Shape := ⟨4, ![1, 1, 2, 4]⟩
abbrev S2x128x128x2x4 : Shape := ⟨5, ![2, 128, 128, 2, 4]⟩
abbrev S2x128x128x1x4 : Shape := ⟨5, ![2, 128, 128, 1, 4]⟩
abbrev S2x128x128x4 : Shape := ⟨4, ![2, 128, 128, 4]⟩
abbrev S2x128x2x4 : Shape := ⟨4, ![2, 128, 2, 4]⟩
abbrev S2x128x1x2x4 : Shape := ⟨5, ![2, 128, 1, 2, 4]⟩
abbrev S2x16384x104 : Shape := ⟨3, ![2, 16384, 104]⟩
abbrev S2x16384x128 : Shape := ⟨3, ![2, 16384, 128]⟩
abbrev S2x16384x256 : Shape := ⟨3, ![2, 16384, 256]⟩

abbrev nBuf : Space → Nat
  | .hbm => 157
  | .vmem => 0
  | .smem => 0
  | _ => 0

abbrev hbmTy0_0 (i : Nat) : BufTy := match i % 128 with
  | 0 => ⟨S2x16384x1024, .f32⟩
  | 1 => ⟨S1024, .f32⟩
  | 2 => ⟨S2x1x1024, .f32⟩
  | 3 => ⟨S2x1x1024, .f32⟩
  | 4 => ⟨S1024x2832, .f32⟩
  | 5 => ⟨S3x1536, .f32⟩
  | 6 => ⟨S2x4, .f32⟩
  | 7 => ⟨S2x4, .f32⟩
  | 8 => ⟨S2x16384x1024, .f32⟩
  | 9 => ⟨S_, .f32⟩
  | 10 => ⟨S2x16384, .f32⟩
  | 11 => ⟨S2x16384x1, .f32⟩
  | 12 => ⟨S_, .f32⟩
  | 13 => ⟨S2x16384x1, .f32⟩
  | 14 => ⟨S2x16384x1, .f32⟩
  | 15 => ⟨S_, .f32⟩
  | 16 => ⟨S2x16384x1, .f32⟩
  | 17 => ⟨S2x16384x1, .f32⟩
  | 18 => ⟨S2x16384x1, .f32⟩
  | 19 => ⟨S2x16384x1024, .f32⟩
  | 20 => ⟨S2x16384x1024, .f32⟩
  | 21 => ⟨S1x1x1024, .f32⟩
  | 22 => ⟨S2x16384x1024, .f32⟩
  | 23 => ⟨S2x16384x1024, .f32⟩
  | 24 => ⟨S_, .f32⟩
  | 25 => ⟨S2x1x1024, .f32⟩
  | 26 => ⟨S2x1x1024, .f32⟩
  | 27 => ⟨S2x16384x1024, .f32⟩
  | 28 => ⟨S2x16384x1024, .f32⟩
  | 29 => ⟨S2x16384x1024, .f32⟩
  | 30 => ⟨S2x16384x1024, .f32⟩
  | 31 => ⟨S2x16384x2832, .f32⟩
  | 32 => ⟨S2x16384x1536, .f32⟩
  | 33 => ⟨S_, .i32⟩
  | 34 => ⟨S_, .f32⟩
  | 35 => ⟨S2x16386x1536, .f32⟩
  | 36 => ⟨S1x1536, .f32⟩
  | 37 => ⟨S1536, .f32⟩
  | 38 => ⟨S2x16384x1536, .f32⟩
  | 39 => ⟨S1x1x1536, .f32⟩
  | 40 => ⟨S2x16384x1536, .f32⟩
  | 41 => ⟨S2x16384x1536, .f32⟩
  | 42 => ⟨S1x1536, .f32⟩
  | 43 => ⟨S1536, .f32⟩
  | 44 => ⟨S2x16384x1536, .f32⟩
  | 45 => ⟨S1x1x1536, .f32⟩
  | 46 => ⟨S2x16384x1536, .f32⟩
  | 47 => ⟨S2x16384x1536, .f32⟩
  | 48 => ⟨S2x16384x1536, .f32⟩
  | 49 => ⟨S1x1536, .f32⟩
  | 50 => ⟨S1536, .f32⟩
  | 51 => ⟨S2x16384x1536, .f32⟩
  | 52 => ⟨S1x1x1536, .f32⟩
  | 53 => ⟨S2x16384x1536, .f32⟩
  | 54 => ⟨S2x16384x1536, .f32⟩
  | 55 => ⟨S2x16384x1536, .f32⟩
  | 56 => ⟨S2x16384x1536, .f32⟩
  | 57 => ⟨S2x16384x1536, .f32⟩
  | 58 => ⟨S_, .f32⟩
  | 59 => ⟨S2x16384x1536, .f32⟩
  | 60 => ⟨S2x16384x1536, .f32⟩
  | 61 => ⟨S_, .f32⟩
  | 62 => ⟨S2x16384x1536, .f32⟩
  | 63 => ⟨S2x16384x1536, .f32⟩
  | 64 => ⟨S2x16384x1536, .f32⟩
  | 65 => ⟨S2x16384x512, .f32⟩
  | 66 => ⟨S2x16384x4x128, .f32⟩
  | 67 => ⟨S2x16384x4x128, .f32⟩
  | 68 => ⟨S_, .f32⟩
  | 69 => ⟨S2x16384x4, .f32⟩
  | 70 => ⟨S2x16384x4x1, .f32⟩
  | 71 => ⟨S_, .f32⟩
  | 72 => ⟨S2x16384x4x1, .f32⟩
  | 73 => ⟨S2x16384x4x1, .f32⟩
  | 74 => ⟨S2x16384x4x1, .f32⟩
  | 75 => ⟨S2x16384x4x128, .f32⟩
  | 76 => ⟨S2x16384x4x128, .f32⟩
  | 77 => ⟨S_, .f32⟩
  | 78 => ⟨S_, .f32⟩
  | 79 => ⟨S2x16384x4x128, .f32⟩
  | 80 => ⟨S2x16384x4x128, .f32⟩
  | 81 => ⟨S2x16384x512, .f32⟩
  | 82 => ⟨S2x16384x512, .f32⟩
  | 83 => ⟨S2x16384x4x128, .f32⟩
  | 84 => ⟨S2x16384x4x128, .f32⟩
  | 85 => ⟨S_, .f32⟩
  | 86 => ⟨S2x16384x4, .f32⟩
  | 87 => ⟨S2x16384x4x1, .f32⟩
  | 88 => ⟨S_, .f32⟩
  | 89 => ⟨S2x16384x4x1, .f32⟩
  | 90 => ⟨S2x16384x4x1, .f32⟩
  | 91 => ⟨S2x16384x4x1, .f32⟩
  | 92 => ⟨S2x16384x4x128, .f32⟩
  | 93 => ⟨S2x16384x4x128, .f32⟩
  | 94 => ⟨S2x16384x512, .f32⟩
  | 95 => ⟨S2x16384x512, .f32⟩
  | 96 => ⟨S2x16384x8, .f32⟩
  | 97 => ⟨S2x16384x2x4, .f32⟩
  | 98 => ⟨S2x4, .f32⟩
  | 99 => ⟨S2x4, .f32⟩
  | 100 => ⟨S1x1x2x4, .f32⟩
  | 101 => ⟨S2x16384x2x4, .f32⟩
  | 102 => ⟨S2x16384x2x4, .f32⟩
  | 103 => ⟨S_, .f32⟩
  | 104 => ⟨S2x16384x2x4, .f32⟩
  | 105 => ⟨S2x16384x2x4, .f32⟩
  | 106 => ⟨S2x16384x2x4, .f32⟩
  | 107 => ⟨S2x16384x2x4, .f32⟩
  | 108 => ⟨S2x16384x2x4, .i1⟩
  | 109 => ⟨S2x16384x2x4, .f32⟩
  | 110 => ⟨S2x16384x2x4, .f32⟩
  | 111 => ⟨S2x16384x2x4, .f32⟩
  | 112 => ⟨S2x16384x2x4, .f32⟩
  | 113 => ⟨S2x16384x2x4, .f32⟩
  | 114 => ⟨S2x16384x2x4, .f32⟩
  | 115 => ⟨S2x16384x2x4, .f32⟩
  | 116 => ⟨S2x16384x2x4, .f32⟩
  | 117 => ⟨S1x1x2x4, .f32⟩
  | 118 => ⟨S2x16384x2x4, .f32⟩
  | 119 => ⟨S2x16384x2x4, .f32⟩
  | 120 => ⟨S2x16384x8, .f32⟩
  | 121 => ⟨S2x16384x8, .f32⟩
  | 122 => ⟨S2x16384x8, .f32⟩
  | 123 => ⟨S_, .f32⟩
  | 124 => ⟨S2x16384x8, .f32⟩
  | 125 => ⟨S2x16384x8, .f32⟩
  | 126 => ⟨S_, .f32⟩
  | 127 => ⟨S2x16384x8, .f32⟩
  | _ => ⟨S2x16384x1024, .f32⟩

abbrev hbmTy0_1 (i : Nat) : BufTy := match i % 128 with
  | 0 => ⟨S2x16384x8, .f32⟩
  | 1 => ⟨S2x128x128x2x4, .f32⟩
  | 2 => ⟨S2x128x128x1x4, .f32⟩
  | 3 => ⟨S2x128x128x4, .f32⟩
  | 4 => ⟨S_, .f32⟩
  | 5 => ⟨S_, .f32⟩
  | 6 => ⟨S2x128x128x4, .f32⟩
  | 7 => ⟨S2x128x128x1x4, .f32⟩
  | 8 => ⟨S2x128x128x4, .f32⟩
  | 9 => ⟨S2x128x128x4, .f32⟩
  | 10 => ⟨S_, .f32⟩
  | 11 => ⟨S_, .f32⟩
  | 12 => ⟨S2x128x128x4, .f32⟩
  | 13 => ⟨S2x128x128x4, .f32⟩
  | 14 => ⟨S_, .f32⟩
  | 15 => ⟨S2x128x2x4, .f32⟩
  | 16 => ⟨S2x128x1x2x4, .f32⟩
  | 17 => ⟨S2x128x128x2x4, .f32⟩
  | 18 => ⟨S2x16384x8, .f32⟩
  | 19 => ⟨S2x16384x4, .f32⟩
  | 20 => ⟨S2x16384x4, .f32⟩
  | 21 => ⟨S_, .f32⟩
  | 22 => ⟨S2x16384x104, .f32⟩
  | 23 => ⟨S2x16384x128, .f32⟩
  | 24 => ⟨S2x16384x512, .f32⟩
  | 25 => ⟨S2x16384x512, .bf16⟩
  | 26 => ⟨S2x16384x256, .f32⟩
  | 27 => ⟨S2x16384x512, .f32⟩
  | 28 => ⟨S2x16384x512, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_call0_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_3 : Ref sig .tc := ⟨.hbm, 68, rfl⟩
abbrev main_v46 : Ref sig .tc := ⟨.hbm, 69, rfl⟩
abbrev main_v47 : Ref sig .tc := ⟨.hbm, 70, rfl⟩
abbrev main_cst_4 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_5 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_6 : Ref sig .tc := ⟨.hbm, 85, rfl⟩
abbrev main_v60 : Ref sig .tc := ⟨.hbm, 86, rfl⟩
abbrev main_v61 : Ref sig .tc := ⟨.hbm, 87, rfl⟩
abbrev main_cst_7 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_call2_cst : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_v5 : Ref sig .tc := ⟨.hbm, 109, rfl⟩
abbrev main_call2_v6 : Ref sig .tc := ⟨.hbm, 110, rfl⟩
abbrev main_call2_v7 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_8 : Ref sig .tc := ⟨.hbm, 123, rfl⟩
abbrev main_v83 : Ref sig .tc := ⟨.hbm, 124, rfl⟩
abbrev main_v84 : Ref sig .tc := ⟨.hbm, 125, rfl⟩
abbrev main_cst_9 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_call3_call0_cst : Ref sig .tc := ⟨.hbm, 132, rfl⟩
abbrev main_call3_call0_v0 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_call5_call0_cst : Ref sig .tc := ⟨.hbm, 138, rfl⟩
abbrev main_call5_call0_v0 : Ref sig .tc := ⟨.hbm, 139, rfl⟩
abbrev main_v94 : Ref sig .tc := ⟨.hbm, 140, rfl⟩
abbrev main_v95 : Ref sig .tc := ⟨.hbm, 141, rfl⟩
abbrev main_cst_10 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_11 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩

abbrev nD : Nat := 1
abbrev τ : Topo := Topo.v7x

variable {F : FTy → Type} [FloatOps F]
-- ==== Kernel3.lean ====
abbrev S2x16384x512 : Shape := ⟨3, ![2, 16384, 512]⟩
abbrev S2x16384x256 : Shape := ⟨3, ![2, 16384, 256]⟩
abbrev S2x16384x1024 : Shape := ⟨3, ![2, 16384, 1024]⟩
abbrev S2x1x1024 : Shape := ⟨3, ![2, 1, 1024]⟩
abbrev S128 : Shape := ⟨1, ![128]⟩
abbrev S1024x1024 : Shape := ⟨2, ![1024, 1024]⟩
abbrev S1x128 : Shape := ⟨2, ![1, 128]⟩
abbrev S1x1024x512 : Shape := ⟨3, ![1, 1024, 512]⟩
abbrev S1x1024x256 : Shape := ⟨3, ![1, 1024, 256]⟩
abbrev S1x1024x1024 : Shape := ⟨3, ![1, 1024, 1024]⟩
abbrev S1x1x1024 : Shape := ⟨3, ![1, 1, 1024]⟩
abbrev S1024x256 : Shape := ⟨2, ![1024, 256]⟩
abbrev S256x1024 : Shape := ⟨2, ![256, 1024]⟩
abbrev S1x1024x128 : Shape := ⟨3, ![1, 1024, 128]⟩
abbrev S1024x128 : Shape := ⟨2, ![1024, 128]⟩
abbrev S1024 : Shape := ⟨1, ![1024]⟩
abbrev S1024x1 : Shape := ⟨2, ![1024, 1]⟩
abbrev S128x1024 : Shape := ⟨2, ![128, 1024]⟩
abbrev S1x1024 : Shape := ⟨2, ![1, 1024]⟩

abbrev nBuf : Space → Nat
  | .hbm => 12
  | .vmem => 18
  | .smem => 0
  | _ => 0

abbrev bufTy : (tb : Table) → Fin (tcTables nBuf tb) → BufTy
  | .hbm, ⟨0, _⟩ => ⟨S2x16384x512, .bf16⟩
  | .hbm, ⟨1, _⟩ => ⟨S2x16384x512, .bf16⟩
  | .hbm, ⟨2, _⟩ => ⟨S2x16384x512, .bf16⟩
  | .hbm, ⟨3, _⟩ => ⟨S2x16384x256, .f32⟩
  | .hbm, ⟨4, _⟩ => ⟨S2x16384x256, .f32⟩
  | .hbm, ⟨5, _⟩ => ⟨S2x16384x1024, .f32⟩
  | .hbm, ⟨6, _⟩ => ⟨S2x1x1024, .f32⟩
  | .hbm, ⟨7, _⟩ => ⟨S128, .f32⟩
  | .hbm, ⟨8, _⟩ => ⟨S1024x1024, .f32⟩
  | .hbm, ⟨9, _⟩ => ⟨S1024x1024, .bf16⟩
  | .hbm, ⟨10, _⟩ => ⟨S1x128, .f32⟩
  | .hbm, ⟨11, _⟩ => ⟨S2x16384x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x128, .f32⟩
  | .local _ .vmem, ⟨15, _⟩ => ⟨S1024x1024, .bf16⟩
  | .local _ .vmem, ⟨16, _⟩ => ⟨S1x1024x1024, .f32⟩
  | .local _ .vmem, ⟨17, _⟩ => ⟨S1x1024x1024, .f32⟩
  | _, _ => ⟨S2x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S2x16384x512 : Shape := ⟨3, ![2, 16384, 512]⟩
abbrev S2x16384x256 : Shape := ⟨3, ![2, 16384, 256]⟩
abbrev S2x16384x1024 : Shape := ⟨3, ![2, 16384, 1024]⟩
abbrev S2x1x1024 : Shape := ⟨3, ![2, 1, 1024]⟩
abbrev S128 : Shape := ⟨1, ![128]⟩
abbrev S1024x1024 : Shape := ⟨2, ![1024, 1024]⟩
abbrev S2x16384x4x128 : Shape := ⟨4, ![2, 16384, 4, 128]⟩
abbrev S_ : Shape := ⟨0, ![]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩

abbrev nBuf : Space → Nat
  | .hbm => 47
  | .vmem => 0
  | .smem => 0
  | _ => 0

abbrev bufTy : (tb : Table) → Fin (tcTables nBuf tb) → BufTy
  | .hbm, ⟨0, _⟩ => ⟨S2x16384x512, .bf16⟩
  | .hbm, ⟨1, _⟩ => ⟨S2x16384x512, .bf16⟩
  | .hbm, ⟨2, _⟩ => ⟨S2x16384x512, .bf16⟩
  | .hbm, ⟨3, _⟩ => ⟨S2x16384x256, .f32⟩
  | .hbm, ⟨4, _⟩ => ⟨S2x16384x256, .f32⟩
  | .hbm, ⟨5, _⟩ => ⟨S2x16384x1024, .f32⟩
  | .hbm, ⟨6, _⟩ => ⟨S2x1x1024, .f32⟩
  | .hbm, ⟨7, _⟩ => ⟨S128, .f32⟩
  | .hbm, ⟨8, _⟩ => ⟨S1024x1024, .f32⟩
  | .hbm, ⟨9, _⟩ => ⟨S2x16384x512, .f32⟩
  | .hbm, ⟨10, _⟩ => ⟨S2x16384x512, .f32⟩
  | .hbm, ⟨11, _⟩ => ⟨S2x16384x512, .f32⟩
  | .hbm, ⟨12, _⟩ => ⟨S2x16384x4x128, .f32⟩
  | .hbm, ⟨13, _⟩ => ⟨S2x16384x4x128, .f32⟩
  | .hbm, ⟨14, _⟩ => ⟨S_, .f32⟩
  | .hbm, ⟨15, _⟩ => ⟨S2x16384x4, .f32⟩
  | .hbm, ⟨16, _⟩ => ⟨S2x16384x4x1, .f32⟩
  | .hbm, ⟨17, _⟩ => ⟨S_, .f32⟩
  | .hbm, ⟨18, _⟩ => ⟨S2x16384x4x1, .f32⟩
  | .hbm, ⟨19, _⟩ => ⟨S2x16384x4x1, .f32⟩
  | .hbm, ⟨20, _⟩ => ⟨S_, .f32⟩
  | .hbm, ⟨21, _⟩ => ⟨S2x16384x4x1, .f32⟩
  | .hbm, ⟨22, _⟩ => ⟨S2x16384x4x1, .f32⟩
  | .hbm, ⟨23, _⟩ => ⟨S2x16384x4x1, .f32⟩
  | .hbm, ⟨24, _⟩ => ⟨S2x16384x4x128, .f32⟩
  | .hbm, ⟨25, _⟩ => ⟨S2x16384x4x128, .f32⟩
  | .hbm, ⟨26, _⟩ => ⟨S1x1x1x128, .f32⟩
  | .hbm, ⟨27, _⟩ => ⟨S2x16384x4x128, .f32⟩
  | .hbm, ⟨28, _⟩ => ⟨S2x16384x4x128, .f32⟩
  | .hbm, ⟨29, _⟩ => ⟨S2x16384x512, .f32⟩
  | .hbm, ⟨30, _⟩ => ⟨S2x16384x4x128, .f32⟩
  | .hbm, ⟨31, _⟩ => ⟨S2x16384x4x128, .f32⟩
  | .hbm, ⟨32, _⟩ => ⟨S2x16384x4x128, .f32⟩
  | .hbm, ⟨33, _⟩ => ⟨S_, .f32⟩
  | .hbm, ⟨34, _⟩ => ⟨S2x16384x4x128, .f32⟩
  | .hbm, ⟨35, _⟩ => ⟨S2x16384x4x128, .f32⟩
  | .hbm, ⟨36, _⟩ => ⟨S_, .f32⟩
  | .hbm, ⟨37, _⟩ => ⟨S2x16384x4x128, .f32⟩
  | .hbm, ⟨38, _⟩ => ⟨S2x16384x4x128, .f32⟩
  | .hbm, ⟨39, _⟩ => ⟨S2x16384x4x128, .f32⟩
  | .hbm, ⟨40, _⟩ => ⟨S2x16384x4x128, .f32⟩
  | .hbm, ⟨41, _⟩ => ⟨S2x16384x512, .f32⟩
  | .hbm, ⟨42, _⟩ => ⟨S2x16384x1024, .f32⟩
  | .hbm, ⟨43, _⟩ => ⟨S2x16384x1024, .f32⟩
  | .hbm, ⟨44, _⟩ => ⟨S2x16384x1024, .f32⟩
  | .hbm, ⟨45, _⟩ => ⟨S2x16384x1024, .f32⟩
  | .hbm, ⟨46, _⟩ => ⟨S2x16384x1024, .f32⟩
  | _, _ => ⟨S2x16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== Kernel4.lean ====
abbrev S2x16384x1024 : Shape := ⟨3, ![2, 16384, 1024]⟩
abbrev S1024 : Shape := ⟨1, ![1024]⟩
abbrev S2x1x1024 : Shape := ⟨3, ![2, 1, 1024]⟩
abbrev S2048x1024 : Shape := ⟨2, ![2048, 1024]⟩
abbrev S1x1024 : Shape := ⟨2, ![1, 1024]⟩
abbrev S2x1024x16384 : Shape := ⟨3, ![2, 1024, 16384]⟩
abbrev S2x16x128x16384 : Shape := ⟨4, ![2, 16, 128, 16384]⟩
abbrev S1x1024x1024 : Shape := ⟨3, ![1, 1024, 1024]⟩
abbrev S1x1x1024 : Shape := ⟨3, ![1, 1, 1024]⟩
abbrev S1x16x128x1024 : Shape := ⟨4, ![1, 16, 128, 1024]⟩
abbrev S1024x1024 : Shape := ⟨2, ![1024, 1024]⟩
abbrev S1024x1 : Shape := ⟨2, ![1024, 1]⟩
abbrev S16x128x1024 : Shape := ⟨3, ![16, 128, 1024]⟩

abbrev nBuf : Space → Nat
  | .hbm => 8
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S2048x1024, .bf16⟩
  | .hbm, ⟨5, _⟩ => ⟨S1x1024, .f32⟩
  | .hbm, ⟨6, _⟩ => ⟨S2x1024x16384, .bf16⟩
  | .hbm, ⟨7, _⟩ => ⟨S2x16x128x16384, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S2048x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x16x128x1024, .f32⟩
  | .local _ .vmem, ⟨11, _⟩ => ⟨S1x16x128x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S2x16384x1024 : Shape := ⟨3, ![2, 16384, 1024]⟩
abbrev S1024 : Shape := ⟨1, ![1024]⟩
abbrev S2x1x1024 : Shape := ⟨3, ![2, 1, 1024]⟩
abbrev S2048x1024 : Shape := ⟨2, ![2048, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S16x128x1024 : Shape := ⟨3, ![16, 128, 1024]⟩
abbrev S16x128x2x16384 : Shape := ⟨4, ![16, 128, 2, 16384]⟩
abbrev S2x16x128x16384 : Shape := ⟨4, ![2, 16, 128, 16384]⟩
abbrev S2x1024x16384 : Shape := ⟨3, ![2, 1024, 16384]⟩

abbrev nBuf : Space → Nat
  | .hbm => 34
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S2048x1024, .bf16⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x16384x1024, .f32⟩
  | .hbm, ⟨25, _⟩ => ⟨S2x16384x1024, .f32⟩
  | .hbm, ⟨26, _⟩ => ⟨S2x16384x1024, .f32⟩
  | .hbm, ⟨27, _⟩ => ⟨S2x16384x1024, .f32⟩
  | .hbm, ⟨28, _⟩ => ⟨S2048x1024, .f32⟩
  | .hbm, ⟨29, _⟩ => ⟨S16x128x1024, .f32⟩
  | .hbm, ⟨30, _⟩ => ⟨S16x128x2x16384, .f32⟩
  | .hbm, ⟨31, _⟩ => ⟨S2x16x128x16384, .f32⟩
  | .hbm, ⟨32, _⟩ => ⟨S2x1024x16384, .f32⟩
  | .hbm, ⟨33, _⟩ => ⟨S2x1024x16384, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel5.lean ====
abbrev S2x16384x1024 : Shape := ⟨3, ![2, 16384, 1024]⟩
abbrev S1024 : Shape := ⟨1, ![1024]⟩
abbrev S2x1x1024 : Shape := ⟨3, ![2, 1, 1024]⟩
abbrev S1024x2048 : Shape := ⟨2, ![1024, 2048]⟩
abbrev S8x2x128x128 : Shape := ⟨4, ![8, 2, 128, 128]⟩
abbrev S16x128x128 : Shape := ⟨3, ![16, 128, 128]⟩
abbrev S2048x1024 : Shape := ⟨2, ![2048, 1024]⟩
abbrev S1x128x128 : Shape := ⟨3, ![1, 128, 128]⟩
abbrev S1024x128 : Shape := ⟨2, ![1024, 128]⟩
abbrev S128x1024 : Shape := ⟨2, ![128, 1024]⟩
abbrev S128x128 : Shape := ⟨2, ![128, 128]⟩
abbrev S1x1024 : Shape := ⟨2, ![1, 1024]⟩
abbrev S2x1024x16384 : Shape := ⟨3, ![2, 1024, 16384]⟩
abbrev S2x16x128x16384 : Shape := ⟨4, ![2, 16, 128, 16384]⟩
abbrev S1x1024x1024 : Shape := ⟨3, ![1, 1024, 1024]⟩
abbrev S1x1x1024 : Shape := ⟨3, ![1, 1, 1024]⟩
abbrev S1x16x128x1024 : Shape := ⟨4, ![1, 16, 128, 1024]⟩
abbrev S1024x1024 : Shape := ⟨2, ![1024, 1024]⟩
abbrev S1024x1 : Shape := ⟨2, ![1024, 1]⟩
abbrev S16x128x1024 : Shape := ⟨3, ![16, 128, 1024]⟩

abbrev nBuf : Space → Nat
  | .hbm => 11
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x2048, .f32⟩
  | .hbm, ⟨5, _⟩ => ⟨S8x2x128x128, .f32⟩
  | .hbm, ⟨6, _⟩ => ⟨S16x128x128, .f32⟩
  | .hbm, ⟨7, _⟩ => ⟨S2048x1024, .bf16⟩
  | .hbm, ⟨8, _⟩ => ⟨S1x1024, .f32⟩
  | .hbm, ⟨9, _⟩ => ⟨S2x1024x16384, .bf16⟩
  | .hbm, ⟨10, _⟩ => ⟨S2x16x128x16384, .f32⟩
  | .local _ .vmem, ⟨0, _⟩ => ⟨S1x128x128, .f32⟩
  | .local _ .vmem, ⟨1, _⟩ => ⟨S1x128x128, .f32⟩
  | .local _ .vmem, ⟨2, _⟩ => ⟨S1024x128, .f32⟩
  | .local _ .vmem, ⟨3, _⟩ => ⟨S1024x128, .f32⟩
  | .local _ .vmem, ⟨4, _⟩ => ⟨S128x1024, .bf16⟩
  | .local _ .vmem, ⟨5, _⟩ => ⟨S128x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S2048x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x16x128x1024, .f32⟩
  | .local _ .vmem, ⟨17, _⟩ => ⟨S1x16x128x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S2048x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1024x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x16x128x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== Reference5Ideal.lean ====
abbrev S2x16384x1024 : Shape := ⟨3, ![2, 16384, 1024]⟩
abbrev S1024 : Shape := ⟨1, ![1024]⟩
abbrev S2x1x1024 : Shape := ⟨3, ![2, 1, 1024]⟩
abbrev S1024x2048 : Shape := ⟨2, ![1024, 2048]⟩
abbrev S8x2x128x128 : Shape := ⟨4, ![8, 2, 128, 128]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2048 : Shape := ⟨3, ![2, 16384, 2048]⟩
abbrev S2x16384x8x2x128 : Shape := ⟨5, ![2, 16384, 8, 2, 128]⟩
abbrev S8x2x128x2x16384 : Shape := ⟨5, ![8, 2, 128, 2, 16384]⟩
abbrev S2x8x2x128x16384 : Shape := ⟨5, ![2, 8, 2, 128, 16384]⟩
abbrev S2x1024x16384 : Shape := ⟨3, ![2, 1024, 16384]⟩
abbrev S2x16x128x16384 : Shape := ⟨4, ![2, 16, 128, 16384]⟩

abbrev nBuf : Space → Nat
  | .hbm => 36
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x2048, .f32⟩
  | .hbm, ⟨5, _⟩ => ⟨S8x2x128x128, .f32⟩
  | .hbm, ⟨6, _⟩ => ⟨S2x16384x1024, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x1024, .f32⟩
  | .hbm, ⟨18, _⟩ => ⟨S2x16384x1024, .f32⟩
  | .hbm, ⟨19, _⟩ => ⟨S1x1x1024, .f32⟩
  | .hbm, ⟨20, _⟩ => ⟨S2x16384x1024, .f32⟩
  | .hbm, ⟨21, _⟩ => ⟨S2x16384x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x16384x1024, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S2x16384x2048, .f32⟩
  | .hbm, ⟨30, _⟩ => ⟨S2x16384x8x2x128, .f32⟩
  | .hbm, ⟨31, _⟩ => ⟨S8x2x128x2x16384, .f32⟩
  | .hbm, ⟨32, _⟩ => ⟨S2x8x2x128x16384, .f32⟩
  | .hbm, ⟨33, _⟩ => ⟨S2x1024x16384, .f32⟩
  | .hbm, ⟨34, _⟩ => ⟨S2x1024x16384, .bf16⟩
  | .hbm, ⟨35, _⟩ => ⟨S2x16x128x16384, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel6.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S2x6144x8 : Shape := ⟨3, ![2, 6144, 8]⟩
abbrev S2x8x6144 : Shape := ⟨3, ![2, 8, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S2x6144x8, .f32⟩
  | .hbm, ⟨13, _⟩ => ⟨S2x8x6144, .f32⟩
  | .hbm, ⟨14, _⟩ => ⟨S2x1x6144, .f32⟩
  | .hbm, ⟨15, _⟩ => ⟨S2x8x6144, .f32⟩
  | .hbm, ⟨16, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel7.lean ====
abbrev S2x16384x512 : Shape := ⟨3, ![2, 16384, 512]⟩
abbrev S31x256 : Shape := ⟨2, ![31, 256]⟩
abbrev S256 : Shape := ⟨1, ![256]⟩
abbrev S256x256 : Shape := ⟨2, ![256, 256]⟩
abbrev S_ : Shape := ⟨0, ![]⟩
abbrev S1x256 : Shape := ⟨2, ![1, 256]⟩
abbrev S2x16384x256 : Shape := ⟨3, ![2, 16384, 256]⟩
abbrev S1x1024x512 : Shape := ⟨3, ![1, 1024, 512]⟩
abbrev S1x1024x256 : Shape := ⟨3, ![1, 1024, 256]⟩
abbrev S16x96x256 : Shape := ⟨3, ![16, 96, 256]⟩
abbrev S8x16x88x256 : Shape := ⟨4, ![8, 16, 88, 256]⟩
abbrev S1024x256 : Shape := ⟨2, ![1024, 256]⟩
abbrev S16x16x256 : Shape := ⟨3, ![16, 16, 256]⟩
abbrev S16x64x256 : Shape := ⟨3, ![16, 64, 256]⟩
abbrev S16x88x256 : Shape := ⟨3, ![16, 88, 256]⟩
abbrev S1x16x88x256 : Shape := ⟨4, ![1, 16, 88, 256]⟩
abbrev S1x1x256 : Shape := ⟨3, ![1, 1, 256]⟩
abbrev S1x16x64x256 : Shape := ⟨4, ![1, 16, 64, 256]⟩

abbrev nBuf : Space → Nat
  | .hbm => 24
  | .vmem => 11
  | .smem => 0
  | _ => 0

abbrev bufTy : (tb : Table) → Fin (tcTables nBuf tb) → BufTy
  | .hbm, ⟨0, _⟩ => ⟨S2x16384x512, .bf16⟩
  | .hbm, ⟨1, _⟩ => ⟨S31x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S256x256, .i1⟩
  | .hbm, ⟨14, _⟩ => ⟨S_, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S256x256, .bf16⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S2x16384x256, .f32⟩
  | .local _ .vmem, ⟨0, _⟩ => ⟨S1x1024x512, .bf16⟩
  | .local _ .vmem, ⟨1, _⟩ => ⟨S1x1024x512, .bf16⟩
  | .local _ .vmem, ⟨2, _⟩ => ⟨S31x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S256x256, .bf16⟩
  | .local _ .vmem, ⟨7, _⟩ => ⟨S1x1024x256, .f32⟩
  | .local _ .vmem, ⟨8, _⟩ => ⟨S1x1024x256, .f32⟩
  | .local _ .vmem, ⟨9, _⟩ => ⟨S16x96x256, .f32⟩
  | .local _ .vmem, ⟨10, _⟩ => ⟨S8x16x88x256, .f32⟩
  | _, _ => ⟨S2x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S2x16384x512 : Shape := ⟨3, ![2, 16384, 512]⟩
abbrev S31x256 : Shape := ⟨2, ![31, 256]⟩
abbrev S256 : Shape := ⟨1, ![256]⟩
abbrev S2x16384x256 : Shape := ⟨3, ![2, 16384, 256]⟩
abbrev S_ : Shape := ⟨0, ![]⟩
abbrev S512x64x256 : Shape := ⟨3, ![512, 64, 256]⟩
abbrev S512x94x256 : Shape := ⟨3, ![512, 94, 256]⟩
abbrev S1x256 : Shape := ⟨2, ![1, 256]⟩
abbrev S1x1x256 : Shape := ⟨3, ![1, 1, 256]⟩
abbrev S2x16384x4x64 : Shape := ⟨4, ![2, 16384, 4, 64]⟩
abbrev S2x16384x4 : Shape := ⟨3, ![2, 16384, 4]⟩
abbrev S2x16384x4x1 : Shape := ⟨4, ![2, 16384, 4, 1]⟩

abbrev nBuf : Space → Nat
  | .hbm => 283
  | .vmem => 0
  | .smem => 0
  | _ => 0

abbrev hbmTy0_0 (i : Nat) : BufTy := match i % 128 with
  | 0 => ⟨S2x16384x512, .bf16⟩
  | 1 => ⟨S31x256, .f32⟩
  | 2 => ⟨S256, .f32⟩
  | 3 => ⟨S256, .f32⟩
  | 4 => ⟨S256, .f32⟩
  | 5 => ⟨S2x16384x512, .f32⟩
  | 6 => ⟨S2x16384x256, .f32⟩
  | 7 => ⟨S2x16384x256, .f32⟩
  | 8 => ⟨S2x16384x256, .f32⟩
  | 9 => ⟨S2x16384x256, .f32⟩
  | 10 => ⟨S_, .f32⟩
  | 11 => ⟨S2x16384x256, .f32⟩
  | 12 => ⟨S2x16384x256, .f32⟩
  | 13 => ⟨S_, .f32⟩
  | 14 => ⟨S2x16384x256, .f32⟩
  | 15 => ⟨S2x16384x256, .f32⟩
  | 16 => ⟨S2x16384x256, .f32⟩
  | 17 => ⟨S512x64x256, .f32⟩
  | 18 => ⟨S_, .i32⟩
  | 19 => ⟨S_, .f32⟩
  | 20 => ⟨S512x94x256, .f32⟩
  | 21 => ⟨S1x256, .f32⟩
  | 22 => ⟨S256, .f32⟩
  | 23 => ⟨S512x64x256, .f32⟩
  | 24 => ⟨S1x1x256, .f32⟩
  | 25 => ⟨S512x64x256, .f32⟩
  | 26 => ⟨S512x64x256, .f32⟩
  | 27 => ⟨S_, .f32⟩
  | 28 => ⟨S512x64x256, .f32⟩
  | 29 => ⟨S512x64x256, .f32⟩
  | 30 => ⟨S1x256, .f32⟩
  | 31 => ⟨S256, .f32⟩
  | 32 => ⟨S512x64x256, .f32⟩
  | 33 => ⟨S1x1x256, .f32⟩
  | 34 => ⟨S512x64x256, .f32⟩
  | 35 => ⟨S512x64x256, .f32⟩
  | 36 => ⟨S512x64x256, .f32⟩
  | 37 => ⟨S1x256, .f32⟩
  | 38 => ⟨S256, .f32⟩
  | 39 => ⟨S512x64x256, .f32⟩
  | 40 => ⟨S1x1x256, .f32⟩
  | 41 => ⟨S512x64x256, .f32⟩
  | 42 => ⟨S512x64x256, .f32⟩
  | 43 => ⟨S512x64x256, .f32⟩
  | 44 => ⟨S1x256, .f32⟩
  | 45 => ⟨S256, .f32⟩
  | 46 => ⟨S512x64x256, .f32⟩
  | 47 => ⟨S1x1x256, .f32⟩
  | 48 => ⟨S512x64x256, .f32⟩
  | 49 => ⟨S512x64x256, .f32⟩
  | 50 => ⟨S512x64x256, .f32⟩
  | 51 => ⟨S1x256, .f32⟩
  | 52 => ⟨S256, .f32⟩
  | 53 => ⟨S512x64x256, .f32⟩
  | 54 => ⟨S1x1x256, .f32⟩
  | 55 => ⟨S512x64x256, .f32⟩
  | 56 => ⟨S512x64x256, .f32⟩
  | 57 => ⟨S512x64x256, .f32⟩
  | 58 => ⟨S1x256, .f32⟩
  | 59 => ⟨S256, .f32⟩
  | 60 => ⟨S512x64x256, .f32⟩
  | 61 => ⟨S1x1x256, .f32⟩
  | 62 => ⟨S512x64x256, .f32⟩
  | 63 => ⟨S512x64x256, .f32⟩
  | 64 => ⟨S512x64x256, .f32⟩
  | 65 => ⟨S1x256, .f32⟩
  | 66 => ⟨S256, .f32⟩
  | 67 => ⟨S512x64x256, .f32⟩
  | 68 => ⟨S1x1x256, .f32⟩
  | 69 => ⟨S512x64x256, .f32⟩
  | 70 => ⟨S512x64x256, .f32⟩
  | 71 => ⟨S512x64x256, .f32⟩
  | 72 => ⟨S1x256, .f32⟩
  | 73 => ⟨S256, .f32⟩
  | 74 => ⟨S512x64x256, .f32⟩
  | 75 => ⟨S1x1x256, .f32⟩
  | 76 => ⟨S512x64x256, .f32⟩
  | 77 => ⟨S512x64x256, .f32⟩
  | 78 => ⟨S512x64x256, .f32⟩
  | 79 => ⟨S1x256, .f32⟩
  | 80 => ⟨S256, .f32⟩
  | 81 => ⟨S512x64x256, .f32⟩
  | 82 => ⟨S1x1x256, .f32⟩
  | 83 => ⟨S512x64x256, .f32⟩
  | 84 => ⟨S512x64x256, .f32⟩
  | 85 => ⟨S512x64x256, .f32⟩
  | 86 => ⟨S1x256, .f32⟩
  | 87 => ⟨S256, .f32⟩
  | 88 => ⟨S512x64x256, .f32⟩
  | 89 => ⟨S1x1x256, .f32⟩
  | 90 => ⟨S512x64x256, .f32⟩
  | 91 => ⟨S512x64x256, .f32⟩
  | 92 => ⟨S512x64x256, .f32⟩
  | 93 => ⟨S1x256, .f32⟩
  | 94 => ⟨S256, .f32⟩
  | 95 => ⟨S512x64x256, .f32⟩
  | 96 => ⟨S1x1x256, .f32⟩
  | 97 => ⟨S512x64x256, .f32⟩
  | 98 => ⟨S512x64x256, .f32⟩
  | 99 => ⟨S512x64x256, .f32⟩
  | 100 => ⟨S1x256, .f32⟩
  | 101 => ⟨S256, .f32⟩
  | 102 => ⟨S512x64x256, .f32⟩
  | 103 => ⟨S1x1x256, .f32⟩
  | 104 => ⟨S512x64x256, .f32⟩
  | 105 => ⟨S512x64x256, .f32⟩
  | 106 => ⟨S512x64x256, .f32⟩
  | 107 => ⟨S1x256, .f32⟩
  | 108 => ⟨S256, .f32⟩
  | 109 => ⟨S512x64x256, .f32⟩
  | 110 => ⟨S1x1x256, .f32⟩
  | 111 => ⟨S512x64x256, .f32⟩
  | 112 => ⟨S512x64x256, .f32⟩
  | 113 => ⟨S512x64x256, .f32⟩
  | 114 => ⟨S1x256, .f32⟩
  | 115 => ⟨S256, .f32⟩
  | 116 => ⟨S512x64x256, .f32⟩
  | 117 => ⟨S1x1x256, .f32⟩
  | 118 => ⟨S512x64x256, .f32⟩
  | 119 => ⟨S512x64x256, .f32⟩
  | 120 => ⟨S512x64x256, .f32⟩
  | 121 => ⟨S1x256, .f32⟩
  | 122 => ⟨S256, .f32⟩
  | 123 => ⟨S512x64x256, .f32⟩
  | 124 => ⟨S1x1x256, .f32⟩
  | 125 => ⟨S512x64x256, .f32⟩
  | 126 => ⟨S512x64x256, .f32⟩
  | 127 => ⟨S512x64x256, .f32⟩
  | _ => ⟨S2x16384x512, .bf16⟩

abbrev hbmTy0_1 (i : Nat) : BufTy := match i % 128 with
  | 0 => ⟨S1x256, .f32⟩
  | 1 => ⟨S256, .f32⟩
  | 2 => ⟨S512x64x256, .f32⟩
  | 3 => ⟨S1x1x256, .f32⟩
  | 4 => ⟨S512x64x256, .f32⟩
  | 5 => ⟨S512x64x256, .f32⟩
  | 6 => ⟨S512x64x256, .f32⟩
  | 7 => ⟨S1x256, .f32⟩
  | 8 => ⟨S256, .f32⟩
  | 9 => ⟨S512x64x256, .f32⟩
  | 10 => ⟨S1x1x256, .f32⟩
  | 11 => ⟨S512x64x256, .f32⟩
  | 12 => ⟨S512x64x256, .f32⟩
  | 13 => ⟨S512x64x256, .f32⟩
  | 14 => ⟨S1x256, .f32⟩
  | 15 => ⟨S256, .f32⟩
  | 16 => ⟨S512x64x256, .f32⟩
  | 17 => ⟨S1x1x256, .f32⟩
  | 18 => ⟨S512x64x256, .f32⟩
  | 19 => ⟨S512x64x256, .f32⟩
  | 20 => ⟨S512x64x256, .f32⟩
  | 21 => ⟨S1x256, .f32⟩
  | 22 => ⟨S256, .f32⟩
  | 23 => ⟨S512x64x256, .f32⟩
  | 24 => ⟨S1x1x256, .f32⟩
  | 25 => ⟨S512x64x256, .f32⟩
  | 26 => ⟨S512x64x256, .f32⟩
  | 27 => ⟨S512x64x256, .f32⟩
  | 28 => ⟨S1x256, .f32⟩
  | 29 => ⟨S256, .f32⟩
  | 30 => ⟨S512x64x256, .f32⟩
  | 31 => ⟨S1x1x256, .f32⟩
  | 32 => ⟨S512x64x256, .f32⟩
  | 33 => ⟨S512x64x256, .f32⟩
  | 34 => ⟨S512x64x256, .f32⟩
  | 35 => ⟨S1x256, .f32⟩
  | 36 => ⟨S256, .f32⟩
  | 37 => ⟨S512x64x256, .f32⟩
  | 38 => ⟨S1x1x256, .f32⟩
  | 39 => ⟨S512x64x256, .f32⟩
  | 40 => ⟨S512x64x256, .f32⟩
  | 41 => ⟨S512x64x256, .f32⟩
  | 42 => ⟨S1x256, .f32⟩
  | 43 => ⟨S256, .f32⟩
  | 44 => ⟨S512x64x256, .f32⟩
  | 45 => ⟨S1x1x256, .f32⟩
  | 46 => ⟨S512x64x256, .f32⟩
  | 47 => ⟨S512x64x256, .f32⟩
  | 48 => ⟨S512x64x256, .f32⟩
  | 49 => ⟨S1x256, .f32⟩
  | 50 => ⟨S256, .f32⟩
  | 51 => ⟨S512x64x256, .f32⟩
  | 52 => ⟨S1x1x256, .f32⟩
  | 53 => ⟨S512x64x256, .f32⟩
  | 54 => ⟨S512x64x256, .f32⟩
  | 55 => ⟨S512x64x256, .f32⟩
  | 56 => ⟨S1x256, .f32⟩
  | 57 => ⟨S256, .f32⟩
  | 58 => ⟨S512x64x256, .f32⟩
  | 59 => ⟨S1x1x256, .f32⟩
  | 60 => ⟨S512x64x256, .f32⟩
  | 61 => ⟨S512x64x256, .f32⟩
  | 62 => ⟨S512x64x256, .f32⟩
  | 63 => ⟨S1x256, .f32⟩
  | 64 => ⟨S256, .f32⟩
  | 65 => ⟨S512x64x256, .f32⟩
  | 66 => ⟨S1x1x256, .f32⟩
  | 67 => ⟨S512x64x256, .f32⟩
  | 68 => ⟨S512x64x256, .f32⟩
  | 69 => ⟨S512x64x256, .f32⟩
  | 70 => ⟨S1x256, .f32⟩
  | 71 => ⟨S256, .f32⟩
  | 72 => ⟨S512x64x256, .f32⟩
  | 73 => ⟨S1x1x256, .f32⟩
  | 74 => ⟨S512x64x256, .f32⟩
  | 75 => ⟨S512x64x256, .f32⟩
  | 76 => ⟨S512x64x256, .f32⟩
  | 77 => ⟨S1x256, .f32⟩
  | 78 => ⟨S256, .f32⟩
  | 79 => ⟨S512x64x256, .f32⟩
  | 80 => ⟨S1x1x256, .f32⟩
  | 81 => ⟨S512x64x256, .f32⟩
  | 82 => ⟨S512x64x256, .f32⟩
  | 83 => ⟨S512x64x256, .f32⟩
  | 84 => ⟨S1x256, .f32⟩
  | 85 => ⟨S256, .f32⟩
  | 86 => ⟨S512x64x256, .f32⟩
  | 87 => ⟨S1x1x256, .f32⟩
  | 88 => ⟨S512x64x256, .f32⟩
  | 89 => ⟨S512x64x256, .f32⟩
  | 90 => ⟨S512x64x256, .f32⟩
  | 91 => ⟨S1x256, .f32⟩
  | 92 => ⟨S256, .f32⟩
  | 93 => ⟨S512x64x256, .f32⟩
  | 94 => ⟨S1x1x256, .f32⟩
  | 95 => ⟨S512x64x256, .f32⟩
  | 96 => ⟨S512x64x256, .f32⟩
  | 97 => ⟨S512x64x256, .f32⟩
  | 98 => ⟨S1x256, .f32⟩
  | 99 => ⟨S256, .f32⟩
  | 100 => ⟨S512x64x256, .f32⟩
  | 101 => ⟨S1x1x256, .f32⟩
  | 102 => ⟨S512x64x256, .f32⟩
  | 103 => ⟨S512x64x256, .f32⟩
  | 104 => ⟨S512x64x256, .f32⟩
  | 105 => ⟨S1x256, .f32⟩
  | 106 => ⟨S256, .f32⟩
  | 107 => ⟨S512x64x256, .f32⟩
  | 108 => ⟨S1x1x256, .f32⟩
  | 109 => ⟨S512x64x256, .f32⟩
  | 110 => ⟨S512x64x256, .f32⟩
  | 111 => ⟨S512x64x256, .f32⟩
  | 112 => ⟨S1x1x256, .f32⟩
  | 113 => ⟨S512x64x256, .f32⟩
  | 114 => ⟨S512x64x256, .f32⟩
  | 115 => ⟨S2x16384x4x64, .f32⟩
  | 116 => ⟨S_, .f32⟩
  | 117 => ⟨S2x16384x4, .f32⟩
  | 118 => ⟨S2x16384x4x1, .f32⟩
  | 119 => ⟨S_, .f32⟩
  | 120 => ⟨S2x16384x4x1, .f32⟩
  | 121 => ⟨S2x16384x4x1, .f32⟩
  | 122 => ⟨S2x16384x4x64, .f32⟩
  | 123 => ⟨S2x16384x4x64, .f32⟩
  | 124 => ⟨S2x16384x4x64, .f32⟩
  | 125 => ⟨S_, .f32⟩
  | 126 => ⟨S2x16384x4, .f32⟩
  | 127 => ⟨S2x16384x4x1, .f32⟩
  | _ => ⟨S2x16384x512, .bf16⟩

abbrev hbmTy0_2 (i : Nat) : BufTy := match i % 128 with
  | 0 => ⟨S_, .f32⟩
  | 1 => ⟨S2x16384x4x1, .f32⟩
  | 2 => ⟨S2x16384x4x1, .f32⟩
  | 3 => ⟨S2x16384x4x64, .f32⟩
  | 4 => ⟨S2x16384x4x64, .f32⟩
  | 5 => ⟨S_, .f32⟩
  | 6 => ⟨S2x16384x4x1, .f32⟩
  | 7 => ⟨S2x16384x4x1, .f32⟩
  | 8 => ⟨S2x16384x4x1, .f32⟩
  | 9 => ⟨S2x16384x4x64, .f32⟩
  | 10 => ⟨S2x16384x4x64, .f32⟩
  | 11 => ⟨S2x16384x256, .f32⟩
  | 12 => ⟨S1x1x256, .f32⟩
  | 13 => ⟨S2x16384x256, .f32⟩
  | 14 => ⟨S2x16384x256, .f32⟩
  | 15 => ⟨S1x1x256, .f32⟩
  | 16 => ⟨S2x16384x256, .f32⟩
  | 17 => ⟨S2x16384x256, .f32⟩
  | 18 => ⟨S2x16384x256, .f32⟩
  | 19 => ⟨S2x16384x256, .f32⟩
  | 20 => ⟨S_, .f32⟩
  | 21 => ⟨S2x16384x256, .f32⟩
  | 22 => ⟨S2x16384x256, .f32⟩
  | 23 => ⟨S_, .f32⟩
  | 24 => ⟨S2x16384x256, .f32⟩
  | 25 => ⟨S2x16384x256, .f32⟩
  | 26 => ⟨S2x16384x256, .f32⟩
  | _ => ⟨S2x16384x512, .bf16⟩

abbrev hbmTy (i : Nat) : BufTy := match i / 128 with
  | 0 => hbmTy0_0 i
  | 1 => hbmTy0_1 i
  | 2 => hbmTy0_2 i
  | _ => ⟨S2x16384x512, .bf16⟩

abbrev bufTy : (tb : Table) → Fin (tcTables nBuf tb) → BufTy
  | .hbm, ⟨i, _⟩ => hbmTy i
  | _, _ => ⟨S2x16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_cst_2 : Ref sig .tc := ⟨.hbm, 244, rfl⟩
abbrev main_v234 : Ref sig .tc := ⟨.hbm, 245, rfl⟩
abbrev main_v235 : Ref sig .tc := ⟨.hbm, 246, rfl⟩
abbrev main_cst_3 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_cst_4 : Ref sig .tc := ⟨.hbm, 253, rfl⟩
abbrev main_v241 : Ref sig .tc := ⟨.hbm, 254, rfl⟩
abbrev main_v242 : Ref sig .tc := ⟨.hbm, 255, rfl⟩
abbrev main_cst_5 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_cst_6 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_v258 : Ref sig .tc := ⟨.hbm, 273, rfl⟩
abbrev main_call1_v0 : Ref sig .tc := ⟨.hbm, 274, rfl⟩
abbrev main_call1_v1 : Ref sig .tc := ⟨.hbm, 275, rfl⟩
abbrev main_call1_cst : Ref sig .tc := ⟨.hbm, 276, rfl⟩
abbrev main_call1_v2 : Ref sig .tc := ⟨.hbm, 277, rfl⟩
abbrev main_call1_v3 : Ref sig .tc := ⟨.hbm, 278, rfl⟩
abbrev main_call1_cst_0 : Ref sig .tc := ⟨.hbm, 279, rfl⟩
abbrev main_call1_v4 : Ref sig .tc := ⟨.hbm, 280, rfl⟩
abbrev main_call1_v5 : Ref sig .tc := ⟨.hbm, 281, rfl⟩
abbrev main_v259 : Ref sig .tc := ⟨.hbm, 282, rfl⟩

abbrev nD : Nat := 1
abbrev τ : Topo := Topo.v7x

variable {F : FTy → Type} [FloatOps F]
-- ==== Proof.Model.lean ====
/- What the recurrence over chunks computes, in extended reals: one chunk of one chain. -/
module

public import Idealize.ShloMosaic.PureOps.Ideal.Laws
public import Idealize.ShloMosaic.Lib.Pointwise

@[expose] public section

noncomputable section

open Idealize.ShloMosaic
open scoped BigOperators

namespace Cert.Recur

/-- A 128 by 128 tile of extended reals. -/
abbrev Tile := Fin 128 → Fin 128 → EReal

/-- What one chunk of one chain reads: pseudo-values `u`, decayed keys `w`, queries `q`, scores `a`, tail keys
    (transposed) `t`, and the total log decay `g`. -/
@[ext] structure Chunk where
  /-- pseudo-values -/
  u : Tile
  /-- decayed keys -/
  w : Tile
  /-- decayed queries -/
  q : Tile
  /-- scores inside the chunk -/
  a : Tile
  /-- tail keys, one row per key component -/
  t : Tile
  /-- total log decay of the chunk -/
  g : EReal

/-- The chunk's new values: the pseudo-values less what the state already predicts. -/
def fresh (x : Chunk) (s : Tile) : Tile := fun r c => x.u r c - ∑ k : Fin 128, x.w r k * s k c

/-- The chunk's output: the queries against the state, plus the scores against the new values. -/
def emit (x : Chunk) (s : Tile) : Tile := fun r c =>
  (∑ k : Fin 128, x.q r k * s k c) + ∑ j : Fin 128, x.a r j * fresh x s j c

/-- The state after the chunk: the decayed state plus the tail keys against the new values. -/
def next (x : Chunk) (s : Tile) : Tile := fun r c =>
  s r c * Ideal.exp x.g + ∑ j : Fin 128, x.t r j * fresh x s j c

/-- The state before chunk `n` of a chain whose chunks are `x 0, x 1, …`, from the entry state `s0`. -/
def state (x : ℕ → Chunk) (s0 : Tile) : ℕ → Tile
  | 0 => s0
  | n + 1 => next (x n) (state x s0 n)

/-- All the recurrence reads. The 16 chains are direction, batch entry and head; the rows of the arrays are time steps,
    128 to a chunk, and the columns are 128 lanes to a head. -/
structure Data where
  /-- entry states, by chain -/
  s0 : Fin 16 → Tile
  /-- pseudo-values -/
  u : Fin 2 → Fin 2 → Fin 16384 → Fin 512 → EReal
  /-- decayed keys -/
  w : Fin 2 → Fin 2 → Fin 16384 → Fin 512 → EReal
  /-- decayed queries -/
  q : Fin 2 → Fin 2 → Fin 16384 → Fin 512 → EReal
  /-- scores -/
  a : Fin 2 → Fin 2 → Fin 16384 → Fin 512 → EReal
  /-- tail keys, transposed -/
  t : Fin 2 → Fin 2 → Fin 512 → Fin 16384 → EReal
  /-- log decays, by time step and packed column -/
  g : Fin 2 → Fin 16384 → Fin 128 → EReal

/-- The recurrence's data, from the arrays the programs are given. -/
def dataOf (s0 : Vec Ideal (⟨3, ![16, 128, 128]⟩ : Shape) .f32) (u : Vec Ideal (⟨4, ![2, 2, 16384, 512]⟩ : Shape) .f32)
    (w q a : Vec Ideal (⟨4, ![2, 2, 16384, 512]⟩ : Shape) .bf16) (t : Vec Ideal (⟨4, ![2, 2, 512, 16384]⟩ : Shape) .bf16)
    (g : Vec Ideal (⟨3, ![2, 16384, 128]⟩ : Shape) .f32) : Data where
  s0 n r c := s0 (ix3 n r c)
  u d b y z := u (ix4 d b y z)
  w d b y z := w (ix4 d b y z)
  q d b y z := q (ix4 d b y z)
  a d b y z := a (ix4 d b y z)
  t d b y z := t (ix4 d b y z)
  g b y z := g (ix3 b y z)

/-- Which chunk of the sequence direction `d` meets `n`-th. -/
def place (d : Fin 2) (n : ℕ) : ℕ := if d = 0 then n else 127 - n

/-- Row `r` of chunk `p` of the sequence. -/
def row (p : ℕ) (r : Fin 128) : Fin 16384 := ⟨(p * 128 + r.val) % 16384, Nat.mod_lt _ (by decide)⟩

/-- Lane `c` of head `h`. -/
def col (h : Fin 4) (c : Fin 128) : Fin 512 := ⟨h.val * 128 + c.val, by omega⟩

/-- The `n`-th chunk met by the chain of direction `d`, batch entry `b`, head `h`. -/
def Data.chunk (D : Data) (d b : Fin 2) (h : Fin 4) (n : ℕ) : Chunk where
  u r c := D.u d b (row (place d n) r) (col h c)
  w r c := D.w d b (row (place d n) r) (col h c)
  q r c := D.q d b (row (place d n) r) (col h c)
  a r c := D.a d b (row (place d n) r) (col h c)
  t r c := D.t d b (col h r) (row (place d n) c)
  g := D.g b (row (place d n) 0) ⟨16 + 4 * d.val + h.val, by omega⟩

/-- That chain's state before its `n`-th chunk. -/
def Data.before (D : Data) (d b : Fin 2) (h : Fin 4) (n : ℕ) : Tile :=
  state (D.chunk d b h) (D.s0 ⟨8 * d.val + 4 * b.val + h.val, by omega⟩) n

/-- The output of direction `d` at batch entry `b`, time step `y`, column `z`. -/
def Data.out (D : Data) (d b : Fin 2) (y : Fin 16384) (z : Fin 512) : EReal :=
  emit (D.chunk d b ⟨z.val / 128, by omega⟩ (place d (y.val / 128))) (D.before d b ⟨z.val / 128, by omega⟩ (place d (y.val / 128)))
    ⟨y.val % 128, by omega⟩ ⟨z.val % 128, by omega⟩

end Cert.Recur

end
-- ==== Proof.Tile.lean ====
/- The kernel's arithmetic on one chunk of one chain, as vectors and read at an index. -/
module

public import proofs.«01_k».proof.Proof.Model
public import proofs.«01_k».proof.Proof.Gen.KernelIdeal.Skeleton
public import Idealize.ShloMosaic.Lib.Pointwise

@[expose] public section

noncomputable section

open Idealize.ShloMosaic

namespace Cert.KernelIdeal.Tile

open Cert.KernelIdeal Cert.KernelIdeal.Gen Cert.Recur

variable {F : FTy → Type} [FloatOps F]

/-- The loaded state tile, narrowed. -/
def sTile (s : Vec F S1x128x128 .f32) : FVec F S128x128 .bf16 :=
  truncf .bf16 (shapeCast S128x128 s shapeCasts_S1x128x128_S128x128) bitsLt_bf16_f32

/-- The new values, narrowed. -/
def vTile (s : Vec F S1x128x128 .f32) (u : Vec F S1x1x128x128 .f32) (w : Vec F S1x1x128x128 .bf16) : FVec F S128x128 .bf16 :=
  truncf .bf16 (subf (shapeCast S128x128 u shapeCasts_S1x1x128x128_S128x128)
    (matmul dot_S128x128_S128x128_S128x128_1_0_0_1_n_n none (shapeCast S128x128 w shapeCasts_S1x1x128x128_S128x128) (sTile s)
      (constant S128x128 .f32 0x00000000#32))) bitsLt_bf16_f32

/-- The stored output tile. -/
def oTile (s : Vec F S1x128x128 .f32) (u : Vec F S1x1x128x128 .f32) (w q a : Vec F S1x1x128x128 .bf16) : FVec F S1x128x128 .bf16 :=
  shapeCast S1x128x128 (truncf .bf16 (addf
    (matmul dot_S128x128_S128x128_S128x128_1_0_0_1_n_n none (shapeCast S128x128 q shapeCasts_S1x1x128x128_S128x128) (sTile s)
      (constant S128x128 .f32 0x00000000#32))
    (matmul dot_S128x128_S128x128_S128x128_1_0_0_1_n_n none (shapeCast S128x128 a shapeCasts_S1x1x128x128_S128x128) (vTile s u w)
      (constant S128x128 .f32 0x00000000#32))) bitsLt_bf16_f32) shapeCasts_S128x128_S1x128x128

/-- The stored state tile. -/
def nTile (s : Vec F S1x128x128 .f32) (u : Vec F S1x1x128x128 .f32) (w t : Vec F S1x1x128x128 .bf16) (g : Vec F S1x1x1 .f32) :
    FVec F S1x128x128 .f32 :=
  shapeCast S1x128x128 (addf
    (mulf (shapeCast S128x128 s shapeCasts_S1x128x128_S128x128)
      (broadcastTo S128x128 (exp (shapeCast S1x1 g shapeCasts_S1x1x1_S1x1)) broadcasts_S1x1_S128x128))
    (matmul dot_S128x128_S128x128_S128x128_1_0_0_1_n_n none (shapeCast S128x128 t shapeCasts_S1x1x128x128_S128x128) (vTile s u w)
      (constant S128x128 .f32 0x00000000#32))) shapeCasts_S128x128_S1x128x128

/-- The chunk that loaded tiles hold. -/
def chunkOf (u : Vec Ideal S1x1x128x128 .f32) (w q a t : Vec Ideal S1x1x128x128 .bf16) (g : Vec Ideal S1x1x1 .f32) : Chunk where
  u r c := u (ix4 0 0 r c)
  w r c := w (ix4 0 0 r c)
  q r c := q (ix4 0 0 r c)
  a r c := a (ix4 0 0 r c)
  t r c := t (ix4 0 0 r c)
  g := g (ix3 0 0 0)

/-- The stored output tile, at an index: the chunk's output from the loaded state. -/
theorem oTile_apply (s : Vec Ideal S1x128x128 .f32) (u : Vec Ideal S1x1x128x128 .f32) (w q a t : Vec Ideal S1x1x128x128 .bf16)
    (g : Vec Ideal S1x1x1 .f32) (r c : Fin 128) :
    oTile s u w q a (ix3 0 r c) = emit (chunkOf u w q a t g) (fun i j => s (ix3 0 i j)) r c := by
  pointwise [oTile, vTile, sTile, emit, fresh, chunkOf]

/-- The stored state tile, at an index: the chunk's next state from the loaded one. -/
theorem nTile_apply (s : Vec Ideal S1x128x128 .f32) (u : Vec Ideal S1x1x128x128 .f32) (w q a t : Vec Ideal S1x1x128x128 .bf16)
    (g : Vec Ideal S1x1x1 .f32) (r c : Fin 128) :
    nTile s u w t g (ix3 0 r c) = next (chunkOf u w q a t g) (fun i j => s (ix3 0 i j)) r c := by
  pointwise [nTile, vTile, sTile, next, fresh, chunkOf]

end Cert.KernelIdeal.Tile

end
-- ==== Proof.Pieces.lean ====
/- What one grid point stores, as families of tiles over the chains and the two chunks of the point's blocks. -/
module

public import proofs.«01_k».proof.Proof.Tile
public import proofs.«01_k».proof.Proof.Gen.KernelIdeal.Frame.Runs
public import Idealize.ShloMosaic.Lib.Pipeline.FrameBody
public import Idealize.ShloMosaic.Lib.Pipeline.CanonAppend

@[expose] public section

noncomputable section

open Idealize.ShloMosaic

namespace Cert.KernelIdeal.Tile

open Cert.KernelIdeal Cert.KernelIdeal.Gen Cert.Recur

variable {F : FTy → Type} [FloatOps F]

/-- One direction's blocks at a grid point. -/
structure Blocks (F : FTy → Type) where
  /-- pseudo-values -/
  u : Vec F S1x2x256x512 .f32
  /-- decayed keys -/
  w : Vec F S1x2x256x512 .bf16
  /-- decayed queries -/
  q : Vec F S1x2x256x512 .bf16
  /-- scores -/
  a : Vec F S1x2x256x512 .bf16
  /-- tail keys, transposed -/
  t : Vec F S1x2x512x256 .bf16
  /-- log decays -/
  g : Vec F S2x256x128 .f32

/-- A head's tile of one batch entry, at sub-chunk `j`, lies in a block of rows. -/
theorem inb_rows (b j : Fin 2) (h : Fin 4) :
    ∀ i, (![0, b.val, j.val * 128, h.val * 128] : Fin 4 → ℕ) i + S1x1x128x128.size i ≤ S1x2x256x512.size i := by
  revert b j h; decide

/-- The same in the transposed block. -/
theorem inb_cols (b j : Fin 2) (h : Fin 4) :
    ∀ i, (![0, b.val, h.val * 128, j.val * 128] : Fin 4 → ℕ) i + S1x1x128x128.size i ≤ S1x2x512x256.size i := by
  revert b j h; decide

/-- A chain's log decay, at the first row of sub-chunk `j`, lies in the block of log decays. -/
theorem inb_decay (d b j : Fin 2) (h : Fin 4) :
    ∀ i, (![b.val, j.val * 128, 16 + 4 * d.val + h.val] : Fin 3 → ℕ) i + S1x1x1.size i ≤ S2x256x128.size i := by
  revert d b j h; decide

/-- A chain's state lies in the stack of states. -/
theorem inb_state (n : Fin 16) :
    ∀ i, (![n.val, 0, 0] : Fin 3 → ℕ) i + S1x128x128.size i ≤ S16x128x128.size i := by
  revert n; decide

/-- A head's tile of one batch entry, at sub-chunk `j`, lies in an output block. -/
theorem inb_out (b j : Fin 2) (h : Fin 4) :
    ∀ i, (![b.val, j.val * 128, h.val * 128] : Fin 3 → ℕ) i + S1x128x128.size i ≤ S2x256x512.size i := by
  revert b j h; decide

/-- The tile of head `h`, batch entry `b`, sub-chunk `j` of a block of rows. -/
def ldRows {e : EltTy} (x : Vec F S1x2x256x512 e) (b j : Fin 2) (h : Fin 4) : Vec F S1x1x128x128 e :=
  View.ld (Val := Elt F) x (Rect.unit (s := S1x2x256x512) ![0, b.val, j.val * 128, h.val * 128] S1x1x128x128.size (inb_rows b j h))

/-- The tile of head `h`, batch entry `b`, sub-chunk `j` of a transposed block. -/
def ldCols {e : EltTy} (x : Vec F S1x2x512x256 e) (b j : Fin 2) (h : Fin 4) : Vec F S1x1x128x128 e :=
  View.ld (Val := Elt F) x (Rect.unit (s := S1x2x512x256) ![0, b.val, h.val * 128, j.val * 128] S1x1x128x128.size (inb_cols b j h))

/-- The log decay of head `h` of direction `d`, batch entry `b`, sub-chunk `j`. -/
def ldDecay (x : Vec F S2x256x128 .f32) (d b j : Fin 2) (h : Fin 4) : Vec F S1x1x1 .f32 :=
  View.ld (Val := Elt F) x (Rect.unit (s := S2x256x128) ![b.val, j.val * 128, 16 + 4 * d.val + h.val] S1x1x1.size (inb_decay d b j h))

/-- Chain `n`'s state. -/
def ldState (x : Vec F S16x128x128 .f32) (n : Fin 16) : Vec F S1x128x128 .f32 :=
  View.ld (Val := Elt F) x (Rect.unit (s := S16x128x128) ![n.val, 0, 0] S1x128x128.size (inb_state n))

/-- The sub-chunk that direction `d` meets at step `j`: backwards meets the last first. -/
def sub (d j : Fin 2) : Fin 2 := if d = 0 then j else 1 - j

/-- Chain `n`'s direction. -/
def dir (n : Fin 16) : Fin 2 := ⟨n.val / 8, by omega⟩
/-- Chain `n`'s batch entry. -/
def bat (n : Fin 16) : Fin 2 := ⟨n.val / 4 % 2, by omega⟩
/-- Chain `n`'s head. -/
def head (n : Fin 16) : Fin 4 := ⟨n.val % 4, by omega⟩

/-- Chain `n`'s state after step `j` from its state `s` before it. -/
def stepTile (X : Fin 2 → Blocks F) (n : Fin 16) (j : Fin 2) (s : Vec F S1x128x128 .f32) : Vec F S1x128x128 .f32 :=
  nTile s (ldRows (X (dir n)).u (bat n) (sub (dir n) j) (head n)) (ldRows (X (dir n)).w (bat n) (sub (dir n) j) (head n))
    (ldCols (X (dir n)).t (bat n) (sub (dir n) j) (head n)) (ldDecay (X (dir n)).g (dir n) (bat n) (sub (dir n) j) (head n))

/-- Chain `n`'s output at step `j` from its state `s` before it. -/
def outTile (X : Fin 2 → Blocks F) (n : Fin 16) (j : Fin 2) (s : Vec F S1x128x128 .f32) : Vec F S1x128x128 .bf16 :=
  oTile s (ldRows (X (dir n)).u (bat n) (sub (dir n) j) (head n)) (ldRows (X (dir n)).w (bat n) (sub (dir n) j) (head n))
    (ldRows (X (dir n)).q (bat n) (sub (dir n) j) (head n)) (ldRows (X (dir n)).a (bat n) (sub (dir n) j) (head n))

/-- Chain `n`'s state before step `j` of a point, from the states `s` before the point. -/
def atStep (X : Fin 2 → Blocks F) (s : Vec F S16x128x128 .f32) (n : Fin 16) (j : Fin 2) : Vec F S1x128x128 .f32 :=
  if j = 0 then ldState s n else stepTile X n 0 (ldState s n)

/-- The states a point stores last: every chain's after its second chunk. -/
def statePiece (X : Fin 2 → Blocks F) (s : Vec F S16x128x128 .f32) (n : Fin 16) : View.Piece (Elt F) S16x128x128 .f32 :=
  ⟨Rect.unit (s := S16x128x128) ![n.val, 0, 0] S1x128x128.size (inb_state n), stepTile X n 1 (atStep X s n 1)⟩

/-- Chain of direction `d`, counted within the direction. -/
def chain (d : Fin 2) (k : Fin 8) : Fin 16 := ⟨8 * d.val + k.val, by omega⟩

/-- The output tile of direction `d`, step `j`, chain `k` of the direction. -/
def outPiece (X : Fin 2 → Blocks F) (s : Vec F S16x128x128 .f32) (d j : Fin 2) (k : Fin 8) : View.Piece (Elt F) S2x256x512 .bf16 :=
  ⟨Rect.unit (s := S2x256x512) ![(bat (chain d k)).val, (sub d j).val * 128, (head (chain d k)).val * 128] S1x128x128.size
      (inb_out (bat (chain d k)) (sub d j) (head (chain d k))),
    outTile X (chain d k) j (atStep X s (chain d k) j)⟩

/-- The step of the `k`-th newest output tile. -/
def late (k : Fin 16) : Fin 2 := ⟨1 - k.val / 8, by omega⟩
/-- The chain, within its direction, of the `k`-th newest output tile. -/
def back (k : Fin 16) : Fin 8 := ⟨7 - k.val % 8, by omega⟩

/-- A read of one chain's state passes over a store to another chain's. -/
theorem readCov_other {sig : RefSig} {κ : Kind} {sp : Space} (v : View sig κ sp S16x128x128 .f32) (n n' : ℕ)
    (inb : ∀ i, (![n, 0, 0] : Fin 3 → ℕ) i + (![1, 128, 128] : Fin 3 → ℕ) i ≤ S16x128x128.size i)
    (inb' : ∀ i, (![n', 0, 0] : Fin 3 → ℕ) i + (![1, 128, 128] : Fin 3 → ℕ) i ≤ S16x128x128.size i)
    (w : S1x128x128.Idx → Elt F .f32) (L : List (View.Piece (Elt F) S16x128x128 .f32)) (hn : n' ≠ n) :
    v.readCov (⟨Rect.unit (s := S16x128x128) ![n', 0, 0] ![1, 128, 128] inb', w⟩ :: L)
        (Rect.unit (s := S16x128x128) ![n, 0, 0] ![1, 128, 128] inb).toLoadRect
      = v.readCov L (Rect.unit (s := S16x128x128) ![n, 0, 0] ![1, 128, 128] inb).toLoadRect := by
  refine View.readCov_cons_of_disjoint v _ L _ ?_
  rw [Finset.disjoint_left]
  intro y h1 h2
  have a := Rect.mem_set_unit (s := S16x128x128) (inb := inb') |>.mp h1
  have b := Rect.mem_set_unit (s := S16x128x128) (inb := inb) |>.mp h2
  have a1 : n' ≤ (y 0).val := (a 0).1
  have a2 : (y 0).val < n' + 1 := (a 0).2
  have b1 : n ≤ (y 0).val := (b 0).1
  have b2 : (y 0).val < n + 1 := (b 0).2
  omega

/-- A read of a chain's state just after its store is the stored tile. -/
theorem readCov_same {sig : RefSig} {κ : Kind} {sp : Space} (v : View sig κ sp S16x128x128 .f32) (n : ℕ)
    (inb inb' : ∀ i, (![n, 0, 0] : Fin 3 → ℕ) i + (![1, 128, 128] : Fin 3 → ℕ) i ≤ S16x128x128.size i)
    (w : S1x128x128.Idx → Elt F .f32) (L : List (View.Piece (Elt F) S16x128x128 .f32)) :
    v.readCov (⟨Rect.unit (s := S16x128x128) ![n, 0, 0] ![1, 128, 128] inb', w⟩ :: L)
        (Rect.unit (s := S16x128x128) ![n, 0, 0] ![1, 128, 128] inb).toLoadRect = w :=
  View.readCov_cons_toLoadRect v (Rect.unit (s := S16x128x128) ![n, 0, 0] ![1, 128, 128] inb') w L

/-- A read of a chain's state after the entry states were stored whole is that chain's entry state. -/
theorem readCov_entry {sig : RefSig} {κ : Kind} {sp : Space} (v : View sig κ sp S16x128x128 .f32) (n : ℕ)
    (inb : ∀ i, (![n, 0, 0] : Fin 3 → ℕ) i + (![1, 128, 128] : Fin 3 → ℕ) i ≤ S16x128x128.size i)
    (inb' : ∀ i, (![0, 0, 0] : Fin 3 → ℕ) i + (![16, 128, 128] : Fin 3 → ℕ) i ≤ S16x128x128.size i)
    (w : S16x128x128.Idx → Elt F .f32) :
    v.readCov [(⟨Rect.unit (s := S16x128x128) ![0, 0, 0] ![16, 128, 128] inb', w⟩ : View.Piece (Elt F) S16x128x128 .f32)]
        (Rect.unit (s := S16x128x128) ![n, 0, 0] ![1, 128, 128] inb).toLoadRect
      = View.ld w (Rect.unit (s := S16x128x128) ![n, 0, 0] ![1, 128, 128] inb) := by
  have h : View.canon [(⟨Rect.unit (s := S16x128x128) ![0, 0, 0] ![16, 128, 128] inb', w⟩ : View.Piece (Elt F) S16x128x128 .f32)] = w :=
    View.canon_unit_zero (S := S16x128x128) (by funext i; fin_cases i <;> rfl) inb' w
  rw [View.readCov_eq_canon', h]

/-- A load of the whole stack of states. -/
theorem ld_stack (inb : ∀ i, (![0, 0, 0] : Fin 3 → ℕ) i + (![16, 128, 128] : Fin 3 → ℕ) i ≤ S16x128x128.size i)
    (x : Vec F S16x128x128 .f32) : View.ld (Val := Elt F) x (Rect.unit (s := S16x128x128) ![0, 0, 0] ![16, 128, 128] inb) = x :=
  View.ld_unit_zero (S := S16x128x128) (by funext i; fin_cases i <;> rfl) inb x

/-- The entry states are stored as they are. -/
theorem pay_entry (x : Vec F S16x128x128 .f32) : k0_pay2 x = x := shapeCast_self x _

end Cert.KernelIdeal.Tile

end
-- ==== Proof.Point.lean ====
/- One grid point in extended reals: two chunks of each of the sixteen chains. -/
module

public import proofs.«01_k».proof.Proof.Pieces
public import Idealize.ShloMosaic.Lib.Pipeline.ValueKit.Tiles

@[expose] public section

noncomputable section

open Idealize.ShloMosaic

namespace Cert.KernelIdeal.Tile

open Cert.KernelIdeal Cert.KernelIdeal.Gen Cert.Recur

/-- Row `r` of the block that direction `d` reads at point `t`. -/
def lane (d : Fin 2) (t : Fin 64) (r : Fin 256) : Fin 16384 :=
  ⟨(if d = 0 then t.val else 63 - t.val) * 256 + r.val, by split <;> omega⟩

/-- The blocks of a grid point hold that point's rows of the data. -/
structure Holds (D : Data) (t : Fin 64) (X : Fin 2 → Blocks Ideal) : Prop where
  /-- pseudo-values -/
  u : ∀ d b r c, (X d).u (ix4 0 b r c) = D.u d b (lane d t r) c
  /-- decayed keys -/
  w : ∀ d b r c, (X d).w (ix4 0 b r c) = D.w d b (lane d t r) c
  /-- decayed queries -/
  q : ∀ d b r c, (X d).q (ix4 0 b r c) = D.q d b (lane d t r) c
  /-- scores -/
  a : ∀ d b r c, (X d).a (ix4 0 b r c) = D.a d b (lane d t r) c
  /-- log decays -/
  g : ∀ d b r c, (X d).g (ix3 b r c) = D.g b (lane d t r) c
  /-- tail keys -/
  t : ∀ d b r c, (X d).t (ix4 0 b r c) = D.t d b r (lane d t c)

/-- A row of sub-chunk `j` of a block. -/
def half (j : Fin 2) (r : Fin 128) : Fin 256 := ⟨j.val * 128 + r.val, by omega⟩

/-- A loaded tile of rows, at an index. -/
theorem ldRows_apply {e : EltTy} (x : Vec Ideal S1x2x256x512 e) (b j : Fin 2) (h : Fin 4) (r c : Fin 128) :
    ldRows x b j h (ix4 0 0 r c) = x (ix4 0 b (half j r) (col h c)) :=
  View.ld_unit_apply_of x _ _ _ _ _ (by intro a; fin_cases a <;> rfl)

/-- A loaded transposed tile, at an index. -/
theorem ldCols_apply {e : EltTy} (x : Vec Ideal S1x2x512x256 e) (b j : Fin 2) (h : Fin 4) (r c : Fin 128) :
    ldCols x b j h (ix4 0 0 r c) = x (ix4 0 b (col h r) (half j c)) :=
  View.ld_unit_apply_of x _ _ _ _ _ (by intro a; fin_cases a <;> rfl)

/-- A loaded log decay. -/
theorem ldDecay_apply (x : Vec Ideal S2x256x128 .f32) (d b j : Fin 2) (h : Fin 4) :
    ldDecay x d b j h (ix3 0 0 0) = x (ix3 b (half j 0) ⟨16 + 4 * d.val + h.val, by omega⟩) :=
  View.ld_unit_apply_of x _ _ _ _ _ (by intro a; fin_cases a <;> rfl)

/-- A loaded state, at an index. -/
theorem ldState_apply (x : Vec Ideal S16x128x128 .f32) (n : Fin 16) (r c : Fin 128) :
    ldState x n (ix3 0 r c) = x (ix3 n r c) :=
  View.ld_unit_apply_of x _ _ _ _ _ (by intro a; fin_cases a <;> simp)

/-- Sub-chunk `j` in a direction's own order, of its block at point `t`, is its chunk number `2 t + j`. -/
theorem lane_half (d : Fin 2) (t : Fin 64) (j : Fin 2) (r : Fin 128) :
    lane d t (half (sub d j) r) = row (place d (2 * t.val + j.val)) r := by
  apply Fin.ext
  unfold lane half sub row place
  dsimp only
  fin_cases d <;> fin_cases j <;> simp <;> omega

/-- The tiles that a point loads for sub-chunk `j` are chunk `2 t + j` of the chain. -/
theorem chunk_eq {D : Data} {t : Fin 64} {X : Fin 2 → Blocks Ideal} (H : Holds D t X) (d b j : Fin 2) (h : Fin 4) :
    chunkOf (ldRows (X d).u b (sub d j) h) (ldRows (X d).w b (sub d j) h) (ldRows (X d).q b (sub d j) h)
      (ldRows (X d).a b (sub d j) h) (ldCols (X d).t b (sub d j) h) (ldDecay (X d).g d b (sub d j) h)
    = D.chunk d b h (2 * t.val + j.val) := by
  unfold chunkOf Data.chunk
  simp only [ldRows_apply, ldCols_apply, ldDecay_apply, H.u, H.w, H.q, H.a, H.t, H.g, lane_half]

/-- A step of chain `n` at point `t`. -/
theorem stepTile_apply {D : Data} {t : Fin 64} {X : Fin 2 → Blocks Ideal} (H : Holds D t X) (n : Fin 16) (j : Fin 2)
    (s : Vec Ideal S1x128x128 .f32) (r c : Fin 128) :
    stepTile X n j s (ix3 0 r c) = next (D.chunk (dir n) (bat n) (head n) (2 * t.val + j.val)) (fun i k => s (ix3 0 i k)) r c := by
  unfold stepTile
  rw [nTile_apply _ _ _ (ldRows (X (dir n)).q (bat n) (sub (dir n) j) (head n)) (ldRows (X (dir n)).a (bat n) (sub (dir n) j) (head n)),
    chunk_eq H]

/-- The output of chain `n` at a step of point `t`. -/
theorem outTile_apply {D : Data} {t : Fin 64} {X : Fin 2 → Blocks Ideal} (H : Holds D t X) (n : Fin 16) (j : Fin 2)
    (s : Vec Ideal S1x128x128 .f32) (r c : Fin 128) :
    outTile X n j s (ix3 0 r c) = emit (D.chunk (dir n) (bat n) (head n) (2 * t.val + j.val)) (fun i k => s (ix3 0 i k)) r c := by
  unfold outTile
  rw [oTile_apply _ _ _ _ _ (ldCols (X (dir n)).t (bat n) (sub (dir n) j) (head n))
    (ldDecay (X (dir n)).g (dir n) (bat n) (sub (dir n) j) (head n)), chunk_eq H]

/-- The stack of states before chunk `k` of every chain. -/
def StatesAt (D : Data) (k : ℕ) (s : Vec Ideal S16x128x128 .f32) : Prop :=
  ∀ n r c, s (ix3 n r c) = D.before (dir n) (bat n) (head n) k r c

/-- The state before each step of a point, given the states before the point. -/
theorem atStep_apply {D : Data} {t : Fin 64} {X : Fin 2 → Blocks Ideal} (H : Holds D t X) {s : Vec Ideal S16x128x128 .f32}
    (hs : StatesAt D (2 * t.val) s) (n : Fin 16) (j : Fin 2) (r c : Fin 128) :
    atStep X s n j (ix3 0 r c) = D.before (dir n) (bat n) (head n) (2 * t.val + j.val) r c := by
  fin_cases j
  · exact (ldState_apply s n r c).trans (hs n r c)
  · refine (stepTile_apply H n 0 _ r c).trans ?_
    rw [show (fun i k => ldState s n (ix3 0 i k)) = D.before (dir n) (bat n) (head n) (2 * t.val) from
      funext fun i => funext fun k => (ldState_apply s n i k).trans (hs n i k)]
    rfl

/-- An index of a one-deep tile. -/
theorem tile_idx (x : (⟨3, ![1, 128, 128]⟩ : Shape).Idx) : x = ix3 (n0 := 1) (n1 := 128) (n2 := 128) 0 (x 1) (x 2) := by
  funext a
  fin_cases a
  · exact Fin.ext (by have := (x 0).isLt; show (x 0).val = 0; change (x 0).val < 1 at this; omega)
  · rfl
  · rfl

/-- What a point leaves in the stack of states, from the states before it: the states two chunks later. -/
theorem states_after {D : Data} {t : Fin 64} {X : Fin 2 → Blocks Ideal} (H : Holds D t X) {s : Vec Ideal S16x128x128 .f32}
    (hs : StatesAt D (2 * t.val) s) (L' : List (View.Piece (Elt Ideal) S16x128x128 .f32)) :
    StatesAt D (2 * (t.val + 1)) (View.canon (List.ofFn (fun k : Fin 16 => statePiece X s k.rev) ++ L')) := by
  intro n r c
  refine View.canon_append_of_pieces (fun y : S16x128x128.Idx => D.before (dir (y 0)) (bat (y 0)) (head (y 0)) (2 * (t.val + 1)) (y 1) (y 2))
    L' _ ?_ (ix3 n r c) ⟨statePiece X s n, ?_, ?_⟩
  · intro p hp x
    obtain ⟨k, rfl⟩ := (List.mem_ofFn' _ _).mp hp
    have e0 : ((statePiece X s k.rev).1.emb x) 0 = k.rev := Fin.ext (by
      show k.rev.val + 1 * (x 0).val = _
      have := (x 0).isLt; change (x 0).val < 1 at this; omega)
    have e1 : ((statePiece X s k.rev).1.emb x) 1 = (x 1 : Fin 128) := Fin.ext (by show 0 + 1 * (x 1).val = _; omega)
    have e2 : ((statePiece X s k.rev).1.emb x) 2 = (x 2 : Fin 128) := Fin.ext (by show 0 + 1 * (x 2).val = _; omega)
    dsimp only
    rw [e0, e1, e2]
    refine (congrArg _ (tile_idx x)).trans ((stepTile_apply H k.rev 1 _ (x 1) (x 2)).trans ?_)
    rw [show (fun i j => atStep X s k.rev 1 (ix3 0 i j)) = _ from funext fun i => funext fun j => atStep_apply H hs k.rev 1 i j]
    rfl
  · exact (List.mem_ofFn' _ _).mpr ⟨n.rev, congrArg (statePiece X s) (Fin.rev_rev n)⟩
  · rw [show (statePiece X s n).1 = Rect.unit (s := S16x128x128) ![n.val, 0, 0] S1x128x128.size (inb_state n) from rfl, Rect.mem_set_unit]
    intro a
    fin_cases a
    · exact ⟨le_refl n.val, Nat.lt_succ_self n.val⟩
    · exact ⟨Nat.zero_le _, by show r.val < 0 + 128; omega⟩
    · exact ⟨Nat.zero_le _, by show c.val < 0 + 128; omega⟩

/-- The output of one direction at a row of sub-chunk `j` of its block at point `t`. -/
theorem out_half (D : Data) (d b j : Fin 2) (h : Fin 4) (t : Fin 64) (r c : Fin 128) :
    D.out d b (lane d t (half (sub d j) r)) (col h c)
      = emit (D.chunk d b h (2 * t.val + j.val)) (D.before d b h (2 * t.val + j.val)) r c := by
  rw [lane_half]
  have hp : place d (2 * t.val + j.val) ≤ 127 := by unfold place; split <;> omega
  have e0 : (row (place d (2 * t.val + j.val)) r).val = place d (2 * t.val + j.val) * 128 + r.val := Nat.mod_eq_of_lt (by omega)
  have e1 : place d ((row (place d (2 * t.val + j.val)) r).val / 128) = 2 * t.val + j.val := by
    rw [e0, show (place d (2 * t.val + j.val) * 128 + r.val) / 128 = place d (2 * t.val + j.val) by omega]
    unfold place; split <;> omega
  have e2 : (⟨(row (place d (2 * t.val + j.val)) r).val % 128, by omega⟩ : Fin 128) = r := Fin.ext (by dsimp only; omega)
  have e3 : (⟨(col h c).val / 128, by omega⟩ : Fin 4) = h := Fin.ext (by unfold col; dsimp only; omega)
  have e4 : (⟨(col h c).val % 128, by omega⟩ : Fin 128) = c := Fin.ext (by unfold col; dsimp only; omega)
  unfold Data.out
  rw [e1, e2, e3, e4]

/-- A chain's direction, from its count within the direction. -/
theorem dir_chain (d : Fin 2) (k : Fin 8) : dir (chain d k) = d := by revert d k; decide

/-- Every batch entry, half block and head is met by one of the sixteen output tiles. -/
theorem tile_of (d b j : Fin 2) (h : Fin 4) :
    ∃ k : Fin 16, bat (chain d (back k)) = b ∧ sub d (late k) = j ∧ head (chain d (back k)) = h := by
  revert d b j h; decide

/-- What a point leaves in direction `d`'s output block: that block of the direction's output. -/
theorem outs_after {D : Data} {t : Fin 64} {X : Fin 2 → Blocks Ideal} (H : Holds D t X) {s : Vec Ideal S16x128x128 .f32}
    (hs : StatesAt D (2 * t.val) s) (d : Fin 2) (b : Fin 2) (r : Fin 256) (c : Fin 512) :
    View.canon (List.ofFn (fun k : Fin 16 => outPiece X s d (late k) (back k))) (ix3 b r c) = D.out d b (lane d t r) c := by
  refine View.canon_apply_of_pieces (Val := Elt Ideal) (S := S2x256x512) (e := .bf16) (fun y => D.out d (y 0) (lane d t (y 1)) (y 2)) _ ?_ (ix3 b r c) ?_
  · intro p hp x
    obtain ⟨k, rfl⟩ := (List.mem_ofFn' _ _).mp hp
    have e0 : ((outPiece X s d (late k) (back k)).1.emb x) 0 = bat (chain d (back k)) := Fin.ext (by
      show (bat (chain d (back k))).val + 1 * (x 0).val = _
      have := (x 0).isLt; change (x 0).val < 1 at this; omega)
    have e1 : ((outPiece X s d (late k) (back k)).1.emb x) 1 = half (sub d (late k)) (x 1 : Fin 128) := Fin.ext (by
      show (sub d (late k)).val * 128 + 1 * (x 1).val = (sub d (late k)).val * 128 + (x 1).val; omega)
    have e2 : ((outPiece X s d (late k) (back k)).1.emb x) 2 = col (head (chain d (back k))) (x 2 : Fin 128) := Fin.ext (by
      show (head (chain d (back k))).val * 128 + 1 * (x 2).val = (head (chain d (back k))).val * 128 + (x 2).val; omega)
    dsimp only
    rw [e0, e1, e2]
    refine (congrArg _ (tile_idx x)).trans ((outTile_apply H (chain d (back k)) (late k) _ (x 1) (x 2)).trans ?_)
    rw [show (fun i j => atStep X s (chain d (back k)) (late k) (ix3 0 i j)) = _ from
      funext fun i => funext fun j => atStep_apply H hs (chain d (back k)) (late k) i j, dir_chain]
    exact (out_half D d _ (late k) _ t (x 1) (x 2)).symm
  · obtain ⟨k, hb, hj, hh⟩ := tile_of d b ⟨r.val / 128, by omega⟩ ⟨c.val / 128, by omega⟩
    refine ⟨outPiece X s d (late k) (back k), (List.mem_ofFn' _ _).mpr ⟨k, rfl⟩, ?_⟩
    rw [show (outPiece X s d (late k) (back k)).1 = Rect.unit (s := S2x256x512)
        ![(bat (chain d (back k))).val, (sub d (late k)).val * 128, (head (chain d (back k))).val * 128] S1x128x128.size
        (inb_out (bat (chain d (back k))) (sub d (late k)) (head (chain d (back k)))) from rfl, Rect.mem_set_unit, hb, hj, hh]
    intro a
    fin_cases a
    · exact ⟨le_refl b.val, Nat.lt_succ_self b.val⟩
    · constructor
      · show r.val / 128 * 128 ≤ r.val; omega
      · show r.val < r.val / 128 * 128 + 128; omega
    · constructor
      · show c.val / 128 * 128 ≤ c.val; omega
      · show c.val < c.val / 128 * 128 + 128; omega

end Cert.KernelIdeal.Tile

end
-- ==== Proof.BlockA.lean ====
/- What the first grid point leaves: the run's found pieces as the families of tiles. -/
module

public import proofs.«01_k».proof.Proof.Pieces
public import proofs.«01_k».proof.Proof.Gen.KernelIdeal.Frame

@[expose] public section

set_option maxHeartbeats 4000000

noncomputable section

open Idealize.ShloMosaic

namespace Cert.KernelIdeal.Tile

open Cert.KernelIdeal Cert.KernelIdeal.Gen Cert.Recur

variable {F : FTy → Type} [FloatOps F]
variable (c : Dev nD) (i : grid0.Coords) (arg1 : Memref sig .tc .vmem S16x128x128 .f32) (harg1 : arg1.IsWhole) (arg2 : Memref sig .tc .vmem S1x2x256x512 .f32) (harg2 : arg2.IsWhole)
  (arg3 : Memref sig .tc .vmem S1x2x256x512 .bf16) (harg3 : arg3.IsWhole) (arg4 : Memref sig .tc .vmem S1x2x256x512 .bf16) (harg4 : arg4.IsWhole)
  (arg5 : Memref sig .tc .vmem S1x2x256x512 .bf16) (harg5 : arg5.IsWhole) (arg6 : Memref sig .tc .vmem S1x2x512x256 .bf16) (harg6 : arg6.IsWhole)
  (arg7 : Memref sig .tc .vmem S2x256x128 .f32) (harg7 : arg7.IsWhole) (arg8 : Memref sig .tc .vmem S1x2x256x512 .f32) (harg8 : arg8.IsWhole)
  (arg9 : Memref sig .tc .vmem S1x2x256x512 .bf16) (harg9 : arg9.IsWhole) (arg10 : Memref sig .tc .vmem S1x2x256x512 .bf16) (harg10 : arg10.IsWhole)
  (arg11 : Memref sig .tc .vmem S1x2x256x512 .bf16) (harg11 : arg11.IsWhole) (arg12 : Memref sig .tc .vmem S1x2x512x256 .bf16) (harg12 : arg12.IsWhole)
  (arg13 : Memref sig .tc .vmem S2x256x128 .f32) (harg13 : arg13.IsWhole) (arg14 : Memref sig .tc .vmem S2x256x512 .bf16) (harg14 : arg14.IsWhole)
  (arg15 : Memref sig .tc .vmem S2x256x512 .bf16) (harg15 : arg15.IsWhole) (arg16 : Memref sig .tc .vmem S16x128x128 .f32) (harg16 : arg16.IsWhole)
  (arg17 : Memref sig .tc .vmem S16x128x128 .f32) (harg17 : arg17.IsWhole)
variable (x0 : Vec F S16x128x128 .f32) (x1 : Vec F S1x2x256x512 .f32) (x2 x3 x4 : Vec F S1x2x256x512 .bf16) (x5 : Vec F S1x2x512x256 .bf16)
  (x6 : Vec F S2x256x128 .f32) (x7 : Vec F S1x2x256x512 .f32) (x8 x9 x10 : Vec F S1x2x256x512 .bf16) (x11 : Vec F S1x2x512x256 .bf16)
  (x12 : Vec F S2x256x128 .f32)

/-- What a first point leaves in the states and in the two output blocks: the tiles of its chains, the newest first. -/
theorem block_A (hc0 : cond0_0 i) (hc1 : ¬cond0_1 i) :
    (∃ L', sout0_A_0 c i arg1 harg1 arg2 harg2 arg3 harg3 arg4 harg4 arg5 harg5 arg6 harg6 arg7 harg7 arg8 harg8 arg9 harg9 arg10 harg10 arg11 harg11 arg12
        harg12 arg13 harg13 arg14 harg14 arg15 harg15 arg16 harg16 arg17 harg17 hc0 hc1 x0 x1 x2 x3 x4 x5 x6 x7 x8 x9 x10 x11 x12
      = View.canon (List.ofFn (fun k : Fin 16 => statePiece ![⟨x1, x2, x3, x4, x5, x6⟩, ⟨x7, x8, x9, x10, x11, x12⟩] x0 k.rev) ++ L'))
    ∧ out0_A_13 c i arg1 harg1 arg2 harg2 arg3 harg3 arg4 harg4 arg5 harg5 arg6 harg6 arg7 harg7 arg8 harg8 arg9 harg9 arg10 harg10 arg11 harg11 arg12
        harg12 arg13 harg13 arg14 harg14 arg15 harg15 arg16 harg16 arg17 harg17 hc0 hc1 x0 x1 x2 x3 x4 x5 x6 x7 x8 x9 x10 x11 x12
      = View.canon (List.ofFn (fun k : Fin 16 => outPiece ![⟨x1, x2, x3, x4, x5, x6⟩, ⟨x7, x8, x9, x10, x11, x12⟩] x0 0 (late k) (back k)))
    ∧ out0_A_14 c i arg1 harg1 arg2 harg2 arg3 harg3 arg4 harg4 arg5 harg5 arg6 harg6 arg7 harg7 arg8 harg8 arg9 harg9 arg10 harg10 arg11 harg11 arg12
        harg12 arg13 harg13 arg14 harg14 arg15 harg15 arg16 harg16 arg17 harg17 hc0 hc1 x0 x1 x2 x3 x4 x5 x6 x7 x8 x9 x10 x11 x12
      = View.canon (List.ofFn (fun k : Fin 16 => outPiece ![⟨x1, x2, x3, x4, x5, x6⟩, ⟨x7, x8, x9, x10, x11, x12⟩] x0 1 (late k) (back k))) := by
  refine ⟨?_, ?_, ?_⟩
  on_goal 1 => unfold sout0_A_0
  on_goal 2 => unfold out0_A_13
  on_goal 3 => unfold out0_A_14
  all_goals
    rw [View.read_writes_junk_eq_canon]
    unfold kernelRun0_A
    dsimp only
    sl_unfold_words
    simp (disch := decide) only [↓readCov_same, ↓readCov_other, ↓readCov_entry, View.readAt_eq_ld, Memref.IsWhole.read_unread, pay_entry, ld_stack]
  · exact ⟨_, rfl⟩
  · rfl
  · rfl

end Cert.KernelIdeal.Tile

end
-- ==== Proof.BlockB.lean ====
/- What the middle grid points leave: the run's found pieces as the families of tiles. -/
module

public import proofs.«01_k».proof.Proof.Pieces
public import proofs.«01_k».proof.Proof.Gen.KernelIdeal.Frame

@[expose] public section

set_option maxHeartbeats 4000000

noncomputable section

open Idealize.ShloMosaic

namespace Cert.KernelIdeal.Tile

open Cert.KernelIdeal Cert.KernelIdeal.Gen Cert.Recur

variable {F : FTy → Type} [FloatOps F]
variable (c : Dev nD) (i : grid0.Coords) (arg1 : Memref sig .tc .vmem S16x128x128 .f32) (harg1 : arg1.IsWhole) (arg2 : Memref sig .tc .vmem S1x2x256x512 .f32) (harg2 : arg2.IsWhole)
  (arg3 : Memref sig .tc .vmem S1x2x256x512 .bf16) (harg3 : arg3.IsWhole) (arg4 : Memref sig .tc .vmem S1x2x256x512 .bf16) (harg4 : arg4.IsWhole)
  (arg5 : Memref sig .tc .vmem S1x2x256x512 .bf16) (harg5 : arg5.IsWhole) (arg6 : Memref sig .tc .vmem S1x2x512x256 .bf16) (harg6 : arg6.IsWhole)
  (arg7 : Memref sig .tc .vmem S2x256x128 .f32) (harg7 : arg7.IsWhole) (arg8 : Memref sig .tc .vmem S1x2x256x512 .f32) (harg8 : arg8.IsWhole)
  (arg9 : Memref sig .tc .vmem S1x2x256x512 .bf16) (harg9 : arg9.IsWhole) (arg10 : Memref sig .tc .vmem S1x2x256x512 .bf16) (harg10 : arg10.IsWhole)
  (arg11 : Memref sig .tc .vmem S1x2x256x512 .bf16) (harg11 : arg11.IsWhole) (arg12 : Memref sig .tc .vmem S1x2x512x256 .bf16) (harg12 : arg12.IsWhole)
  (arg13 : Memref sig .tc .vmem S2x256x128 .f32) (harg13 : arg13.IsWhole) (arg14 : Memref sig .tc .vmem S2x256x512 .bf16) (harg14 : arg14.IsWhole)
  (arg15 : Memref sig .tc .vmem S2x256x512 .bf16) (harg15 : arg15.IsWhole) (arg16 : Memref sig .tc .vmem S16x128x128 .f32) (harg16 : arg16.IsWhole)
  (arg17 : Memref sig .tc .vmem S16x128x128 .f32) (harg17 : arg17.IsWhole)
variable (x0 : Vec F S16x128x128 .f32) (x1 : Vec F S1x2x256x512 .f32) (x2 x3 x4 : Vec F S1x2x256x512 .bf16) (x5 : Vec F S1x2x512x256 .bf16)
  (x6 : Vec F S2x256x128 .f32) (x7 : Vec F S1x2x256x512 .f32) (x8 x9 x10 : Vec F S1x2x256x512 .bf16) (x11 : Vec F S1x2x512x256 .bf16)
  (x12 : Vec F S2x256x128 .f32) (xs0 : Vec F S16x128x128 .f32)

/-- What a middle point leaves in the states and in the two output blocks: the tiles of its chains, the newest first. -/
theorem block_B (hc0 : ¬cond0_0 i) (hc1 : ¬cond0_1 i) :
    (∃ L', sout0_B_0 c i arg1 harg1 arg2 harg2 arg3 harg3 arg4 harg4 arg5 harg5 arg6 harg6 arg7 harg7 arg8 harg8 arg9 harg9 arg10 harg10 arg11 harg11 arg12
        harg12 arg13 harg13 arg14 harg14 arg15 harg15 arg16 harg16 arg17 harg17 hc0 hc1 x0 x1 x2 x3 x4 x5 x6 x7 x8 x9 x10 x11 x12 xs0
      = View.canon (List.ofFn (fun k : Fin 16 => statePiece ![⟨x1, x2, x3, x4, x5, x6⟩, ⟨x7, x8, x9, x10, x11, x12⟩] xs0 k.rev) ++ L'))
    ∧ out0_B_13 c i arg1 harg1 arg2 harg2 arg3 harg3 arg4 harg4 arg5 harg5 arg6 harg6 arg7 harg7 arg8 harg8 arg9 harg9 arg10 harg10 arg11 harg11 arg12
        harg12 arg13 harg13 arg14 harg14 arg15 harg15 arg16 harg16 arg17 harg17 hc0 hc1 x0 x1 x2 x3 x4 x5 x6 x7 x8 x9 x10 x11 x12 xs0
      = View.canon (List.ofFn (fun k : Fin 16 => outPiece ![⟨x1, x2, x3, x4, x5, x6⟩, ⟨x7, x8, x9, x10, x11, x12⟩] xs0 0 (late k) (back k)))
    ∧ out0_B_14 c i arg1 harg1 arg2 harg2 arg3 harg3 arg4 harg4 arg5 harg5 arg6 harg6 arg7 harg7 arg8 harg8 arg9 harg9 arg10 harg10 arg11 harg11 arg12
        harg12 arg13 harg13 arg14 harg14 arg15 harg15 arg16 harg16 arg17 harg17 hc0 hc1 x0 x1 x2 x3 x4 x5 x6 x7 x8 x9 x10 x11 x12 xs0
      = View.canon (List.ofFn (fun k : Fin 16 => outPiece ![⟨x1, x2, x3, x4, x5, x6⟩, ⟨x7, x8, x9, x10, x11, x12⟩] xs0 1 (late k) (back k))) := by
  refine ⟨?_, ?_, ?_⟩
  on_goal 1 => unfold sout0_B_0
  on_goal 2 => unfold out0_B_13
  on_goal 3 => unfold out0_B_14
  all_goals
    rw [View.read_writes_junk_eq_canon]
    unfold kernelRun0_B
    dsimp only
    sl_unfold_words
    simp (disch := decide) only [↓readCov_same, ↓readCov_other, ↓readCov_entry, View.readAt_eq_ld, Memref.IsWhole.read_unread, pay_entry, ld_stack]
  · exact ⟨_, rfl⟩
  · rfl
  · rfl

end Cert.KernelIdeal.Tile

end
-- ==== Proof.BlockC.lean ====
/- What the last grid point leaves: the run's found pieces as the families of tiles. -/
module

public import proofs.«01_k».proof.Proof.Pieces
public import proofs.«01_k».proof.Proof.Gen.KernelIdeal.Frame

@[expose] public section

set_option maxHeartbeats 4000000

noncomputable section

open Idealize.ShloMosaic

namespace Cert.KernelIdeal.Tile

open Cert.KernelIdeal Cert.KernelIdeal.Gen Cert.Recur

variable {F : FTy → Type} [FloatOps F]
variable (c : Dev nD) (i : grid0.Coords) (arg1 : Memref sig .tc .vmem S16x128x128 .f32) (harg1 : arg1.IsWhole) (arg2 : Memref sig .tc .vmem S1x2x256x512 .f32) (harg2 : arg2.IsWhole)
  (arg3 : Memref sig .tc .vmem S1x2x256x512 .bf16) (harg3 : arg3.IsWhole) (arg4 : Memref sig .tc .vmem S1x2x256x512 .bf16) (harg4 : arg4.IsWhole)
  (arg5 : Memref sig .tc .vmem S1x2x256x512 .bf16) (harg5 : arg5.IsWhole) (arg6 : Memref sig .tc .vmem S1x2x512x256 .bf16) (harg6 : arg6.IsWhole)
  (arg7 : Memref sig .tc .vmem S2x256x128 .f32) (harg7 : arg7.IsWhole) (arg8 : Memref sig .tc .vmem S1x2x256x512 .f32) (harg8 : arg8.IsWhole)
  (arg9 : Memref sig .tc .vmem S1x2x256x512 .bf16) (harg9 : arg9.IsWhole) (arg10 : Memref sig .tc .vmem S1x2x256x512 .bf16) (harg10 : arg10.IsWhole)
  (arg11 : Memref sig .tc .vmem S1x2x256x512 .bf16) (harg11 : arg11.IsWhole) (arg12 : Memref sig .tc .vmem S1x2x512x256 .bf16) (harg12 : arg12.IsWhole)
  (arg13 : Memref sig .tc .vmem S2x256x128 .f32) (harg13 : arg13.IsWhole) (arg14 : Memref sig .tc .vmem S2x256x512 .bf16) (harg14 : arg14.IsWhole)
  (arg15 : Memref sig .tc .vmem S2x256x512 .bf16) (harg15 : arg15.IsWhole) (arg16 : Memref sig .tc .vmem S16x128x128 .f32) (harg16 : arg16.IsWhole)
  (arg17 : Memref sig .tc .vmem S16x128x128 .f32) (harg17 : arg17.IsWhole)
variable (x0 : Vec F S16x128x128 .f32) (x1 : Vec F S1x2x256x512 .f32) (x2 x3 x4 : Vec F S1x2x256x512 .bf16) (x5 : Vec F S1x2x512x256 .bf16)
  (x6 : Vec F S2x256x128 .f32) (x7 : Vec F S1x2x256x512 .f32) (x8 x9 x10 : Vec F S1x2x256x512 .bf16) (x11 : Vec F S1x2x512x256 .bf16)
  (x12 : Vec F S2x256x128 .f32) (xs0 : Vec F S16x128x128 .f32)

/-- What a last point leaves in the states and in the two output blocks: the tiles of its chains, the newest first. -/
theorem block_C (hc0 : ¬cond0_0 i) (hc1 : cond0_1 i) :
    (∃ L', sout0_C_0 c i arg1 harg1 arg2 harg2 arg3 harg3 arg4 harg4 arg5 harg5 arg6 harg6 arg7 harg7 arg8 harg8 arg9 harg9 arg10 harg10 arg11 harg11 arg12
        harg12 arg13 harg13 arg14 harg14 arg15 harg15 arg16 harg16 arg17 harg17 hc0 hc1 x0 x1 x2 x3 x4 x5 x6 x7 x8 x9 x10 x11 x12 xs0
      = View.canon (List.ofFn (fun k : Fin 16 => statePiece ![⟨x1, x2, x3, x4, x5, x6⟩, ⟨x7, x8, x9, x10, x11, x12⟩] xs0 k.rev) ++ L'))
    ∧ out0_C_13 c i arg1 harg1 arg2 harg2 arg3 harg3 arg4 harg4 arg5 harg5 arg6 harg6 arg7 harg7 arg8 harg8 arg9 harg9 arg10 harg10 arg11 harg11 arg12
        harg12 arg13 harg13 arg14 harg14 arg15 harg15 arg16 harg16 arg17 harg17 hc0 hc1 x0 x1 x2 x3 x4 x5 x6 x7 x8 x9 x10 x11 x12 xs0
      = View.canon (List.ofFn (fun k : Fin 16 => outPiece ![⟨x1, x2, x3, x4, x5, x6⟩, ⟨x7, x8, x9, x10, x11, x12⟩] xs0 0 (late k) (back k)))
    ∧ out0_C_14 c i arg1 harg1 arg2 harg2 arg3 harg3 arg4 harg4 arg5 harg5 arg6 harg6 arg7 harg7 arg8 harg8 arg9 harg9 arg10 harg10 arg11 harg11 arg12
        harg12 arg13 harg13 arg14 harg14 arg15 harg15 arg16 harg16 arg17 harg17 hc0 hc1 x0 x1 x2 x3 x4 x5 x6 x7 x8 x9 x10 x11 x12 xs0
      = View.canon (List.ofFn (fun k : Fin 16 => outPiece ![⟨x1, x2, x3, x4, x5, x6⟩, ⟨x7, x8, x9, x10, x11, x12⟩] xs0 1 (late k) (back k))) := by
  refine ⟨?_, ?_, ?_⟩
  on_goal 1 => unfold sout0_C_0
  on_goal 2 => unfold out0_C_13
  on_goal 3 => unfold out0_C_14
  all_goals
    rw [View.read_writes_junk_eq_canon]
    unfold kernelRun0_C
    dsimp only
    sl_unfold_words
    simp (disch := decide) only [↓readCov_same, ↓readCov_other, ↓readCov_entry, View.readAt_eq_ld, Memref.IsWhole.read_unread, pay_entry, ld_stack]
  · exact ⟨_, rfl⟩
  · rfl
  · rfl

/-- The last point copies out the states it leaves. -/
theorem block_C_states (hc0 : ¬cond0_0 i) (hc1 : cond0_1 i) :
    out0_C_15 c i arg1 harg1 arg2 harg2 arg3 harg3 arg4 harg4 arg5 harg5 arg6 harg6 arg7 harg7 arg8 harg8 arg9 harg9 arg10 harg10 arg11 harg11 arg12
        harg12 arg13 harg13 arg14 harg14 arg15 harg15 arg16 harg16 arg17 harg17 hc0 hc1 x0 x1 x2 x3 x4 x5 x6 x7 x8 x9 x10 x11 x12 xs0
      = sout0_C_0 c i arg1 harg1 arg2 harg2 arg3 harg3 arg4 harg4 arg5 harg5 arg6 harg6 arg7 harg7 arg8 harg8 arg9 harg9 arg10 harg10 arg11 harg11 arg12
        harg12 arg13 harg13 arg14 harg14 arg15 harg15 arg16 harg16 arg17 harg17 hc0 hc1 x0 x1 x2 x3 x4 x5 x6 x7 x8 x9 x10 x11 x12 xs0 := by
  unfold out0_C_15 sout0_C_0
  rw [View.read_writes_junk_eq_canon, View.read_writes_junk_eq_canon]
  unfold kernelRun0_C
  dsimp only
  refine (View.canon_unit_zero (S := S16x128x128) (by funext i; fin_cases i <;> rfl) _ _).trans ?_
  unfold kernelRun0_C.sl.v1126
  rw [View.readCov_eq_canon']
  exact ld_stack inb_S16x128x128_S16x128x128_0_0_0 _

end Cert.KernelIdeal.Tile

end
-- ==== Proof.Sweep.lean ====
/- The grid swept: the stack of states before every point, and what the three result arrays end holding. -/
module

public import proofs.«01_k».proof.Proof.Point
public import proofs.«01_k».proof.Proof.BlockA
public import proofs.«01_k».proof.Proof.BlockB
public import proofs.«01_k».proof.Proof.BlockC
public import proofs.«01_k».proof.Proof.Gen.KernelIdeal.Value

@[expose] public section

noncomputable section

open Idealize.ShloMosaic Idealize.ShloMosaic.TcCoe Idealize.SL.Sem

namespace Cert.KernelIdeal.Sweep

open Cert.KernelIdeal Cert.KernelIdeal.Gen Cert.KernelIdeal.Value Cert.KernelIdeal.Tile Cert.Recur

variable (m : (ℓ : Loc nD τ sig) → Buf (Elt Ideal) ℓ) (c : Dev nD)

/-- The recurrence's data in the kernel's arguments. -/
def data : Data :=
  dataOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The point, among the 64. -/
def pt (t : Fin cfg0.N) : Fin 64 := Fin.cast N_0 t

/-- The blocks a point reads, by direction. -/
def blocks (t : Fin cfg0.N) : Fin 2 → Blocks Ideal :=
  ![⟨iblk m c 1 t, iblk m c 2 t, iblk m c 3 t, iblk m c 4 t, iblk m c 5 t, iblk m c 6 t⟩,
    ⟨iblk m c 7 t, iblk m c 8 t, iblk m c 9 t, iblk m c 10 t, iblk m c 11 t, iblk m c 12 t⟩]

/-- Where the forward windows stand at each point. -/
theorem index_forward : ∀ t : Fin grid0.N,
    win0_1.index t = ![0, 0, t.val, 0] ∧ win0_2.index t = ![0, 0, t.val, 0] ∧ win0_3.index t = ![0, 0, t.val, 0]
    ∧ win0_4.index t = ![0, 0, t.val, 0] ∧ win0_5.index t = ![0, 0, 0, t.val] ∧ win0_6.index t = ![0, t.val, 0]
    ∧ win0_13.index t = ![0, t.val, 0] := by decide +kernel

/-- Where the backward windows stand at each point. -/
theorem index_backward : ∀ t : Fin grid0.N,
    win0_7.index t = ![1, 0, 63 - t.val, 0] ∧ win0_8.index t = ![1, 0, 63 - t.val, 0] ∧ win0_9.index t = ![1, 0, 63 - t.val, 0]
    ∧ win0_10.index t = ![1, 0, 63 - t.val, 0] ∧ win0_11.index t = ![1, 0, 0, 63 - t.val] ∧ win0_12.index t = ![0, 63 - t.val, 0]
    ∧ win0_14.index t = ![0, 63 - t.val, 0] := by decide +kernel

/-- Where the two windows onto the states stand: at the whole stack. -/
theorem index_states : ∀ t : Fin grid0.N, win0_0.index t = ![0, 0, 0] ∧ win0_15.index t = ![0, 0, 0] := by decide +kernel

/-- An index of a block of rows, placed in its array. -/
theorem place_rows {d : Fin 2} {k : ℕ} {f : Fin 4 → ℕ} (hf : f = ![d.val, 0, k, 0]) (b : Fin 2) (r : Fin 256) (z : Fin 512) (y : Fin 16384)
    (hy : y.val = k * 256 + r.val) (a : Fin 4) :
    f a * S1x2x256x512.size a + 1 * ((ix4 (0 : Fin 1) b r z) a).val = ((ix4 d b y z) a).val := by
  subst hf
  fin_cases a
  · show d.val * 1 + 1 * 0 = d.val; omega
  · show 0 * 2 + 1 * b.val = b.val; omega
  · show k * 256 + 1 * r.val = y.val; omega
  · show 0 * 512 + 1 * z.val = z.val; omega

/-- An index of a transposed block, placed in its array. -/
theorem place_cols {d : Fin 2} {k : ℕ} {f : Fin 4 → ℕ} (hf : f = ![d.val, 0, 0, k]) (b : Fin 2) (r : Fin 512) (z : Fin 256) (y : Fin 16384)
    (hy : y.val = k * 256 + z.val) (a : Fin 4) :
    f a * S1x2x512x256.size a + 1 * ((ix4 (0 : Fin 1) b r z) a).val = ((ix4 d b r y) a).val := by
  subst hf
  fin_cases a
  · show d.val * 1 + 1 * 0 = d.val; omega
  · show 0 * 2 + 1 * b.val = b.val; omega
  · show 0 * 512 + 1 * r.val = r.val; omega
  · show k * 256 + 1 * z.val = y.val; omega

/-- An index of a block of log decays, placed in its array. -/
theorem place_decay {k : ℕ} {f : Fin 3 → ℕ} (hf : f = ![0, k, 0]) (b : Fin 2) (r : Fin 256) (z : Fin 128) (y : Fin 16384)
    (hy : y.val = k * 256 + r.val) (a : Fin 3) :
    f a * S2x256x128.size a + 1 * ((ix3 b r z) a).val = ((ix3 b y z) a).val := by
  subst hf
  fin_cases a
  · show 0 * 2 + 1 * b.val = b.val; omega
  · show k * 256 + 1 * r.val = y.val; omega
  · show 0 * 128 + 1 * z.val = z.val; omega

/-- An index of an output block, placed in its array. -/
theorem place_out {k : ℕ} {f : Fin 3 → ℕ} (hf : f = ![0, k, 0]) (x : S2x256x512.Idx) (y : Fin 16384)
    (hy : y.val = k * 256 + (x 1).val) (a : Fin 3) :
    f a * S2x256x512.size a + 1 * (x a).val = ((ix3 (n0 := 2) (n1 := 16384) (n2 := 512) (x 0) y (x 2)) a).val := by
  subst hf
  fin_cases a
  · show 0 * 2 + 1 * (x 0).val = (x 0).val; omega
  · show k * 256 + 1 * (x 1).val = y.val; omega
  · show 0 * 512 + 1 * (x 2).val = (x 2).val; omega

/-- An index of the block of states, placed in its array. -/
theorem place_states {f : Fin 3 → ℕ} (hf : f = ![0, 0, 0]) (n : Fin 16) (r z : Fin 128) (a : Fin 3) :
    f a * S16x128x128.size a + 1 * ((ix3 n r z) a).val = ((ix3 n r z) a).val := by
  subst hf
  fin_cases a
  · show 0 * 16 + 1 * n.val = n.val; omega
  · show 0 * 128 + 1 * r.val = r.val; omega
  · show 0 * 128 + 1 * z.val = z.val; omega

/-- The blocks a point reads hold its rows of the data. -/
theorem holds (t : Fin cfg0.N) : Holds (data m c) (pt t) (blocks m c t) where
  u d b r z := by
    fin_cases d
    · exact congrArg (m ((c : Thread nD τ).loc main_arg1)) (funext fun a => Fin.ext
        (place_rows (d := 0) (index_forward t).1 b r z (lane 0 (pt t) r) rfl a))
    · exact congrArg (m ((c : Thread nD τ).loc main_arg1)) (funext fun a => Fin.ext
        (place_rows (d := 1) (index_backward t).1 b r z (lane 1 (pt t) r) rfl a))
  w d b r z := by
    fin_cases d
    · exact congrArg (m ((c : Thread nD τ).loc main_arg2)) (funext fun a => Fin.ext
        (place_rows (d := 0) (index_forward t).2.1 b r z (lane 0 (pt t) r) rfl a))
    · exact congrArg (m ((c : Thread nD τ).loc main_arg2)) (funext fun a => Fin.ext
        (place_rows (d := 1) (index_backward t).2.1 b r z (lane 1 (pt t) r) rfl a))
  q d b r z := by
    fin_cases d
    · exact congrArg (m ((c : Thread nD τ).loc main_arg3)) (funext fun a => Fin.ext
        (place_rows (d := 0) (index_forward t).2.2.1 b r z (lane 0 (pt t) r) rfl a))
    · exact congrArg (m ((c : Thread nD τ).loc main_arg3)) (funext fun a => Fin.ext
        (place_rows (d := 1) (index_backward t).2.2.1 b r z (lane 1 (pt t) r) rfl a))
  a d b r z := by
    fin_cases d
    · exact congrArg (m ((c : Thread nD τ).loc main_arg4)) (funext fun a => Fin.ext
        (place_rows (d := 0) (index_forward t).2.2.2.1 b r z (lane 0 (pt t) r) rfl a))
    · exact congrArg (m ((c : Thread nD τ).loc main_arg4)) (funext fun a => Fin.ext
        (place_rows (d := 1) (index_backward t).2.2.2.1 b r z (lane 1 (pt t) r) rfl a))
  g d b r z := by
    fin_cases d
    · exact congrArg (m ((c : Thread nD τ).loc main_arg6)) (funext fun a => Fin.ext
        (place_decay (index_forward t).2.2.2.2.2.1 b r z (lane 0 (pt t) r) rfl a))
    · exact congrArg (m ((c : Thread nD τ).loc main_arg6)) (funext fun a => Fin.ext
        (place_decay (index_backward t).2.2.2.2.2.1 b r z (lane 1 (pt t) r) rfl a))
  t d b r z := by
    fin_cases d
    · exact congrArg (m ((c : Thread nD τ).loc main_arg5)) (funext fun a => Fin.ext
        (place_cols (d := 0) (index_forward t).2.2.2.2.1 b r z (lane 0 (pt t) z) rfl a))
    · exact congrArg (m ((c : Thread nD τ).loc main_arg5)) (funext fun a => Fin.ext
        (place_cols (d := 1) (index_backward t).2.2.2.2.1 b r z (lane 1 (pt t) z) rfl a))

/-- The block of entry states is the entry states. -/
theorem entry_states (t : Fin cfg0.N) : StatesAt (data m c) 0 (iblk m c 0 t) := by
  intro n r z
  have e : (iblk m c 0 t : Vec Ideal S16x128x128 .f32) (ix3 n r z) = (data m c).s0 n r z :=
    congrArg (m ((c : Thread nD τ).loc main_arg0)) (funext fun a => Fin.ext (place_states (index_states t).1 n r z a))
  rw [e]
  show _ = (data m c).s0 _ r z
  congr 1
  apply Fin.ext
  unfold dir bat head
  dsimp only
  omega

/-- What a point is to leave: the states two chunks on, and its block of either direction's output. -/
def Leaves (t : Fin cfg0.N) (o : Vec Ideal S2x256x512 .bf16 × Vec Ideal S2x256x512 .bf16 × Vec Ideal S16x128x128 .f32 × Vec Ideal S16x128x128 .f32) : Prop :=
  StatesAt (data m c) (2 * (t.val + 1)) o.2.2.2
  ∧ (∀ b r z, o.1 (ix3 b r z) = (data m c).out 0 b (lane 0 (pt t) r) z)
  ∧ (∀ b r z, o.2.1 (ix3 b r z) = (data m c).out 1 b (lane 1 (pt t) r) z)

/-- A point leaves that, when it stores its chains' tiles from the states before it. -/
theorem leaves_of (t : Fin cfg0.N) {s : Vec Ideal S16x128x128 .f32} (hs : StatesAt (data m c) (2 * t.val) s)
    {o : Vec Ideal S2x256x512 .bf16 × Vec Ideal S2x256x512 .bf16 × Vec Ideal S16x128x128 .f32 × Vec Ideal S16x128x128 .f32}
    (h : (∃ L', o.2.2.2 = View.canon (List.ofFn (fun k : Fin 16 => statePiece (blocks m c t) s k.rev) ++ L'))
      ∧ o.1 = View.canon (List.ofFn (fun k : Fin 16 => outPiece (blocks m c t) s 0 (late k) (back k)))
      ∧ o.2.1 = View.canon (List.ofFn (fun k : Fin 16 => outPiece (blocks m c t) s 1 (late k) (back k)))) : Leaves m c t o := by
  obtain ⟨⟨L', h0⟩, h1, h2⟩ := h
  refine ⟨?_, fun b r z => ?_, fun b r z => ?_⟩
  · rw [h0]; exact states_after (t := pt t) (holds m c t) hs L'
  · rw [h1]; exact outs_after (t := pt t) (holds m c t) hs 0 b r z
  · rw [h2]; exact outs_after (t := pt t) (holds m c t) hs 1 b r z

/-- Every point leaves that. -/
theorem leaves : ∀ (n : ℕ) (hn : n < cfg0.N), Leaves m c ⟨n, hn⟩ (outsAt0 m c n hn)
  | 0, hn => by
    rw [show outsAt0 m c 0 hn = _ from outsAt0_A m c ⟨0, hn⟩ rfl (by dsimp only; omega)]
    refine leaves_of m c ⟨0, hn⟩ (entry_states m c ⟨0, hn⟩) ?_
    dsimp only [blocks]
    exact block_A ..
  | n + 1, hn => by
    have hN : n + 1 < 64 := lt_of_lt_of_eq hn (show cfg0.N = 64 from N_0)
    have ih := (leaves n (Nat.lt_of_succ_lt hn)).1
    by_cases h1 : (n + 1) % 64 = 63
    · rw [show outsAt0 m c (n + 1) hn = _ from outsAt0_C m c ⟨n + 1, hn⟩ (by dsimp only; omega) h1]
      refine leaves_of m c ⟨n + 1, hn⟩ ih ?_
      dsimp only [blocks]
      exact block_C ..
    · rw [show outsAt0 m c (n + 1) hn = _ from outsAt0_B m c ⟨n + 1, hn⟩ (by dsimp only; omega) h1]
      refine leaves_of m c ⟨n + 1, hn⟩ ih ?_
      dsimp only [blocks]
      exact block_B ..

/-- The forward output, whole. -/
def forward : Vec Ideal S2x16384x512 .bf16 := fun y => (data m c).out 0 (y 0) (y 1) (y 2)

/-- The backward output, whole. -/
def backward : Vec Ideal S2x16384x512 .bf16 := fun y => (data m c).out 1 (y 0) (y 1) (y 2)

/-- The final states. -/
def final : Vec Ideal S16x128x128 .f32 := fun y => (data m c).before (dir (y 0)) (bat (y 0)) (head (y 0)) 128 (y 1) (y 2)

/-- Membership in an output block. -/
theorem cover_out {k : ℕ} {f : Fin 3 → ℕ} (hf : f = ![0, k, 0]) (i : S2x16384x512.Idx) (hk : k = (i 1).val / 256) (a : Fin 3) :
    f a * S2x256x512.size a ≤ (i a).val ∧ (i a).val < f a * S2x256x512.size a + S2x256x512.size a := by
  subst hf
  fin_cases a
  · have h : (i 0).val < 2 := (i 0).isLt
    constructor
    · show 0 * 2 ≤ (i 0).val; omega
    · show (i 0).val < 0 * 2 + 2; omega
  · constructor
    · show k * 256 ≤ (i 1).val; omega
    · show (i 1).val < k * 256 + 256; omega
  · have h : (i 2).val < 512 := (i 2).isLt
    constructor
    · show 0 * 512 ≤ (i 2).val; omega
    · show (i 2).val < 0 * 512 + 512; omega

/-- The forward result array ends holding the forward output. -/
theorem forward_eq : (dats m 0 c).arrAt 13 cfg0.N = forward m c :=
  (dats m 0 c).arrAt_eq_of_cover 13 (forward m c)
    (fun t _ => by
      rw [flushed13]
      funext x
      have e : (((cfg0.win 13).blk t).view.read (Elt Ideal) (forward m c)) x
          = forward m c (ix3 (n0 := 2) (n1 := 16384) (n2 := 512) (x 0) (lane 0 (pt t) (x 1)) (x 2)) :=
        congrArg (forward m c) (funext fun a => Fin.ext (place_out (index_forward t).2.2.2.2.2.2 x (lane 0 (pt t) (x 1)) rfl a))
      rw [e]
      exact (congrArg _ (eq_ix3 _)).trans ((leaves m c t.val t.isLt).2.1 (x 0) (x 1) (x 2)))
    (fun i => by
      have h0 : (i 0).val < 2 := (i 0).isLt
      have h1 : (i 1).val < 16384 := (i 1).isLt
      have h2 : (i 2).val < 512 := (i 2).isLt
      have hN : cfg0.N = 64 := N_0
      obtain ⟨t, ht⟩ : ∃ t : Fin cfg0.N, t.val = (i 1).val / 256 := ⟨⟨(i 1).val / 256, by omega⟩, rfl⟩
      refine ⟨t, flush0_13 t, ?_⟩
      show i ∈ ((View.whole main_v0_0).slice (win0_13.rect t)).set
      rw [View.set_slice_whole, Rect.mem_set_unit]
      refine cover_out (index_forward _).2.2.2.2.2.2 i ?_
      omega)

/-- The backward result array ends holding the backward output. -/
theorem backward_eq : (dats m 0 c).arrAt 14 cfg0.N = backward m c :=
  (dats m 0 c).arrAt_eq_of_cover 14 (backward m c)
    (fun t _ => by
      rw [flushed14]
      funext x
      have e : (((cfg0.win 14).blk t).view.read (Elt Ideal) (backward m c)) x
          = backward m c (ix3 (n0 := 2) (n1 := 16384) (n2 := 512) (x 0) (lane 1 (pt t) (x 1)) (x 2)) :=
        congrArg (backward m c) (funext fun a => Fin.ext (place_out (index_backward t).2.2.2.2.2.2 x (lane 1 (pt t) (x 1)) rfl a))
      rw [e]
      exact (congrArg _ (eq_ix3 _)).trans ((leaves m c t.val t.isLt).2.2 (x 0) (x 1) (x 2)))
    (fun i => by
      have h0 : (i 0).val < 2 := (i 0).isLt
      have h1 : (i 1).val < 16384 := (i 1).isLt
      have h2 : (i 2).val < 512 := (i 2).isLt
      have hN : cfg0.N = 64 := N_0
      obtain ⟨t, ht⟩ : ∃ t : Fin cfg0.N, t.val = 63 - (i 1).val / 256 := ⟨⟨63 - (i 1).val / 256, by omega⟩, rfl⟩
      refine ⟨t, flush0_14 t, ?_⟩
      show i ∈ ((View.whole main_v0_1).slice (win0_14.rect t)).set
      rw [View.set_slice_whole, Rect.mem_set_unit]
      refine cover_out (index_backward _).2.2.2.2.2.2 i ?_
      omega)

/-- The last point copies the states it leaves into the third result's buffer. -/
theorem copied (t : Fin cfg0.N) (h : t.val % 64 = 63) : (outsAt0 m c t.val t.isLt).2.2.1 = (outsAt0 m c t.val t.isLt).2.2.2 := by
  rw [outsAt0_C m c t (by omega) h]
  dsimp only
  exact block_C_states ..

/-- The third result array ends holding the final states. -/
theorem final_eq : (dats m 0 c).arrAt 15 cfg0.N = final m c :=
  (dats m 0 c).arrAt_eq_of_cover 15 (final m c)
    (fun t hf => by
      have h63 : t.val % 64 = 63 := (flush0_15 t).mp hf
      have hN : t.val < 64 := lt_of_lt_of_eq t.isLt (show cfg0.N = 64 from N_0)
      have ht : 2 * (t.val + 1) = 128 := by omega
      rw [flushed15, copied m c t h63]
      funext x
      have e : (((cfg0.win 15).blk t).view.read (Elt Ideal) (final m c)) x = final m c x :=
        congrArg (final m c) (funext fun a => Fin.ext (by
          show win0_15.index t a * S16x128x128.size a + 1 * (x a).val = (x a).val
          rw [(index_states t).2]
          fin_cases a
          · show 0 * 16 + 1 * (x 0).val = (x 0).val; omega
          · show 0 * 128 + 1 * (x 1).val = (x 1).val; omega
          · show 0 * 128 + 1 * (x 2).val = (x 2).val; omega))
      rw [e]
      have hs := (leaves m c t.val t.isLt).1 (x 0) (x 1) (x 2)
      rw [ht] at hs
      exact (congrArg _ (eq_ix3 _)).trans hs)
    (fun i => by
      have hN : cfg0.N = 64 := N_0
      obtain ⟨t, ht⟩ : ∃ t : Fin cfg0.N, t.val = 63 := ⟨⟨63, by omega⟩, rfl⟩
      refine ⟨t, (flush0_15 t).mpr (by omega), ?_⟩
      show i ∈ ((View.whole main_v0_2).slice (win0_15.rect t)).set
      rw [View.set_slice_whole, Rect.mem_set_unit]
      intro a
      show win0_15.index t a * S16x128x128.size a ≤ (i a).val ∧ (i a).val < win0_15.index t a * S16x128x128.size a + S16x128x128.size a
      rw [(index_states t).2]
      have h : (i a).val < S16x128x128.size a := (i a).isLt
      have z : (![0, 0, 0] : Fin 3 → ℕ) a = 0 := by fin_cases a <;> rfl
      rw [z]
      omega)

end Cert.KernelIdeal.Sweep

end
-- ==== Proof.RefEntry.lean ====
/- What the reference's loop starts from: the arguments, cut into chunks, the backward direction's last first. -/
module

public import proofs.«01_k».proof.Proof.Model
public import proofs.«01_k».proof.Proof.Gen.ReferenceIdeal.Run

@[expose] public section

noncomputable section

open Idealize.ShloMosaic Idealize.ShloMosaic.TcCoe Idealize.SL.Sem
open Idealize.ShloMosaic.StableHlo Idealize.ShloMosaic.Pipeline

namespace Cert.ReferenceIdeal.Scan

open Cert.ReferenceIdeal Cert.ReferenceIdeal.Gen Cert.ReferenceIdeal.Value Cert.Recur

variable {F : FTy → Type} [FloatOps F]

/-- The chunks of both directions, in the order each meets them. -/
def stacked (x : Vec F S2x128x2x4x128x128 .f32) : Vec F S128x2x2x4x128x128 .f32 :=
  concatenate S128x2x2x4x128x128 1
    [⟨S128x1x2x4x128x128, broadcastInDim S128x1x2x4x128x128 ![0, 2, 3, 4, 5] bcast_S128x2x4x128x128_S128x1x2x4x128x128_0_2_3_4_5
        (shapeCast S128x2x4x128x128 (extractStridedSlice S1x128x2x4x128x128 ![0, 0, 0, 0, 0, 0] x
          slices_S2x128x2x4x128x128_S1x128x2x4x128x128_0_0_0_0_0_0) shapeCasts_S1x128x2x4x128x128_S128x2x4x128x128)⟩,
     ⟨S128x1x2x4x128x128, broadcastInDim S128x1x2x4x128x128 ![0, 2, 3, 4, 5] bcast_S128x2x4x128x128_S128x1x2x4x128x128_0_2_3_4_5
        (Host.reverse [0] (shapeCast S128x2x4x128x128 (extractStridedSlice S1x128x2x4x128x128 ![1, 0, 0, 0, 0, 0] x
          slices_S2x128x2x4x128x128_S1x128x2x4x128x128_1_0_0_0_0_0) shapeCasts_S1x128x2x4x128x128_S128x2x4x128x128))⟩]
    concatenates_S128x1x2x4x128x128_S128x1x2x4x128x128_S128x2x2x4x128x128_d1

/-- A quantity by time steps, cut into chunks. -/
def rowsOf (x : Vec F S2x2x16384x512 .f32) : Vec F S2x128x2x4x128x128 .f32 :=
  transpose S2x128x2x4x128x128 [0, 2, 1, 4, 3, 5] (shapeCast S2x2x128x128x4x128 x shapeCasts_S2x2x16384x512_S2x2x128x128x4x128)
    transposes_S2x2x128x128x4x128_S2x128x2x4x128x128_0_2_1_4_3_5

/-- The transposed keys, cut into chunks. -/
def colsOf (x : Vec F S2x2x512x16384 .f32) : Vec F S2x128x2x4x128x128 .f32 :=
  transpose S2x128x2x4x128x128 [0, 4, 1, 2, 3, 5] (shapeCast S2x2x4x128x128x128 x shapeCasts_S2x2x512x16384_S2x2x4x128x128x128)
    transposes_S2x2x4x128x128x128_S2x128x2x4x128x128_0_4_1_2_3_5

variable (m : (ℓ : Loc nD τ sig) → Buf (Elt F) ℓ) (c : Dev nD)

/-- The chunks of the total log decay, by direction, batch entry and head. -/
def decays (x : Vec F S2x16384x128 .f32) : Vec F S2x128x2x4 .f32 :=
  transpose S2x128x2x4 [2, 1, 0, 3] (shapeCast S2x128x2x4 (Host.slice S2x128x8 ![0, 0, 16] ![1, 128, 1] x
    slicesBy_S2x16384x128_S2x128x8_0s1_0s128_16s1) shapeCasts_S2x128x8_S2x128x2x4) transposes_S2x128x2x4_S2x128x2x4_2_1_0_3

/-- The log decays of both directions, in the order each meets them. -/
def stackedDecays (x : Vec F S2x128x2x4 .f32) : Vec F S128x2x2x4 .f32 :=
  concatenate S128x2x2x4 1
    [⟨S128x1x2x4, broadcastInDim S128x1x2x4 ![0, 2, 3] bcast_S128x2x4_S128x1x2x4_0_2_3
        (shapeCast S128x2x4 (extractStridedSlice S1x128x2x4 ![0, 0, 0, 0] x slices_S2x128x2x4_S1x128x2x4_0_0_0_0)
          shapeCasts_S1x128x2x4_S128x2x4)⟩,
     ⟨S128x1x2x4, broadcastInDim S128x1x2x4 ![0, 2, 3] bcast_S128x2x4_S128x1x2x4_0_2_3
        (Host.reverse [0] (shapeCast S128x2x4 (extractStridedSlice S1x128x2x4 ![1, 0, 0, 0] x slices_S2x128x2x4_S1x128x2x4_1_0_0_0)
          shapeCasts_S1x128x2x4_S128x2x4))⟩]
    concatenates_S128x1x2x4_S128x1x2x4_S128x2x2x4_d1

set_option maxRecDepth 100000 in
set_option maxHeartbeats 4000000 in
/-- The loop's queries. -/
theorem entry_q : entryContents preI m c (Proc.devRef .tc main_v67_0)
    = stacked (rowsOf (extf .f32 (m ((c : Thread nD τ).loc main_arg3)) bitsLt_bf16_f32)) := by
  simp only [entryContents, afterL_cons, afterL_nil]
  after_reads_simp
  rfl

set_option maxRecDepth 100000 in
set_option maxHeartbeats 4000000 in
/-- The loop's tail keys. -/
theorem entry_t : entryContents preI m c (Proc.devRef .tc main_v67_1)
    = stacked (colsOf (extf .f32 (m ((c : Thread nD τ).loc main_arg5)) bitsLt_bf16_f32)) := by
  simp only [entryContents, afterL_cons, afterL_nil]
  after_reads_simp
  rfl

set_option maxRecDepth 100000 in
set_option maxHeartbeats 4000000 in
/-- The loop's pseudo-values. -/
theorem entry_u : entryContents preI m c (Proc.devRef .tc main_v67_2)
    = stacked (rowsOf (m ((c : Thread nD τ).loc main_arg1))) := by
  simp only [entryContents, afterL_cons, afterL_nil]
  after_reads_simp
  rfl

set_option maxRecDepth 100000 in
set_option maxHeartbeats 4000000 in
/-- The loop's decayed keys. -/
theorem entry_w : entryContents preI m c (Proc.devRef .tc main_v67_3)
    = stacked (rowsOf (extf .f32 (m ((c : Thread nD τ).loc main_arg2)) bitsLt_bf16_f32)) := by
  simp only [entryContents, afterL_cons, afterL_nil]
  after_reads_simp
  rfl

set_option maxRecDepth 100000 in
set_option maxHeartbeats 4000000 in
/-- The loop's scores. -/
theorem entry_a : entryContents preI m c (Proc.devRef .tc main_v67_4)
    = stacked (rowsOf (extf .f32 (m ((c : Thread nD τ).loc main_arg4)) bitsLt_bf16_f32)) := by
  simp only [entryContents, afterL_cons, afterL_nil]
  after_reads_simp
  rfl

set_option maxRecDepth 100000 in
set_option maxHeartbeats 4000000 in
/-- The loop's log decays. -/
theorem entry_g : entryContents preI m c (Proc.devRef .tc main_v67_5)
    = stackedDecays (decays (m ((c : Thread nD τ).loc main_arg6))) := by
  simp only [entryContents, afterL_cons, afterL_nil]
  after_reads_simp
  rfl

set_option maxRecDepth 100000 in
set_option maxHeartbeats 4000000 in
/-- The loop's states. -/
theorem entry_s : entryContents preI m c (Proc.devRef .tc main_v67_7)
    = shapeCast S2x2x4x128x128 (m ((c : Thread nD τ).loc main_arg0)) shapeCasts_S16x128x128_S2x2x4x128x128 := by
  simp only [entryContents, afterL_cons, afterL_nil]
  after_reads_simp
  rfl

/-- The forward chunks, as they come. -/
theorem stacked_0 (x : Vec Ideal S2x128x2x4x128x128 .f32) (n : Fin 128) (b : Fin 2) (h : Fin 4) (r z : Fin 128) :
    stacked x (ix6 n 0 b h r z) = x (ix6 0 n b h r z) := by
  pointwise [stacked]

/-- The backward chunks, from the last. -/
theorem stacked_1 (x : Vec Ideal S2x128x2x4x128x128 .f32) (n : Fin 128) (b : Fin 2) (h : Fin 4) (r z : Fin 128) :
    stacked x (ix6 n 1 b h r z) = x (ix6 1 n.rev b h r z) := by
  pointwise [stacked]
  rfl

/-- A quantity's chunks, by rows and lanes. -/
theorem rowsOf_apply (x : Vec Ideal S2x2x16384x512 .f32) (d b : Fin 2) (h : Fin 4) (n r z : Fin 128) :
    rowsOf x (ix6 d n b h r z) = x (ix4 d b (row n r) (col h z)) := by
  pointwise [rowsOf]
  congr 2
  exact Fin.ext (Nat.mod_eq_of_lt (by omega)).symm

/-- The transposed keys' chunks, by lanes and rows. -/
theorem colsOf_apply (x : Vec Ideal S2x2x512x16384 .f32) (d b : Fin 2) (h : Fin 4) (n r z : Fin 128) :
    colsOf x (ix6 d n b h r z) = x (ix4 d b (col h r) (row n z)) := by
  pointwise [colsOf]
  congr 2
  exact Fin.ext (Nat.mod_eq_of_lt (by omega)).symm

/-- The forward log decays, as they come. -/
theorem stackedDecays_0 (x : Vec Ideal S2x128x2x4 .f32) (n : Fin 128) (b : Fin 2) (h : Fin 4) :
    stackedDecays x (ix4 n 0 b h) = x (ix4 0 n b h) := by
  pointwise [stackedDecays]

/-- The backward log decays, from the last. -/
theorem stackedDecays_1 (x : Vec Ideal S2x128x2x4 .f32) (n : Fin 128) (b : Fin 2) (h : Fin 4) :
    stackedDecays x (ix4 n 1 b h) = x (ix4 1 n.rev b h) := by
  pointwise [stackedDecays]
  rfl

/-- A chunk's total log decay stands at its first row, in its direction's and head's column. -/
theorem decays_apply (x : Vec Ideal S2x16384x128 .f32) (d b : Fin 2) (h : Fin 4) (n : Fin 128) :
    decays x (ix4 d n b h) = x (ix3 b (row n 0) ⟨16 + 4 * d.val + h.val, by omega⟩) := by
  pointwise [decays]
  congr 2
  · exact Fin.ext (by show 128 * n.val = (n.val * 128 + 0) % 16384; omega)
  · exact Fin.ext (by dsimp only; omega)

end Cert.ReferenceIdeal.Scan

end
-- ==== Proof.RefScan.lean ====
/- The reference's loop: the states after every trip, and the outputs stacked so far. -/
module

public import proofs.«01_k».proof.Proof.RefEntry
public import Idealize.ShloMosaic.Lib.DynamicIndex

@[expose] public section

noncomputable section

open Idealize.ShloMosaic Idealize.ShloMosaic.TcCoe Idealize.SL.Sem
open Idealize.ShloMosaic.StableHlo Idealize.ShloMosaic.Pipeline

namespace Cert.ReferenceIdeal.Scan

open Cert.ReferenceIdeal Cert.ReferenceIdeal.Gen Cert.ReferenceIdeal.Value Cert.Recur

/-- Where a trip's slices of the stacked chunks start. -/
abbrev start6 (ctr : (⟨S_, .i32⟩ : BufTy).Contents (Elt Ideal)) : Fin 6 → Int := fun k =>
  (((![ctr, constantI S_ 32 0#32, constantI S_ 32 0#32, constantI S_ 32 0#32, constantI S_ 32 0#32, constantI S_ 32 0#32] :
    Fin 6 → (⟨S_, .i32⟩ : BufTy).Contents (Elt Ideal))) k (Shape.Idx.first h_S_)).toInt

/-- Where a trip's slice of the stacked log decays starts. -/
abbrev start4 (ctr : (⟨S_, .i32⟩ : BufTy).Contents (Elt Ideal)) : Fin 4 → Int := fun k =>
  (((![ctr, constantI S_ 32 0#32, constantI S_ 32 0#32, constantI S_ 32 0#32] :
    Fin 4 → (⟨S_, .i32⟩ : BufTy).Contents (Elt Ideal))) k (Shape.Idx.first h_S_)).toInt

/-- The loop's counter before trip `k`. -/
def counter (k : ℕ) : (⟨S_, .i32⟩ : BufTy).Contents (Elt Ideal) := fun _ => BitVec.ofNat 32 k

/-- The slices of trip `k` start at chunk `k`. -/
theorem clamp6 {k : ℕ} (hk : k < 128) (h : S128x2x2x4x128x128.Slices (fun _ => 0) S1x2x2x4x128x128) (a : Fin 6) :
    Host.clampedStart S128x2x2x4x128x128 S1x2x2x4x128x128 h.1 (start6 (counter k)) a = (![k, 0, 0, 0, 0, 0] : Fin 6 → ℕ) a := by
  refine Host.clampedStart_of_le _ _ _ _ ?_ ?_
  · fin_cases a
    · exact toInt_ofNat_of_lt (by omega)
    all_goals rfl
  · fin_cases a
    · show k + 1 ≤ 128; omega
    all_goals exact Nat.le_of_eq (Nat.zero_add _)

/-- The same for the log decays. -/
theorem clamp4 {k : ℕ} (hk : k < 128) (h : S128x2x2x4.Slices (fun _ => 0) S1x2x2x4) (a : Fin 4) :
    Host.clampedStart S128x2x2x4 S1x2x2x4 h.1 (start4 (counter k)) a = (![k, 0, 0, 0] : Fin 4 → ℕ) a := by
  refine Host.clampedStart_of_le _ _ _ _ ?_ ?_
  · fin_cases a
    · exact toInt_ofNat_of_lt (by omega)
    all_goals rfl
  · fin_cases a
    · show k + 1 ≤ 128; omega
    all_goals exact Nat.le_of_eq (Nat.zero_add _)

/-- One trip's chunk of a stacked quantity. -/
def pick (x : FVec Ideal S128x2x2x4x128x128 .f32) (ctr : (⟨S_, .i32⟩ : BufTy).Contents (Elt Ideal)) : FVec Ideal S2x2x4x128x128 .f32 :=
  shapeCast S2x2x4x128x128 (Host.dynamicSlice S1x2x2x4x128x128 x (start6 ctr) sliceFits_S128x2x2x4x128x128_S1x2x2x4x128x128)
    shapeCasts_S1x2x2x4x128x128_S2x2x4x128x128

/-- One trip's log decays. -/
def pickDecay (x : FVec Ideal S128x2x2x4 .f32) (ctr : (⟨S_, .i32⟩ : BufTy).Contents (Elt Ideal)) : FVec Ideal S2x2x4 .f32 :=
  shapeCast S2x2x4 (Host.dynamicSlice S1x2x2x4 x (start4 ctr) sliceFits_S128x2x2x4_S1x2x2x4) shapeCasts_S1x2x2x4_S2x2x4

/-- Trip `k` picks chunk `k`. -/
theorem pick_apply (x : FVec Ideal S128x2x2x4x128x128 .f32) {k : ℕ} (hk : k < 128) (d b : Fin 2) (h : Fin 4) (r z : Fin 128) :
    pick x (counter k) (ix5 d b h r z) = x (ix6 ⟨k, hk⟩ d b h r z) := by
  pointwise [pick]
  congr 2
  · exact Fin.ext (congrArg (· + 0) (clamp6 hk sliceFits_S128x2x2x4x128x128_S1x2x2x4x128x128 0))
  · exact Fin.ext ((congrArg (· + d.val) (clamp6 hk sliceFits_S128x2x2x4x128x128_S1x2x2x4x128x128 1)).trans (Nat.zero_add _))
  · exact Fin.ext ((congrArg (· + b.val) (clamp6 hk sliceFits_S128x2x2x4x128x128_S1x2x2x4x128x128 2)).trans (Nat.zero_add _))
  · exact Fin.ext ((congrArg (· + h.val) (clamp6 hk sliceFits_S128x2x2x4x128x128_S1x2x2x4x128x128 3)).trans (Nat.zero_add _))
  · exact Fin.ext ((congrArg (· + r.val) (clamp6 hk sliceFits_S128x2x2x4x128x128_S1x2x2x4x128x128 4)).trans (Nat.zero_add _))
  · exact Fin.ext ((congrArg (· + z.val) (clamp6 hk sliceFits_S128x2x2x4x128x128_S1x2x2x4x128x128 5)).trans (Nat.zero_add _))

/-- Trip `k` picks chunk `k`'s log decays. -/
theorem pickDecay_apply (x : FVec Ideal S128x2x2x4 .f32) {k : ℕ} (hk : k < 128) (d b : Fin 2) (h : Fin 4) :
    pickDecay x (counter k) (ix3 d b h) = x (ix4 ⟨k, hk⟩ d b h) := by
  pointwise [pickDecay]
  congr 2
  · exact Fin.ext (congrArg (· + 0) (clamp4 hk sliceFits_S128x2x2x4_S1x2x2x4 0))
  · exact Fin.ext ((congrArg (· + d.val) (clamp4 hk sliceFits_S128x2x2x4_S1x2x2x4 1)).trans (Nat.zero_add _))
  · exact Fin.ext ((congrArg (· + b.val) (clamp4 hk sliceFits_S128x2x2x4_S1x2x2x4 2)).trans (Nat.zero_add _))
  · exact Fin.ext ((congrArg (· + h.val) (clamp4 hk sliceFits_S128x2x2x4_S1x2x2x4 3)).trans (Nat.zero_add _))

/-- One trip's new values. -/
def freshV (u w : FVec Ideal S128x2x2x4x128x128 .f32) (ctr : (⟨S_, .i32⟩ : BufTy).Contents (Elt Ideal)) (s : FVec Ideal S2x2x4x128x128 .f32) :
    FVec Ideal S2x2x4x128x128 .f32 :=
  subf (pick u ctr) (Host.dotGeneral dot_S2x2x4x128x128_S2x2x4x128x128_S2x2x4x128x128_4_3_3_4_012_012 none (pick w ctr) s)

/-- One trip's outputs. -/
def emitV (q a u w : FVec Ideal S128x2x2x4x128x128 .f32) (ctr : (⟨S_, .i32⟩ : BufTy).Contents (Elt Ideal)) (s : FVec Ideal S2x2x4x128x128 .f32) :
    FVec Ideal S2x2x4x128x128 .f32 :=
  addf (Host.dotGeneral dot_S2x2x4x128x128_S2x2x4x128x128_S2x2x4x128x128_4_3_3_4_012_012 none (pick q ctr) s)
    (Host.dotGeneral dot_S2x2x4x128x128_S2x2x4x128x128_S2x2x4x128x128_4_3_3_4_012_012 none (pick a ctr) (freshV u w ctr s))

/-- One trip's states. -/
def nextV (t u w : FVec Ideal S128x2x2x4x128x128 .f32) (g : FVec Ideal S128x2x2x4 .f32) (ctr : (⟨S_, .i32⟩ : BufTy).Contents (Elt Ideal))
    (s : FVec Ideal S2x2x4x128x128 .f32) : FVec Ideal S2x2x4x128x128 .f32 :=
  addf (mulf s (broadcastInDim S2x2x4x128x128 ![0, 1, 2, 3, 4] bcast_S2x2x4x1x1_S2x2x4x128x128_0_1_2_3_4
      (broadcastInDim S2x2x4x1x1 ![0, 1, 2] bcast_S2x2x4_S2x2x4x1x1_0_1_2 (Host.exp (pickDecay g ctr)))))
    (Host.dotGeneral dot_S2x2x4x128x128_S2x2x4x128x128_S2x2x4x128x128_4_3_3_4_012_012 none (pick t ctr) (freshV u w ctr s))

/-- Chunk `k` of a chain, in the stacked quantities. -/
def chunkAt (q t u w a : FVec Ideal S128x2x2x4x128x128 .f32) (g : FVec Ideal S128x2x2x4 .f32) (k : Fin 128) (d b : Fin 2) (h : Fin 4) : Chunk where
  u r z := u (ix6 k d b h r z)
  w r z := w (ix6 k d b h r z)
  q r z := q (ix6 k d b h r z)
  a r z := a (ix6 k d b h r z)
  t r z := t (ix6 k d b h r z)
  g := g (ix4 k d b h)

/-- A trip's outputs, at an index. -/
theorem emitV_apply (q t u w a : FVec Ideal S128x2x2x4x128x128 .f32) (g : FVec Ideal S128x2x2x4 .f32) (s : FVec Ideal S2x2x4x128x128 .f32)
    {k : ℕ} (hk : k < 128) (d b : Fin 2) (h : Fin 4) (r z : Fin 128) :
    emitV q a u w (counter k) s (ix5 d b h r z) = emit (chunkAt q t u w a g ⟨k, hk⟩ d b h) (fun i j => s (ix5 d b h i j)) r z := by
  pointwise [emitV, freshV, emit, fresh, chunkAt, pick_apply _ hk]

/-- A trip's states, at an index. -/
theorem nextV_apply (q t u w a : FVec Ideal S128x2x2x4x128x128 .f32) (g : FVec Ideal S128x2x2x4 .f32) (s : FVec Ideal S2x2x4x128x128 .f32)
    {k : ℕ} (hk : k < 128) (d b : Fin 2) (h : Fin 4) (r z : Fin 128) :
    nextV t u w g (counter k) s (ix5 d b h r z) = next (chunkAt q t u w a g ⟨k, hk⟩ d b h) (fun i j => s (ix5 d b h i j)) r z := by
  pointwise [nextV, freshV, next, fresh, chunkAt, pick_apply _ hk, pickDecay_apply _ hk]

/-- A trip's update of the stacked outputs, at an index: the trip's row is new, the others stay. -/
theorem put_apply (x : FVec Ideal S128x2x2x4x128x128 .f32) (v : FVec Ideal S1x2x2x4x128x128 .f32) {k : ℕ} (hk : k < 128)
    (n : Fin 128) (d b : Fin 2) (h : Fin 4) (r z : Fin 128) :
    Host.dynamicUpdateSlice x v (start6 (counter k)) updateFits_S128x2x2x4x128x128_S1x2x2x4x128x128 (ix6 n d b h r z)
      = if n.val = k then v (ix6 0 d b h r z) else x (ix6 n d b h r z) := by
  have hc := clamp6 hk updateFits_S128x2x2x4x128x128_S1x2x2x4x128x128
  rw [Host.dynamicUpdateSlice_apply]
  by_cases e : n.val = k
  · rw [dif_pos, if_pos e]
    · congr 1
      funext a
      refine Fin.ext ?_
      show (ix6 n d b h r z a).val - Host.clampedStart S128x2x2x4x128x128 S1x2x2x4x128x128
        updateFits_S128x2x2x4x128x128_S1x2x2x4x128x128.1 (start6 (counter k)) a = (ix6 (0 : Fin 1) d b h r z a).val
      rw [hc a]
      fin_cases a
      · show n.val - k = 0; omega
      all_goals exact Nat.sub_zero _
    · intro a
      rw [hc a]
      fin_cases a
      · show k ≤ n.val ∧ n.val < k + 1; omega
      · show 0 ≤ d.val ∧ d.val < 0 + 2; omega
      · show 0 ≤ b.val ∧ b.val < 0 + 2; omega
      · show 0 ≤ h.val ∧ h.val < 0 + 4; omega
      · show 0 ≤ r.val ∧ r.val < 0 + 128; omega
      · show 0 ≤ z.val ∧ z.val < 0 + 128; omega
  · rw [dif_neg, if_neg e]
    intro hall
    have h0 := hall 0
    rw [hc 0] at h0
    have h1 : k ≤ n.val ∧ n.val < k + 1 := h0
    omega

/-- The stacked chunks, by direction: the forward one's as they come, the backward one's from the last. -/
theorem stacked_apply (x : Vec Ideal S2x128x2x4x128x128 .f32) (n : Fin 128) (d b : Fin 2) (h : Fin 4) (r z : Fin 128) :
    stacked x (ix6 n d b h r z) = x (ix6 d ⟨place d n.val, by unfold place; split <;> omega⟩ b h r z) := by
  fin_cases d
  · exact stacked_0 x n b h r z
  · refine (stacked_1 x n b h r z).trans (congrArg (fun p => x (ix6 1 p b h r z)) (Fin.ext ?_))
    show 128 - (n.val + 1) = 127 - n.val
    omega

/-- The same for the log decays. -/
theorem stackedDecays_apply (x : Vec Ideal S2x128x2x4 .f32) (n : Fin 128) (d b : Fin 2) (h : Fin 4) :
    stackedDecays x (ix4 n d b h) = x (ix4 d ⟨place d n.val, by unfold place; split <;> omega⟩ b h) := by
  fin_cases d
  · exact stackedDecays_0 x n b h
  · refine (stackedDecays_1 x n b h).trans (congrArg (fun p => x (ix4 1 p b h)) (Fin.ext ?_))
    show 128 - (n.val + 1) = 127 - n.val
    omega

variable (m : (ℓ : Loc nD τ sig) → Buf (Elt Ideal) ℓ) (c : Dev nD)

/-- The recurrence's data, from the reference's arguments. -/
def data : Data :=
  dataOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The chunk a trip reads from what the loop starts from. -/
def chunkIn (X : Valuation τ sig (Elt Ideal)) (n : Fin 128) (d b : Fin 2) (h : Fin 4) : Chunk :=
  chunkAt (X (Proc.devRef .tc main_v67_0)) (X (Proc.devRef .tc main_v67_1)) (X (Proc.devRef .tc main_v67_2))
    (X (Proc.devRef .tc main_v67_3)) (X (Proc.devRef .tc main_v67_4)) (X (Proc.devRef .tc main_v67_5)) n d b h

/-- It is the recurrence's. -/
theorem chunk_entry (n : Fin 128) (d b : Fin 2) (h : Fin 4) :
    chunkIn (entryContents preI m c) n d b h = (data m c).chunk d b h n.val := by
  unfold chunkIn
  rw [entry_q, entry_t, entry_u, entry_w, entry_a, entry_g]
  refine Chunk.ext ?_ ?_ ?_ ?_ ?_ ?_
  iterate 4 exact funext fun r => funext fun z => (stacked_apply _ n d b h r z).trans (rowsOf_apply _ d b h _ r z)
  · exact funext fun r => funext fun z => (stacked_apply _ n d b h r z).trans (colsOf_apply _ d b h _ r z)
  · exact (stackedDecays_apply _ n d b h).trans (decays_apply _ d b h _)

/-- What the loop holds before trip `k`: the chunks it started with, the counter, every chain's state, and the outputs
    of the trips before. -/
structure Holds (X : Valuation τ sig (Elt Ideal)) (k : ℕ) : Prop where
  /-- the chunks -/
  chunks : ∀ (n : Fin 128) (d b : Fin 2) (h : Fin 4), chunkIn X n d b h = (data m c).chunk d b h n.val
  /-- the counter -/
  count : X (Proc.devRef .tc main_v67_6) = counter k
  /-- the states -/
  states : ∀ (d b : Fin 2) (h : Fin 4) (r z : Fin 128),
    (X (Proc.devRef .tc main_v67_7) : FVec Ideal S2x2x4x128x128 .f32) (ix5 d b h r z) = (data m c).before d b h k r z
  /-- the outputs -/
  outs : ∀ (n : Fin 128), n.val < k → ∀ (d b : Fin 2) (h : Fin 4) (r z : Fin 128),
    (X (Proc.devRef .tc main_v67_8) : FVec Ideal S128x2x2x4x128x128 .f32) (ix6 n d b h r z)
      = emit ((data m c).chunk d b h n.val) ((data m c).before d b h n.val) r z

/-- The 16 chains, by direction, batch entry and head. -/
theorem chains_apply (x : FVec Ideal S16x128x128 .f32) (d b : Fin 2) (h : Fin 4) (r z : Fin 128) :
    shapeCast S2x2x4x128x128 x shapeCasts_S16x128x128_S2x2x4x128x128 (ix5 d b h r z)
      = x (ix3 ⟨8 * d.val + 4 * b.val + h.val, by omega⟩ r z) := by
  pointwise []
  congr 2
  exact Fin.ext (by dsimp only; omega)

/-- The entry states, by chain. -/
theorem states_entry (d b : Fin 2) (h : Fin 4) (r z : Fin 128) :
    (entryContents preI m c (Proc.devRef .tc main_v67_7) : FVec Ideal S2x2x4x128x128 .f32) (ix5 d b h r z)
      = (data m c).before d b h 0 r z := by
  rw [entry_s]
  exact chains_apply _ d b h r z

/-- It holds before the first trip. -/
theorem holds_zero : Holds m c (entryContents preI m c) 0 where
  chunks := chunk_entry m c
  count := ctr_entry m c
  states := states_entry m c
  outs := fun n hn => absurd hn (Nat.not_lt_zero _)

/-- One trip's states, by the trip's own text. -/
theorem step_states (X : Valuation τ sig (Elt Ideal)) : step_main_v67_7 X
    = nextV (X (Proc.devRef .tc main_v67_1)) (X (Proc.devRef .tc main_v67_2)) (X (Proc.devRef .tc main_v67_3))
        (X (Proc.devRef .tc main_v67_5)) (X (Proc.devRef .tc main_v67_6)) (X (Proc.devRef .tc main_v67_7)) := by
  unfold step_main_v67_7 res_main_while0b_v87
  rfl

/-- One trip's stacked outputs, by the trip's own text. -/
theorem step_outs (X : Valuation τ sig (Elt Ideal)) : step_main_v67_8 X
    = Host.dynamicUpdateSlice (X (Proc.devRef .tc main_v67_8)) (broadcastInDim S1x2x2x4x128x128 ![1, 2, 3, 4, 5]
        bcast_S2x2x4x128x128_S1x2x2x4x128x128_1_2_3_4_5 (emitV (X (Proc.devRef .tc main_v67_0)) (X (Proc.devRef .tc main_v67_4))
          (X (Proc.devRef .tc main_v67_2)) (X (Proc.devRef .tc main_v67_3)) (X (Proc.devRef .tc main_v67_6)) (X (Proc.devRef .tc main_v67_7))))
        (start6 (X (Proc.devRef .tc main_v67_6))) updateFits_S128x2x2x4x128x128_S1x2x2x4x128x128 := by
  unfold step_main_v67_8 res_main_while0b_v87
  rfl

/-- The chunks are the same after a trip. -/
theorem chunkIn_step (X : Valuation τ sig (Elt Ideal)) (n : Fin 128) (d b : Fin 2) (h : Fin 4) :
    chunkIn (STEP X) n d b h = chunkIn X n d b h := by
  unfold chunkIn
  rw [STEP_main_v67_0, STEP_main_v67_1, STEP_main_v67_2, STEP_main_v67_3, STEP_main_v67_4, STEP_main_v67_5]

variable {m c}

/-- A trip keeps it. -/
theorem Holds.step {X : Valuation τ sig (Elt Ideal)} {k : ℕ} (hX : Holds m c X k) (hk : k < 128) : Holds m c (STEP X) (k + 1) where
  chunks n d b h := (chunkIn_step X n d b h).trans (hX.chunks n d b h)
  count := by
    rw [STEP_main_v67_6]
    unfold step_main_v67_6
    rw [hX.count]
    exact funext fun _ => (BitVec.ofNat_add (n := 32) k 1).symm
  states d b h r z := by
    rw [STEP_main_v67_7, step_states, hX.count]
    refine (nextV_apply (X (Proc.devRef .tc main_v67_0)) _ _ _ (X (Proc.devRef .tc main_v67_4)) _ _ hk d b h r z).trans ?_
    show next (chunkIn X ⟨k, hk⟩ d b h) _ r z = next ((data m c).chunk d b h k) ((data m c).before d b h k) r z
    rw [hX.chunks]
    exact congrArg (fun s => next _ s r z) (funext fun i => funext fun j => hX.states d b h i j)
  outs n hn d b h r z := by
    rw [STEP_main_v67_8, step_outs, hX.count, put_apply _ _ hk]
    split
    · rename_i e
      subst e
      refine Eq.trans ?_ ((emitV_apply (X (Proc.devRef .tc main_v67_0)) (X (Proc.devRef .tc main_v67_1)) (X (Proc.devRef .tc main_v67_2))
        (X (Proc.devRef .tc main_v67_3)) (X (Proc.devRef .tc main_v67_4)) (X (Proc.devRef .tc main_v67_5)) (X (Proc.devRef .tc main_v67_7))
        hk d b h r z).trans ?_)
      · pointwise []
      · show emit (chunkIn X ⟨n.val, hk⟩ d b h) _ r z = _
        rw [hX.chunks]
        exact congrArg (fun s => emit _ s r z) (funext fun i => funext fun j => hX.states d b h i j)
    · exact hX.outs n (by omega) d b h r z

variable (m c)

/-- It holds before every trip. -/
theorem holds : ∀ k : ℕ, k ≤ 128 → Holds m c (STEP^[k] (entryContents preI m c)) k
  | 0, _ => holds_zero m c
  | k + 1, hk => by
    rw [Function.iterate_succ_apply']
    exact (holds k (by omega)).step (by omega)

/-- What the forward result is. -/
def forward : Vec Ideal S2x16384x512 .bf16 := fun y => (data m c).out 0 (y 0) (y 1) (y 2)

/-- What the backward result is. -/
def backward : Vec Ideal S2x16384x512 .bf16 := fun y => (data m c).out 1 (y 0) (y 1) (y 2)

/-- The reference's forward result. -/
theorem forward_eq : out_main_v72 (STEP^[128] (entryContents preI m c)) = forward m c := by
  have H := (holds m c 128 le_rfl).outs
  funext y
  obtain ⟨b, t, z, rfl⟩ : ∃ (b : Fin 2) (t : Fin 16384) (z : Fin 512), y = ix3 b t z := ⟨y 0, y 1, y 2, eq_ix3 y⟩
  unfold out_main_v72
  generalize STEP^[128] (entryContents preI m c) (Proc.devRef .tc main_v67_8) = V at H ⊢
  refine Eq.trans ?_ (H ⟨t.val / 128, by omega⟩ (by dsimp only; omega) 0 b ⟨z.val / 128, by omega⟩ ⟨t.val % 128, by omega⟩ ⟨z.val % 128, by omega⟩)
  pointwise []

/-- The reference's backward result. -/
theorem backward_eq : out_main_v78 (STEP^[128] (entryContents preI m c)) = backward m c := by
  have H := (holds m c 128 le_rfl).outs
  funext y
  obtain ⟨b, t, z, rfl⟩ : ∃ (b : Fin 2) (t : Fin 16384) (z : Fin 512), y = ix3 b t z := ⟨y 0, y 1, y 2, eq_ix3 y⟩
  unfold out_main_v78
  generalize STEP^[128] (entryContents preI m c) (Proc.devRef .tc main_v67_8) = V at H ⊢
  refine Eq.trans ?_ (H ⟨127 - t.val / 128, by omega⟩ (by dsimp only; omega) 1 b ⟨z.val / 128, by omega⟩ ⟨t.val % 128, by omega⟩ ⟨z.val % 128, by omega⟩)
  pointwise []
  refine congrArg (fun p : Fin 128 => V (ix6 p 1 b ⟨z.val / 128, by omega⟩ ⟨t.val % 128, by omega⟩ ⟨z.val % 128, by omega⟩)) (Fin.ext ?_)
  show 128 - (t.val / 128 + 1) = 127 - t.val / 128
  omega

/-- What the final states are. -/
def final : Vec Ideal S16x128x128 .f32 := fun y =>
  (data m c).before ⟨(y 0).val / 8, by have : (y 0).val < 16 := (y 0).isLt; omega⟩ ⟨(y 0).val / 4 % 2, by omega⟩ ⟨(y 0).val % 4, by omega⟩ 128 (y 1) (y 2)

/-- The reference's final states. -/
theorem final_eq : out_main_v79 (STEP^[128] (entryContents preI m c)) = final m c := by
  have H := (holds m c 128 le_rfl).states
  funext y
  obtain ⟨n, r, z, rfl⟩ : ∃ (n : Fin 16) (r z : Fin 128), y = ix3 n r z := ⟨y 0, y 1, y 2, eq_ix3 y⟩
  unfold out_main_v79
  generalize STEP^[128] (entryContents preI m c) (Proc.devRef .tc main_v67_7) = V at H ⊢
  refine Eq.trans ?_ (H ⟨n.val / 8, by omega⟩ ⟨n.val / 4 % 2, by omega⟩ ⟨n.val % 4, by omega⟩ r z)
  pointwise []

end Cert.ReferenceIdeal.Scan

end
-- ==== Proof.Norm.lean ====
/- The adaptive norm of a row of the residual stream, in extended reals. -/
module

public import Idealize.ShloMosaic.PureOps.Ideal.Laws
public import Idealize.ShloMosaic.Lib.Pointwise

@[expose] public section

noncomputable section

open Idealize.ShloMosaic
open scoped BigOperators

namespace Cert.Norm

/-- The reciprocal root mean square of a row of 1024 entries. -/
def scale (x : Fin 1024 → EReal) : EReal :=
  Ideal.rsqrt (Ideal.div (∑ k : Fin 1024, x k * x k) (Ideal.ofBits .f32 1149239296#32) + Ideal.ofBits .f32 897988541#32)

/-- A row normalized, weighted, then scaled and shifted by the conditioning. -/
def row (x w sc sh : Fin 1024 → EReal) (d : Fin 1024) : EReal := x d * scale x * w d * (1 + sc d) + sh d

/-- The normalized residual stream: batch entry, time step, component. -/
def stream (x : FVec Ideal (⟨3, ![2, 16384, 1024]⟩ : Shape) .f32) (w : FVec Ideal (⟨1, ![1024]⟩ : Shape) .f32)
    (sc sh : FVec Ideal (⟨3, ![2, 1, 1024]⟩ : Shape) .f32) (b : Fin 2) (l : Fin 16384) : Fin 1024 → EReal :=
  row (fun k => x (ix3 b l k)) (fun k => w (ix1 k)) (fun k => sc (ix3 b 0 k)) (fun k => sh (ix3 b 0 k))

/-- Key `k` of product `p`, of the folded keys, against a row. -/
def keyDot (wk : FVec Ideal (⟨2, ![2048, 1024]⟩ : Shape) .bf16) (p : Fin 16) (k : Fin 128) (v : Fin 1024 → EReal) : EReal :=
  ∑ d : Fin 1024, wk (ix2 ⟨p.val * 128 + k.val, by omega⟩ d) * v d

/-- Sub-key `k` of product `p` against the projection of a row. -/
def projected (wq : FVec Ideal (⟨2, ![1024, 2048]⟩ : Shape) .f32) (keys : FVec Ideal (⟨4, ![8, 2, 128, 128]⟩ : Shape) .f32) (p : Fin 16) (k : Fin 128)
    (v : Fin 1024 → EReal) : EReal :=
  ∑ e : Fin 128, keys (ix4 (⟨p.val / 2, by omega⟩ : Fin 8) (⟨p.val % 2, by omega⟩ : Fin 2) k e)
    * ∑ d : Fin 1024, v d * wq (ix2 d (⟨p.val * 128 + e.val, by omega⟩ : Fin 2048))

end Cert.Norm

end
-- ==== Proof.Query.lean ====
/- The kernel that normalizes the stream and scores it against the keys: what its two result arrays end holding. -/
module

public import proofs.«01_k».proof.Proof.Norm
public import proofs.«01_k».proof.Proof.Gen.Kernel4Ideal.Value
public import Idealize.ShloMosaic.Lib.StableHlo.RunRead

@[expose] public section

noncomputable section

open Idealize.ShloMosaic Idealize.ShloMosaic.TcCoe Idealize.SL.Sem

namespace Cert.Kernel4Ideal.Query

open Cert.Kernel4Ideal Cert.Kernel4Ideal.Gen Cert.Kernel4Ideal.Value Cert.Norm

/-- The normalized tile, transposed. -/
theorem pay2_at (x : FVec Ideal S1x1024x1024 .f32) (nw : FVec Ideal S1x1024 .f32) (sc sh : FVec Ideal S1x1x1024 .f32)
    (d r : Fin 1024) : (k0_pay2 (F := Ideal) x nw sc sh (ix2 d r) : EReal)
      = row (fun k => x (ix3 0 r k)) (fun k => nw (ix2 0 k)) (fun k => sc (ix3 0 0 k)) (fun k => sh (ix3 0 0 k)) d := by
  pointwise [k0_pay2]
  rfl

/-- The normalized tile, as stored. -/
theorem pay3_at (x : FVec Ideal S1x1024x1024 .f32) (nw : FVec Ideal S1x1024 .f32) (sc sh : FVec Ideal S1x1x1024 .f32)
    (d r : Fin 1024) : (k0_pay3 (F := Ideal) x nw sc sh (ix3 0 d r) : EReal)
      = row (fun k => x (ix3 0 r k)) (fun k => nw (ix2 0 k)) (fun k => sc (ix3 0 0 k)) (fun k => sh (ix3 0 0 k)) d := by
  rw [← pay2_at]
  pointwise [k0_pay3]

/-- The scores of the tile: every key against every normalized row. -/
theorem pay1_at (x : FVec Ideal S1x1024x1024 .f32) (nw : FVec Ideal S1x1024 .f32) (sc sh : FVec Ideal S1x1x1024 .f32)
    (wk : FVec Ideal S2048x1024 .bf16) (p : Fin 16) (k : Fin 128) (r : Fin 1024) :
    (k0_pay1 (F := Ideal) (k0_pay4 x nw sc sh wk) (ix4 0 p k r) : EReal)
      = keyDot wk p k
        (row (fun k => x (ix3 0 r k)) (fun k => nw (ix2 0 k)) (fun k => sc (ix3 0 0 k)) (fun k => sh (ix3 0 0 k))) := by
  pointwise [k0_pay1, k0_pay4]
  refine Finset.sum_congr rfl fun d _ => ?_
  rw [pay2_at]

/-- The first result's block: the normalized tile. -/
theorem out5_at (x : FVec Ideal S1x1024x1024 .f32) (nw : FVec Ideal S1x1024 .f32) (sc sh : FVec Ideal S1x1x1024 .f32)
    (wk : FVec Ideal S2048x1024 .bf16) (d r : Fin 1024) : (out0_5 (F := Ideal) x nw sc sh wk (ix3 0 d r) : EReal)
      = row (fun k => x (ix3 0 r k)) (fun k => nw (ix2 0 k)) (fun k => sc (ix3 0 0 k)) (fun k => sh (ix3 0 0 k)) d := by
  unfold out0_5
  rw [View.canon_unit_zero (by decide), View.ld_unit_zero (by decide), View.ld_unit_zero (by decide),
    View.ld_unit_zero (by decide), View.ld_unit_zero (by decide), pay3_at]

/-- The second result's block: the scores of the tile. -/
theorem out6_at (x : FVec Ideal S1x1024x1024 .f32) (nw : FVec Ideal S1x1024 .f32) (sc sh : FVec Ideal S1x1x1024 .f32)
    (wk : FVec Ideal S2048x1024 .bf16) (p : Fin 16) (k : Fin 128) (r : Fin 1024) :
    (out0_6 (F := Ideal) x nw sc sh wk (ix4 0 p k r) : EReal)
      = keyDot wk p k
        (row (fun k => x (ix3 0 r k)) (fun k => nw (ix2 0 k)) (fun k => sc (ix3 0 0 k)) (fun k => sh (ix3 0 0 k))) := by
  unfold out0_6
  rw [View.canon_unit_zero (by decide), View.ld_unit_zero (by decide), View.ld_unit_zero (by decide),
    View.ld_unit_zero (by decide), View.ld_unit_zero (by decide), View.ld_unit_zero (by decide), pay1_at]

variable (m : (ℓ : Loc nD τ sig) → Buf (Elt Ideal) ℓ) (c : Dev nD)

/-- The normalized stream of the kernel's arguments. -/
def hidden (b : Fin 2) (l : Fin 16384) : Fin 1024 → EReal :=
  stream (m ((c : Thread nD τ).loc main_arg0)) (m ((c : Thread nD τ).loc main_arg1)) (m ((c : Thread nD τ).loc main_arg2))
    (m ((c : Thread nD τ).loc main_arg3)) b l

/-- The normalized stream, transposed. -/
def normed : Vec Ideal S2x1024x16384 .bf16 := fun y => hidden m c (y 0) (y 2) (y 1)

/-- The scores: every key against every row of the normalized stream. -/
def scores : Vec Ideal S2x16x128x16384 .f32 := fun y =>
  keyDot (m ((c : Thread nD τ).loc main_arg4)) (y 1) (y 2) (hidden m c (y 0) (y 3))

/-- An index of a block whose first axis has one entry. -/
theorem eq_ix3_one (x : S1x1024x1024.Idx) : x = ix3 (n0 := 1) (n1 := 1024) (n2 := 1024) 0 (x 1) (x 2) := by
  refine (eq_ix3 x).trans ?_
  congr 1
  exact Subsingleton.elim _ _

/-- An index of a block of scores, whose first axis has one entry. -/
theorem eq_ix4_one (x : S1x16x128x1024.Idx) : x = ix4 (n0 := 1) (n1 := 16) (n2 := 128) (n3 := 1024) 0 (x 1) (x 2) (x 3) := by
  refine (eq_ix4 x).trans ?_
  congr 1
  exact Subsingleton.elim _ _

/-- The batch entry of a point. -/
def bat (t : Fin cfg0.N) : Fin 2 := ⟨t.val / 16, by have h : t.val < 32 := lt_of_lt_of_eq t.isLt N_0; omega⟩

/-- The time step of row `r` of a point's tile. -/
def step (t : Fin cfg0.N) (r : Fin 1024) : Fin 16384 := ⟨t.val % 16 * 1024 + r.val, by omega⟩

/-- Where the windows stand at each point. -/
theorem index_all : ∀ t : Fin grid0.N,
    win0_0.index t = ![t.val / 16, t.val % 16, 0] ∧ win0_1.index t = ![0, 0] ∧ win0_2.index t = ![t.val / 16, 0, 0]
    ∧ win0_3.index t = ![t.val / 16, 0, 0] ∧ win0_4.index t = ![0, 0] ∧ win0_5.index t = ![t.val / 16, 0, t.val % 16]
    ∧ win0_6.index t = ![t.val / 16, 0, 0, t.val % 16] := by decide +kernel

/-- The weight as the region finds it: the argument as one row. -/
theorem weight_entry : V m c main_v0
    = shapeCast S1x1024 (m ((c : Thread nD τ).loc main_arg1) : FVec Ideal S1024 .f32) shapeCasts_S1024_S1x1024 := by
  after_reads_simp
  rfl

/-- The block of the stream. -/
theorem block_x (t : Fin cfg0.N) (r k : Fin 1024) : (iblk m c 0 t : Vec Ideal S1x1024x1024 .f32) (ix3 0 r k)
    = (m ((c : Thread nD τ).loc main_arg0) : Vec Ideal S2x16384x1024 .f32) (ix3 (bat t) (step t r) k) := by
  refine (congrFun (V_main_arg0 m c) _).trans (congrArg _ (funext fun a => Fin.ext ?_))
  show win0_0.index t a * S1x1024x1024.size a + 1 * _ = _
  rw [(index_all t).1]
  fin_cases a
  · show t.val / 16 * 1 + 1 * 0 = t.val / 16; omega
  · show t.val % 16 * 1024 + 1 * r.val = t.val % 16 * 1024 + r.val; omega
  · show 0 * 1024 + 1 * k.val = k.val; omega

/-- The block of the weight. -/
theorem block_w (t : Fin cfg0.N) (k : Fin 1024) : (iblk m c 1 t : Vec Ideal S1x1024 .f32) (ix2 0 k)
    = (m ((c : Thread nD τ).loc main_arg1) : Vec Ideal S1024 .f32) (ix1 k) := by
  have e : (iblk m c 1 t : Vec Ideal S1x1024 .f32) (ix2 0 k) = (V m c main_v0 : Vec Ideal S1x1024 .f32) (ix2 0 k) := by
    refine congrArg (V m c main_v0 : Vec Ideal S1x1024 .f32) (funext fun a => Fin.ext ?_)
    show win0_1.index t a * S1x1024.size a + 1 * _ = _
    rw [(index_all t).2.1]
    fin_cases a
    · show 0 * 1 + 1 * 0 = 0; omega
    · show 0 * 1024 + 1 * k.val = k.val; omega
  rw [e, weight_entry]
  generalize (m ((c : Thread nD τ).loc main_arg1) : FVec Ideal S1024 .f32) = w
  pointwise

/-- The block of the scale. -/
theorem block_sc (t : Fin cfg0.N) (k : Fin 1024) : (iblk m c 2 t : Vec Ideal S1x1x1024 .f32) (ix3 0 0 k)
    = (m ((c : Thread nD τ).loc main_arg2) : Vec Ideal S2x1x1024 .f32) (ix3 (bat t) 0 k) := by
  refine (congrFun (V_main_arg2 m c) _).trans (congrArg _ (funext fun a => Fin.ext ?_))
  show win0_2.index t a * S1x1x1024.size a + 1 * _ = _
  rw [(index_all t).2.2.1]
  fin_cases a
  · show t.val / 16 * 1 + 1 * 0 = t.val / 16; omega
  · show 0 * 1 + 1 * 0 = 0; omega
  · show 0 * 1024 + 1 * k.val = k.val; omega

/-- The block of the shift. -/
theorem block_sh (t : Fin cfg0.N) (k : Fin 1024) : (iblk m c 3 t : Vec Ideal S1x1x1024 .f32) (ix3 0 0 k)
    = (m ((c : Thread nD τ).loc main_arg3) : Vec Ideal S2x1x1024 .f32) (ix3 (bat t) 0 k) := by
  refine (congrFun (V_main_arg3 m c) _).trans (congrArg _ (funext fun a => Fin.ext ?_))
  show win0_3.index t a * S1x1x1024.size a + 1 * _ = _
  rw [(index_all t).2.2.2.1]
  fin_cases a
  · show t.val / 16 * 1 + 1 * 0 = t.val / 16; omega
  · show 0 * 1 + 1 * 0 = 0; omega
  · show 0 * 1024 + 1 * k.val = k.val; omega

/-- The block of the keys. -/
theorem block_k (t : Fin cfg0.N) (r : Fin 2048) (k : Fin 1024) : (iblk m c 4 t : Vec Ideal S2048x1024 .bf16) (ix2 r k)
    = (m ((c : Thread nD τ).loc main_arg4) : Vec Ideal S2048x1024 .bf16) (ix2 r k) := by
  refine (congrFun (V_main_arg4 m c) _).trans (congrArg _ (funext fun a => Fin.ext ?_))
  show win0_4.index t a * S2048x1024.size a + 1 * _ = _
  rw [(index_all t).2.2.2.2.1]
  fin_cases a
  · show 0 * 2048 + 1 * r.val = r.val; omega
  · show 0 * 1024 + 1 * k.val = k.val; omega

/-- A row of the tile a point normalizes is the row of the normalized stream. -/
theorem row_eq (t : Fin cfg0.N) (r : Fin 1024) :
    row (fun k => (iblk m c 0 t : Vec Ideal S1x1024x1024 .f32) (ix3 0 r k)) (fun k => (iblk m c 1 t : Vec Ideal S1x1024 .f32) (ix2 0 k))
      (fun k => (iblk m c 2 t : Vec Ideal S1x1x1024 .f32) (ix3 0 0 k)) (fun k => (iblk m c 3 t : Vec Ideal S1x1x1024 .f32) (ix3 0 0 k))
    = hidden m c (bat t) (step t r) := by
  simp only [block_x, block_w, block_sc, block_sh]
  rfl

/-- The first result array ends holding the normalized stream, transposed. -/
theorem normed_eq : (dats m 0 c).arrAt 5 cfg0.N = normed m c :=
  (dats m 0 c).arrAt_eq_of_cover 5 (normed m c)
    (fun t _ => by
      rw [flushed5]
      funext x
      have e : (((cfg0.win 5).blk t).view.read (Elt Ideal) (normed m c)) x
          = normed m c (ix3 (n0 := 2) (n1 := 1024) (n2 := 16384) (bat t) (x 1) (step t (x 2))) := by
        refine congrArg (normed m c) (funext fun a => Fin.ext ?_)
        show win0_5.index t a * S1x1024x1024.size a + 1 * (x a).val = _
        rw [(index_all t).2.2.2.2.2.1]
        have h0 : (x 0).val < 1 := (x 0).isLt
        fin_cases a
        · show t.val / 16 * 1 + 1 * (x 0).val = t.val / 16; omega
        · show 0 * 1024 + 1 * (x 1).val = (x 1).val; omega
        · show t.val % 16 * 1024 + 1 * (x 2).val = t.val % 16 * 1024 + (x 2).val; omega
      rw [e]
      exact (congrArg _ (eq_ix3_one x)).trans ((out5_at _ _ _ _ _ (x 1) (x 2)).trans (congrFun (row_eq m c t (x 2)) (x 1))))
    (fun i => by
      have h0 : (i 0).val < 2 := (i 0).isLt
      have h1 : (i 1).val < 1024 := (i 1).isLt
      have h2 : (i 2).val < 16384 := (i 2).isLt
      have hN : cfg0.N = 32 := N_0
      obtain ⟨t, ht⟩ : ∃ t : Fin cfg0.N, t.val = (i 0).val * 16 + (i 2).val / 1024 :=
        ⟨⟨(i 0).val * 16 + (i 2).val / 1024, by omega⟩, rfl⟩
      refine ⟨t, flush0_5 t, ?_⟩
      show i ∈ ((View.whole main_v1_0).slice (win0_5.rect t)).set
      rw [View.set_slice_whole, Rect.mem_set_unit]
      intro a
      show win0_5.index t a * S1x1024x1024.size a ≤ (i a).val ∧ (i a).val < win0_5.index t a * S1x1024x1024.size a + S1x1024x1024.size a
      rw [(index_all t).2.2.2.2.2.1]
      fin_cases a
      · show t.val / 16 * 1 ≤ (i 0).val ∧ (i 0).val < t.val / 16 * 1 + 1; omega
      · show 0 * 1024 ≤ (i 1).val ∧ (i 1).val < 0 * 1024 + 1024; omega
      · show t.val % 16 * 1024 ≤ (i 2).val ∧ (i 2).val < t.val % 16 * 1024 + 1024; omega)

/-- The scores of the tile a point normalizes are the scores of the stream. -/
theorem score_block (t : Fin cfg0.N) (p : Fin 16) (k : Fin 128) (r : Fin 1024) :
    keyDot (iblk m c 4 t) p k
      (row (fun k => (iblk m c 0 t : Vec Ideal S1x1024x1024 .f32) (ix3 0 r k)) (fun k => (iblk m c 1 t : Vec Ideal S1x1024 .f32) (ix2 0 k))
        (fun k => (iblk m c 2 t : Vec Ideal S1x1x1024 .f32) (ix3 0 0 k)) (fun k => (iblk m c 3 t : Vec Ideal S1x1x1024 .f32) (ix3 0 0 k)))
    = keyDot (m ((c : Thread nD τ).loc main_arg4)) p k (hidden m c (bat t) (step t r)) := by
  rw [row_eq]
  exact Finset.sum_congr rfl fun d _ => congrArg (fun e : EReal => e * hidden m c (bat t) (step t r) d) (block_k m c t _ d)

/-- The second result array ends holding the scores. -/
theorem scores_eq : (dats m 0 c).arrAt 6 cfg0.N = scores m c :=
  (dats m 0 c).arrAt_eq_of_cover 6 (scores m c)
    (fun t _ => by
      rw [flushed6]
      funext x
      have e : (((cfg0.win 6).blk t).view.read (Elt Ideal) (scores m c)) x
          = scores m c (ix4 (n0 := 2) (n1 := 16) (n2 := 128) (n3 := 16384) (bat t) (x 1) (x 2) (step t (x 3))) := by
        refine congrArg (scores m c) (funext fun a => Fin.ext ?_)
        show win0_6.index t a * S1x16x128x1024.size a + 1 * (x a).val = _
        rw [(index_all t).2.2.2.2.2.2]
        have h0 : (x 0).val < 1 := (x 0).isLt
        fin_cases a
        · show t.val / 16 * 1 + 1 * (x 0).val = t.val / 16; omega
        · show 0 * 16 + 1 * (x 1).val = (x 1).val; omega
        · show 0 * 128 + 1 * (x 2).val = (x 2).val; omega
        · show t.val % 16 * 1024 + 1 * (x 3).val = t.val % 16 * 1024 + (x 3).val; omega
      rw [e]
      exact (congrArg _ (eq_ix4_one x)).trans ((out6_at _ _ _ _ _ (x 1) (x 2) (x 3)).trans (score_block m c t (x 1) (x 2) (x 3))))
    (fun i => by
      have h0 : (i 0).val < 2 := (i 0).isLt
      have h1 : (i 1).val < 16 := (i 1).isLt
      have h2 : (i 2).val < 128 := (i 2).isLt
      have h3 : (i 3).val < 16384 := (i 3).isLt
      have hN : cfg0.N = 32 := N_0
      obtain ⟨t, ht⟩ : ∃ t : Fin cfg0.N, t.val = (i 0).val * 16 + (i 3).val / 1024 :=
        ⟨⟨(i 0).val * 16 + (i 3).val / 1024, by omega⟩, rfl⟩
      refine ⟨t, flush0_6 t, ?_⟩
      show i ∈ ((View.whole main_v1_1).slice (win0_6.rect t)).set
      rw [View.set_slice_whole, Rect.mem_set_unit]
      intro a
      show win0_6.index t a * S1x16x128x1024.size a ≤ (i a).val ∧ (i a).val < win0_6.index t a * S1x16x128x1024.size a + S1x16x128x1024.size a
      rw [(index_all t).2.2.2.2.2.2]
      fin_cases a
      · show t.val / 16 * 1 ≤ (i 0).val ∧ (i 0).val < t.val / 16 * 1 + 1; omega
      · show 0 * 16 ≤ (i 1).val ∧ (i 1).val < 0 * 16 + 16; omega
      · show 0 * 128 ≤ (i 2).val ∧ (i 2).val < 0 * 128 + 128; omega
      · show t.val % 16 * 1024 ≤ (i 3).val ∧ (i 3).val < t.val % 16 * 1024 + 1024; omega)

end Cert.Kernel4Ideal.Query

end
-- ==== Proof.RefQuery.lean ====
/- The reference of the norm and the scores, read at an index. -/
module

public import proofs.«01_k».proof.Proof.Norm
public import proofs.«01_k».proof.Proof.Gen.Reference4Ideal.Run

@[expose] public section

noncomputable section

open Idealize.ShloMosaic Idealize.ShloMosaic.TcCoe Idealize.SL.Sem

namespace Cert.Reference4Ideal.Query

open Cert.Reference4Ideal Cert.Reference4Ideal.Gen Cert.Reference4Ideal.Value Cert.Norm

/-- The normalized stream as the reference computes it. -/
def hx (x : FVec Ideal S2x16384x1024 .f32) (w : FVec Ideal S1024 .f32) (sc sh : FVec Ideal S2x1x1024 .f32) : FVec Ideal S2x16384x1024 .f32 :=
  addf (mulf (mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 w))) (broadcastInDim S2x16384x1024 ![0, 1, 2] bcast_S2x1x1024_S2x16384x1024_0_1_2 (addf (broadcastInDim S2x1x1024 ![] bcast_S_S2x1x1024 (constant S_ .f32 0x3F800000#32)) sc))) (broadcastInDim S2x16384x1024 ![0, 1, 2] bcast_S2x1x1024_S2x16384x1024_0_1_2 sh)

/-- It is the normalized stream. -/
theorem hx_at (x : FVec Ideal S2x16384x1024 .f32) (w : FVec Ideal S1024 .f32) (sc sh : FVec Ideal S2x1x1024 .f32)
    (b : Fin 2) (l : Fin 16384) (d : Fin 1024) : (hx x w sc sh (ix3 b l d) : EReal) = stream x w sc sh b l d := by
  pointwise [hx]
  rfl

/-- The first result, read at an index. -/
theorem normed_at (x : FVec Ideal S2x16384x1024 .f32) (w : FVec Ideal S1024 .f32) (sc sh : FVec Ideal S2x1x1024 .f32)
    (b : Fin 2) (d : Fin 1024) (l : Fin 16384) :
    (truncf .bf16 (transpose S2x1024x16384 [0, 2, 1] (hx x w sc sh) transposes_S2x16384x1024_S2x1024x16384_0_2_1) bitsLt_bf16_f32 (ix3 b d l) : EReal)
      = stream x w sc sh b l d := by
  rw [← hx_at]
  generalize hx x w sc sh = h
  pointwise

/-- The second result, read at an index. -/
theorem scores_at (x : FVec Ideal S2x16384x1024 .f32) (w : FVec Ideal S1024 .f32) (sc sh : FVec Ideal S2x1x1024 .f32)
    (wk : FVec Ideal S2048x1024 .bf16) (b : Fin 2) (p : Fin 16) (k : Fin 128) (l : Fin 16384) :
    (transpose S2x16x128x16384 [2, 0, 1, 3] (Host.dotGeneral dot_S16x128x1024_S2x16384x1024_S16x128x2x16384_2_2_01_01_n_n none (shapeCast _ (extf .f32 wk bitsLt_bf16_f32) shapeCasts_S2048x1024_S16x128x1024) (hx x w sc sh)) transposes_S16x128x2x16384_S2x16x128x16384_2_0_1_3 (ix4 b p k l) : EReal)
      = keyDot wk p k (stream x w sc sh b l) := by
  unfold keyDot
  simp only [← hx_at]
  generalize hx x w sc sh = h
  pointwise

end Cert.Reference4Ideal.Query

end
-- ==== Proof.QueryClaim.lean ====
/- The norm and the scores: the kernel's two results are the reference's, and the reference keeps its arguments. -/
module

public import proofs.«01_k».proof.Defs
public import proofs.«01_k».proof.Proof.Query
public import proofs.«01_k».proof.Proof.RefQuery
public import Idealize.ShloMosaic.Adequacy

@[expose] public section

noncomputable section

namespace Cert.Proof

open Idealize.ShloMosaic Idealize.SL.Sem

/-- The kernel's results are the reference's, over the extended reals. -/
theorem query_eq : Cert.algebraic_Kernel4Ideal_Reference4Ideal (hKernel4Ideal := Cert.Kernel4Ideal.Gen.facts)
    (hReference4Ideal := Cert.Reference4Ideal.Gen.facts) := by
  intro m g m' g' _ hagree
  refine ⟨Cert.Kernel4Ideal.Query.normed m, Cert.Kernel4Ideal.Query.scores m, ?_, ?_⟩
  · refine (θ_run _ _ _).mono (fun r h c => ?_) (Cert.Kernel4Ideal.Value.run_blocks m g)
    have hc := h c
    exact ⟨hc.1.trans (Cert.Kernel4Ideal.Query.normed_eq m c), hc.2.1.trans (Cert.Kernel4Ideal.Query.scores_eq m c), hc.2.2⟩
  · refine (θ_run _ _ _).mono (fun r h c => ?_) (Cert.Reference4Ideal.Value.run m' g')
    have hc := h c
    obtain ⟨h0, h1, h2, h3, h4⟩ := hagree c
    refine ⟨hc.1.trans ?_, hc.2.1.trans ?_, hc.2.2⟩
    · rw [h0, h1, h2, h3]
      funext y
      exact (congrArg _ (eq_ix3 y)).trans (Cert.Reference4Ideal.Query.normed_at _ _ _ _ (y 0) (y 1) (y 2))
    · rw [h0, h1, h2, h3, h4]
      funext y
      exact (congrArg _ (eq_ix4 y)).trans (Cert.Reference4Ideal.Query.scores_at _ _ _ _ _ (y 0) (y 1) (y 2) (y 3))

/-- The reference runs, keeps its arguments and leaves no semaphore raised: it has none. -/
theorem frame_query : Cert.quiescent_Reference4Ideal (hReference4Ideal := Cert.Reference4Ideal.Gen.facts) := fun m ρ _ =>
  (θ_run Cert.Reference4Ideal.defs _ _).mono
    (fun r h => ⟨fun c => (h c).2.2, sem_eq_zero_of_no_sems (by decide) r.2⟩) (Cert.Reference4Ideal.Value.run m ρ)

end Cert.Proof

end
-- ==== Proof.Exchange.lean ====
/- Finite values: the normalized stream of finite arguments is finite, and the two orders of the scores' products agree. -/
module

public import proofs.«01_k».proof.Proof.Norm

@[expose] public section

noncomputable section

open Idealize.ShloMosaic
open scoped BigOperators

namespace Cert.Norm

/-- A value that is a real number. -/
def IsReal (a : EReal) : Prop := ∃ r : ℝ, a = (r : EReal)

/-- A value whose absolute value is below infinity is a real number. -/
theorem fin_of_abs {a : EReal} (h : max a (-a) < ⊤) : IsReal a := by
  induction a with
  | bot => simp at h
  | coe r => exact ⟨r, rfl⟩
  | top => simp at h

/-- A finite sum of real numbers. -/
theorem coe_sum {n : ℕ} (f : Fin n → ℝ) : ((∑ k, f k : ℝ) : EReal) = ∑ k, (f k : EReal) := by
  induction n with
  | zero => simp
  | succ n ih => rw [Fin.sum_univ_castSucc, Fin.sum_univ_castSucc, EReal.coe_add, ih]

/-- The scale of a row of real numbers is a real number. -/
theorem scale_fin (x : Fin 1024 → ℝ) : IsReal (scale fun k => (x k : EReal)) := by
  have hs : (∑ k : Fin 1024, (x k : EReal) * (x k : EReal)) = ((∑ k, x k * x k : ℝ) : EReal) := by
    rw [coe_sum]
    exact Finset.sum_congr rfl fun k _ => (EReal.coe_mul _ _).symm
  have hn : Ideal.ofBits .f32 1149239296#32 = ((1024 : ℝ) : EReal) := by simp [Ideal.ofBits, Ideal.ieee, -EReal.coe_mul]; norm_num
  have he : Ideal.ofBits .f32 897988541#32 = ((8796093 / 8796093022208 : ℝ) : EReal) := by
    simp [Ideal.ofBits, Ideal.ieee, -EReal.coe_mul]; norm_num
  have h0 : 0 ≤ ∑ k, x k * x k := Finset.sum_nonneg fun k _ => mul_self_nonneg _
  unfold scale
  rw [hs, hn, he, Ideal.div_coe (by norm_num), ← EReal.coe_mul, ← EReal.coe_add, Ideal.rsqrt_coe, if_neg (by positivity |> not_lt.mpr), if_neg (by positivity)]
  exact ⟨_, rfl⟩

/-- A normalized row of real numbers is of real numbers. -/
theorem row_fin {x w sc sh : Fin 1024 → EReal} (hx : ∀ d, IsReal (x d)) (hw : ∀ d, IsReal (w d)) (hsc : ∀ d, IsReal (sc d)) (hsh : ∀ d, IsReal (sh d))
    (d : Fin 1024) : IsReal (row x w sc sh d) := by
  choose x' hx using hx
  obtain rfl : x = fun k => (x' k : EReal) := funext hx
  obtain ⟨s, hs⟩ := scale_fin x'
  obtain ⟨a, ha⟩ := hw d
  obtain ⟨b, hb⟩ := hsc d
  obtain ⟨e, he⟩ := hsh d
  refine ⟨x' d * s * a * (1 + b) + e, ?_⟩
  unfold row
  rw [hs, ha, hb, he]
  push_cast
  rfl

/-- A sub-key against the projection of a row is the sub-key's folded row against the row. -/
theorem exchange {a : Fin 128 → EReal} {w : Fin 1024 → Fin 128 → EReal} {h : Fin 1024 → EReal} (ha : ∀ e, IsReal (a e)) (hw : ∀ d e, IsReal (w d e))
    (hh : ∀ d, IsReal (h d)) : (∑ d, (∑ e, a e * w d e) * h d) = ∑ e, a e * ∑ d, h d * w d e := by
  choose a' ha using ha
  choose w' hw using hw
  choose h' hh using hh
  simp only [ha, hw, hh, ← EReal.coe_mul, ← coe_sum]
  congr 1
  simp only [Finset.sum_mul, Finset.mul_sum]
  rw [Finset.sum_comm]
  exact Finset.sum_congr rfl fun e _ => Finset.sum_congr rfl fun d _ => by ring

end Cert.Norm

end
-- ==== Proof.FoldRun.lean ====
/- The program of two kernels that folds the keys, then scores the stream against them: what it leaves in every array. -/
module

public import proofs.«01_k».proof.Proof.Gen.Kernel5Ideal.Frame

@[expose] public section

noncomputable section

namespace Cert.Kernel5Ideal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen

variable {F : FTy → Type} [FloatOps F]
variable (m : (ℓ : Loc nD τ sig) → Buf (Elt F) ℓ) (ρ : Dev nD → PrngReg)

set_option backward.isDefEq.respectTransparency.types false in
/-- Every array of the program ends at its contents after the second kernel. -/
theorem run_all : θ_run defs (onTc (τ := τ) (main (F := F))) ⟨m, fun _ => 0, ρ⟩ (fun r =>
    ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ)))
        from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.Kernel5Ideal.Fold

end
-- ==== Proof.Fold.lean ====
/- The kernel that folds the keys: the array it leaves. -/
module

public import Idealize.ShloMosaic.PureOps.Ideal.Laws
public import Idealize.ShloMosaic.Lib.Pointwise
public import Idealize.ShloMosaic.Lib.Pipeline.Value
public import Idealize.ShloMosaic.Lib.Pipeline.ValueKit.Geometry
public import Idealize.ShloMosaic.Lib.StableHlo.RunRead
public import proofs.«01_k».proof.Proof.Gen.Kernel5Ideal.Frame

@[expose] public section

noncomputable section

open Idealize.ShloMosaic Idealize.ShloMosaic.TcCoe Idealize.SL.Sem

namespace Cert.Kernel5Ideal.Fold

open Cert.Kernel5Ideal Cert.Kernel5Ideal.Gen

/-- One row of the folded keys: a sub-key against the columns of its product's projection. -/
def foldRow (wq : FVec Ideal S1024x2048 .f32) (keys : FVec Ideal S8x2x128x128 .f32) (p : Fin 16) (k : Fin 128) (d : Fin 1024) : EReal :=
  ∑ e : Fin 128, keys (ix4 (⟨p.val / 2, by omega⟩ : Fin 8) (⟨p.val % 2, by omega⟩ : Fin 2) k e) * wq (ix2 d (⟨p.val * 128 + e.val, by omega⟩ : Fin 2048))

/-- A block of keys against a block of columns. -/
def dotAt (k : FVec Ideal S1x128x128 .f32) (w : FVec Ideal S1024x128 .f32) (r : Fin 128) (d : Fin 1024) : EReal :=
  ∑ e : Fin 128, k (ix3 0 r e) * w (ix2 d e)

/-- The body's block: the keys against the columns. -/
theorem out2_at (k : FVec Ideal S1x128x128 .f32) (w : FVec Ideal S1024x128 .f32) (r : Fin 128) (d : Fin 1024) :
    (out0_2 (F := Ideal) k w (ix2 r d) : EReal) = dotAt k w r d := by
  unfold out0_2
  rw [View.canon_unit_zero (by decide), View.ld_unit_zero (by decide), View.ld_unit_zero (by decide)]
  pointwise [k0_pay1, dotAt]

variable (m : (ℓ : Loc nD τ sig) → Buf (Elt Ideal) ℓ) (ρ : Dev nD → PrngReg) (c : Dev nD)

/-- Where the folding kernel's windows stand at each point. -/
theorem index_fold : ∀ t : Fin grid0.N, win0_0.index t = ![t.val, 0, 0] ∧ win0_1.index t = ![0, t.val] ∧ win0_2.index t = ![t.val, 0] := by
  decide +kernel

/-- The folded keys of the arguments. -/
def folded : Vec Ideal S2048x1024 .bf16 := fun y =>
  foldRow (m ((c : Thread nD τ).loc main_arg4)) (m ((c : Thread nD τ).loc main_arg5)) ⟨(y 0).val / 128, by have h : (y 0).val < 2048 := (y 0).isLt; omega⟩
    ⟨(y 0).val % 128, by omega⟩ (y 1)

/-- The keys as the folding kernel finds them: the argument, one product after another. -/
theorem keys_entry : (V1 m ρ c main_v0 : FVec Ideal S16x128x128 .f32)
    = shapeCast S16x128x128 (m ((c : Thread nD τ).loc main_arg5) : FVec Ideal S8x2x128x128 .f32) shapeCasts_S8x2x128x128_S16x128x128 := by
  after_reads_simp
  rfl

/-- The reshaped keys at an index. -/
theorem keys_at (keys : FVec Ideal S8x2x128x128 .f32) (p : Fin 16) (k e : Fin 128) :
    shapeCast S16x128x128 keys shapeCasts_S8x2x128x128_S16x128x128 (ix3 p k e)
      = keys (ix4 (⟨p.val / 2, by omega⟩ : Fin 8) (⟨p.val % 2, by omega⟩ : Fin 2) k e) := by
  refine shapeCast_apply _ _ _ _ ?_
  rw [Shape.rowMajor_val_four, Shape.rowMajor_val_three]
  show ((p.val / 2 * 2 + p.val % 2) * 128 + k.val) * 128 + e.val = (p.val * 128 + k.val) * 128 + e.val
  omega

/-- A point of the folding kernel, as a product. -/
def prod (t : Fin cfg0.N) : Fin 16 := ⟨t.val, lt_of_lt_of_eq t.isLt N_0⟩

/-- The block of the keys. -/
theorem block_keys (t : Fin cfg0.N) (k e : Fin 128) : (iblk0 (V1 m ρ) c 0 t : Vec Ideal S1x128x128 .f32) (ix3 0 k e)
    = (m ((c : Thread nD τ).loc main_arg5) : Vec Ideal S8x2x128x128 .f32) (ix4 (⟨(prod t).val / 2, by omega⟩ : Fin 8) (⟨(prod t).val % 2, by omega⟩ : Fin 2) k e) := by
  have h : (iblk0 (V1 m ρ) c 0 t : Vec Ideal S1x128x128 .f32) (ix3 0 k e) = (V1 m ρ c main_v0 : FVec Ideal S16x128x128 .f32) (ix3 (prod t) k e) := by
    refine congrArg (V1 m ρ c main_v0 : FVec Ideal S16x128x128 .f32) (funext fun a => Fin.ext ?_)
    show win0_0.index t a * S1x128x128.size a + 1 * _ = _
    rw [(index_fold t).1]
    fin_cases a
    · show t.val * 1 + 1 * 0 = t.val; omega
    · show 0 * 128 + 1 * k.val = k.val; omega
    · show 0 * 128 + 1 * e.val = e.val; omega
  rw [h, keys_entry]
  exact keys_at _ _ _ _

/-- The block of the projection. -/
theorem block_wq (t : Fin cfg0.N) (d : Fin 1024) (e : Fin 128) : (iblk0 (V1 m ρ) c 1 t : Vec Ideal S1024x128 .f32) (ix2 d e)
    = (m ((c : Thread nD τ).loc main_arg4) : Vec Ideal S1024x2048 .f32) (ix2 d (⟨(prod t).val * 128 + e.val, by omega⟩ : Fin 2048)) := by
  refine (congrFun (W1_args m ρ c main_arg4 (by decide)) _).trans (congrArg _ (funext fun a => Fin.ext ?_))
  show win0_1.index t a * S1024x128.size a + 1 * _ = _
  rw [(index_fold t).2.1]
  fin_cases a
  · show 0 * 1024 + 1 * d.val = d.val; omega
  · show t.val * 128 + 1 * e.val = t.val * 128 + e.val; omega

/-- A row of a point's block is a row of the folded keys. -/
theorem fold_block (t : Fin cfg0.N) (r : Fin 128) (d : Fin 1024) :
    dotAt (iblk0 (V1 m ρ) c 0 t) (iblk0 (V1 m ρ) c 1 t) r d
      = foldRow (m ((c : Thread nD τ).loc main_arg4)) (m ((c : Thread nD τ).loc main_arg5)) (prod t) r d :=
  Finset.sum_congr rfl fun e _ => congrArg₂ (fun a b : EReal => a * b) (block_keys m ρ c t r e) (block_wq m ρ c t d e)

/-- The array of the folded keys at an index of a point's block. -/
theorem folded_at (t : Fin cfg0.N) (x : S128x1024.Idx) (y : S2048x1024.Idx)
    (hy : ∀ a : Fin 2, (y a).val = win0_2.index t a * S128x1024.size a + 1 * (x a).val) :
    folded m c y = foldRow (m ((c : Thread nD τ).loc main_arg4)) (m ((c : Thread nD τ).loc main_arg5)) (prod t) (x 0) (x 1) := by
  rw [(index_fold t).2.2] at hy
  have h0 : (y 0).val = t.val * 128 + 1 * (x 0).val := hy 0
  have h1 : (y 1).val = 0 * 1024 + 1 * (x 1).val := hy 1
  have hx : (x 0).val < 128 := (x 0).isLt
  have hp : (y 0).val / 128 = t.val := by omega
  have hk : (y 0).val % 128 = (x 0).val := by omega
  unfold folded
  congr 1
  · exact Fin.ext hp
  · exact Fin.ext hk
  · exact Fin.ext (by omega)

/-- The folding kernel's array ends holding the folded keys. -/
theorem folded_eq : (dat0 (V1 m ρ) c).arrAt 2 cfg0.N = folded m c :=
  (dat0 (V1 m ρ) c).arrAt_eq_of_covers 2 _ (by decide +kernel) fun t _ x => (congrFun (after0_2 (V1 m ρ) c t) x).trans
    ((congrArg _ (eq_ix2 x)).trans ((out2_at _ _ (x 0) (x 1)).trans ((fold_block m ρ c t (x 0) (x 1)).trans
      (folded_at m c t x (((cfg0.win 2).blk t).view.emb x) (fun _ => rfl)).symm)))

end Cert.Kernel5Ideal.Fold

end
-- ==== Proof.FoldQuery.lean ====
/- The kernel that scores the stream against the folded keys: what its two result arrays end holding. -/
module

public import proofs.«01_k».proof.Proof.Fold
public import proofs.«01_k».proof.Proof.Query

@[expose] public section

noncomputable section

open Idealize.ShloMosaic Idealize.ShloMosaic.TcCoe Idealize.SL.Sem

namespace Cert.Kernel5Ideal.Fold

open Cert.Kernel5Ideal Cert.Kernel5Ideal.Gen Cert.Norm

/-- The normalized tile as stored is that of the kernel given folded keys. -/
theorem out5_same (x : FVec Ideal S1x1024x1024 .f32) (nw : FVec Ideal S1x1024 .f32) (sc sh : FVec Ideal S1x1x1024 .f32)
    (wk : FVec Ideal S2048x1024 .bf16) : out1_5 (F := Ideal) x nw sc sh wk = Cert.Kernel4Ideal.Gen.out0_5 (F := Ideal) x nw sc sh wk := rfl

/-- So is the normalized tile itself. -/
theorem pay2_same (x : FVec Ideal S1x1024x1024 .f32) (nw : FVec Ideal S1x1024 .f32) (sc sh : FVec Ideal S1x1x1024 .f32) :
    k1_pay2 (F := Ideal) x nw sc sh = Cert.Kernel4Ideal.Gen.k0_pay2 (F := Ideal) x nw sc sh := rfl

/-- The scores of the tile: every key against every normalized row. -/
theorem pay1_at (x : FVec Ideal S1x1024x1024 .f32) (nw : FVec Ideal S1x1024 .f32) (sc sh : FVec Ideal S1x1x1024 .f32)
    (wk : FVec Ideal S2048x1024 .bf16) (p : Fin 16) (k : Fin 128) (r : Fin 1024) :
    (k1_pay1 (F := Ideal) (k1_pay4 x nw sc sh wk) (ix4 0 p k r) : EReal)
      = keyDot wk p k
        (row (fun k => x (ix3 0 r k)) (fun k => nw (ix2 0 k)) (fun k => sc (ix3 0 0 k)) (fun k => sh (ix3 0 0 k))) := by
  pointwise [k1_pay1, k1_pay4]
  refine Finset.sum_congr rfl fun d _ => ?_
  rw [pay2_same, Cert.Kernel4Ideal.Query.pay2_at]

/-- The second result's block: the scores of the tile. -/
theorem out6_at (x : FVec Ideal S1x1024x1024 .f32) (nw : FVec Ideal S1x1024 .f32) (sc sh : FVec Ideal S1x1x1024 .f32)
    (wk : FVec Ideal S2048x1024 .bf16) (p : Fin 16) (k : Fin 128) (r : Fin 1024) :
    (out1_6 (F := Ideal) x nw sc sh wk (ix4 0 p k r) : EReal)
      = keyDot wk p k
        (row (fun k => x (ix3 0 r k)) (fun k => nw (ix2 0 k)) (fun k => sc (ix3 0 0 k)) (fun k => sh (ix3 0 0 k))) := by
  unfold out1_6
  rw [View.canon_unit_zero (by decide), View.ld_unit_zero (by decide), View.ld_unit_zero (by decide),
    View.ld_unit_zero (by decide), View.ld_unit_zero (by decide), View.ld_unit_zero (by decide), pay1_at]

variable (m : (ℓ : Loc nD τ sig) → Buf (Elt Ideal) ℓ) (ρ : Dev nD → PrngReg) (c : Dev nD)

/-- The normalized stream of the program's arguments. -/
def hidden (b : Fin 2) (l : Fin 16384) : Fin 1024 → EReal :=
  stream (m ((c : Thread nD τ).loc main_arg0)) (m ((c : Thread nD τ).loc main_arg1)) (m ((c : Thread nD τ).loc main_arg2))
    (m ((c : Thread nD τ).loc main_arg3)) b l

/-- The normalized stream, transposed. -/
def normed : Vec Ideal S2x1024x16384 .bf16 := fun y => hidden m c (y 0) (y 2) (y 1)

/-- The scores: every folded key against every row of the normalized stream. -/
def scores : Vec Ideal S2x16x128x16384 .f32 := fun y => keyDot (folded m c) (y 1) (y 2) (hidden m c (y 0) (y 3))

/-- The batch entry of a point. -/
def bat (t : Fin cfg1.N) : Fin 2 := ⟨t.val / 16, by have h : t.val < 32 := lt_of_lt_of_eq t.isLt N_1; omega⟩

/-- The time step of row `r` of a point's tile. -/
def step (t : Fin cfg1.N) (r : Fin 1024) : Fin 16384 := ⟨t.val % 16 * 1024 + r.val, by omega⟩

/-- Where the scoring kernel's windows stand at each point. -/
theorem index_score : ∀ t : Fin grid1.N,
    win1_0.index t = ![t.val / 16, t.val % 16, 0] ∧ win1_1.index t = ![0, 0] ∧ win1_2.index t = ![t.val / 16, 0, 0]
    ∧ win1_3.index t = ![t.val / 16, 0, 0] ∧ win1_4.index t = ![0, 0] ∧ win1_5.index t = ![t.val / 16, 0, t.val % 16]
    ∧ win1_6.index t = ![t.val / 16, 0, 0, t.val % 16] := by decide +kernel

/-- The weight as the scoring kernel finds it: the argument as one row. -/
theorem weight_entry : (V3 m ρ c main_v2 : FVec Ideal S1x1024 .f32)
    = shapeCast S1x1024 (m ((c : Thread nD τ).loc main_arg1) : FVec Ideal S1024 .f32) shapeCasts_S1024_S1x1024 := by
  rw [← W2_args m ρ c main_arg1 (by decide)]
  after_reads_simp
  rfl

/-- The keys as the scoring kernel finds them: folded. -/
theorem folded_entry : (V3 m ρ c main_v1 : FVec Ideal S2048x1024 .bf16) = folded m c :=
  (W3_of m ρ c main_v1 (by decide)).trans ((W2_arr m ρ c 2).trans (folded_eq m ρ c))

/-- The block of the stream. -/
theorem block_x (t : Fin cfg1.N) (r k : Fin 1024) : (iblk1 (V3 m ρ) c 0 t : Vec Ideal S1x1024x1024 .f32) (ix3 0 r k)
    = (m ((c : Thread nD τ).loc main_arg0) : Vec Ideal S2x16384x1024 .f32) (ix3 (bat t) (step t r) k) := by
  refine (congrFun (W3_args m ρ c main_arg0 (by decide)) _).trans (congrArg _ (funext fun a => Fin.ext ?_))
  show win1_0.index t a * S1x1024x1024.size a + 1 * _ = _
  rw [(index_score t).1]
  fin_cases a
  · show t.val / 16 * 1 + 1 * 0 = t.val / 16; omega
  · show t.val % 16 * 1024 + 1 * r.val = t.val % 16 * 1024 + r.val; omega
  · show 0 * 1024 + 1 * k.val = k.val; omega

/-- The block of the weight. -/
theorem block_w (t : Fin cfg1.N) (k : Fin 1024) : (iblk1 (V3 m ρ) c 1 t : Vec Ideal S1x1024 .f32) (ix2 0 k)
    = (m ((c : Thread nD τ).loc main_arg1) : Vec Ideal S1024 .f32) (ix1 k) := by
  have e : (iblk1 (V3 m ρ) c 1 t : Vec Ideal S1x1024 .f32) (ix2 0 k) = (V3 m ρ c main_v2 : FVec Ideal S1x1024 .f32) (ix2 0 k) := by
    refine congrArg (V3 m ρ c main_v2 : FVec Ideal S1x1024 .f32) (funext fun a => Fin.ext ?_)
    show win1_1.index t a * S1x1024.size a + 1 * _ = _
    rw [(index_score t).2.1]
    fin_cases a
    · show 0 * 1 + 1 * 0 = 0; omega
    · show 0 * 1024 + 1 * k.val = k.val; omega
  rw [e, weight_entry]
  generalize (m ((c : Thread nD τ).loc main_arg1) : FVec Ideal S1024 .f32) = w
  pointwise

/-- An index of a modulation row read through its window. -/
theorem mod_at (t : Fin cfg1.N) (k : Fin 1024) (y : S2x1x1024.Idx)
    (hy : ∀ a : Fin 3, (y a).val = (![t.val / 16, 0, 0] : Fin 3 → ℕ) a * S1x1x1024.size a + 1 * ((ix3 0 0 k : S1x1x1024.Idx) a).val) :
    y = ix3 (bat t) 0 k := by
  refine funext fun a => Fin.ext ((hy a).trans ?_)
  fin_cases a
  · show t.val / 16 * 1 + 1 * 0 = t.val / 16; omega
  · show 0 * 1 + 1 * 0 = 0; omega
  · show 0 * 1024 + 1 * k.val = k.val; omega

/-- The block of the scale. -/
theorem block_sc (t : Fin cfg1.N) (k : Fin 1024) : (iblk1 (V3 m ρ) c 2 t : Vec Ideal S1x1x1024 .f32) (ix3 0 0 k)
    = (m ((c : Thread nD τ).loc main_arg2) : Vec Ideal S2x1x1024 .f32) (ix3 (bat t) 0 k) :=
  (congrFun (W3_args m ρ c main_arg2 (by decide)) _).trans (congrArg _ (mod_at t k (((cfg1.win 2).blk t).view.emb (ix3 0 0 k)) fun a => by
    rw [← (index_score t).2.2.1]; rfl))

/-- The block of the shift. -/
theorem block_sh (t : Fin cfg1.N) (k : Fin 1024) : (iblk1 (V3 m ρ) c 3 t : Vec Ideal S1x1x1024 .f32) (ix3 0 0 k)
    = (m ((c : Thread nD τ).loc main_arg3) : Vec Ideal S2x1x1024 .f32) (ix3 (bat t) 0 k) :=
  (congrFun (W3_args m ρ c main_arg3 (by decide)) _).trans (congrArg _ (mod_at t k (((cfg1.win 3).blk t).view.emb (ix3 0 0 k)) fun a => by
    rw [← (index_score t).2.2.2.1]; rfl))

/-- The block of the folded keys. -/
theorem block_k (t : Fin cfg1.N) (r : Fin 2048) (k : Fin 1024) : (iblk1 (V3 m ρ) c 4 t : Vec Ideal S2048x1024 .bf16) (ix2 r k)
    = folded m c (ix2 r k) := by
  refine (congrFun (folded_entry m ρ c) _).trans (congrArg (folded m c) (funext fun a => Fin.ext ?_))
  show win1_4.index t a * S2048x1024.size a + 1 * _ = _
  rw [(index_score t).2.2.2.2.1]
  fin_cases a
  · show 0 * 2048 + 1 * r.val = r.val; omega
  · show 0 * 1024 + 1 * k.val = k.val; omega

/-- A row of the tile a point normalizes is the row of the normalized stream. -/
theorem row_eq (t : Fin cfg1.N) (r : Fin 1024) :
    row (fun k => (iblk1 (V3 m ρ) c 0 t : Vec Ideal S1x1024x1024 .f32) (ix3 0 r k)) (fun k => (iblk1 (V3 m ρ) c 1 t : Vec Ideal S1x1024 .f32) (ix2 0 k))
      (fun k => (iblk1 (V3 m ρ) c 2 t : Vec Ideal S1x1x1024 .f32) (ix3 0 0 k)) (fun k => (iblk1 (V3 m ρ) c 3 t : Vec Ideal S1x1x1024 .f32) (ix3 0 0 k))
    = hidden m c (bat t) (step t r) := by
  simp only [block_x, block_w, block_sc, block_sh]
  rfl

/-- The scores of the tile a point normalizes are the scores of the stream. -/
theorem score_block (t : Fin cfg1.N) (p : Fin 16) (k : Fin 128) (r : Fin 1024) :
    keyDot (iblk1 (V3 m ρ) c 4 t) p k
      (row (fun k => (iblk1 (V3 m ρ) c 0 t : Vec Ideal S1x1024x1024 .f32) (ix3 0 r k)) (fun k => (iblk1 (V3 m ρ) c 1 t : Vec Ideal S1x1024 .f32) (ix2 0 k))
        (fun k => (iblk1 (V3 m ρ) c 2 t : Vec Ideal S1x1x1024 .f32) (ix3 0 0 k)) (fun k => (iblk1 (V3 m ρ) c 3 t : Vec Ideal S1x1x1024 .f32) (ix3 0 0 k)))
    = keyDot (folded m c) p k (hidden m c (bat t) (step t r)) := by
  rw [row_eq]
  exact Finset.sum_congr rfl fun d _ => congrArg (fun e : EReal => e * hidden m c (bat t) (step t r) d) (block_k m ρ c t _ d)

/-- The normalized stream at an index of a point's block. -/
theorem normed_at (t : Fin cfg1.N) (x : S1x1024x1024.Idx) (y : S2x1024x16384.Idx)
    (hy : ∀ a : Fin 3, (y a).val = win1_5.index t a * S1x1024x1024.size a + 1 * (x a).val) :
    normed m c y = hidden m c (bat t) (step t (x 2)) (x 1) := by
  rw [(index_score t).2.2.2.2.2.1] at hy
  have hx : (x 0).val < 1 := (x 0).isLt
  have h0 : (y 0).val = t.val / 16 * 1 + 1 * (x 0).val := hy 0
  have h1 : (y 1).val = 0 * 1024 + 1 * (x 1).val := hy 1
  have h2 : (y 2).val = t.val % 16 * 1024 + 1 * (x 2).val := hy 2
  unfold normed
  congr 1
  · exact Fin.ext (h0.trans (show _ = t.val / 16 by omega))
  · exact Fin.ext (h2.trans (show _ = t.val % 16 * 1024 + (x 2).val by omega))
  · exact Fin.ext (h1.trans (by omega))

/-- The scores at an index of a point's block. -/
theorem scores_at (t : Fin cfg1.N) (x : S1x16x128x1024.Idx) (y : S2x16x128x16384.Idx)
    (hy : ∀ a : Fin 4, (y a).val = win1_6.index t a * S1x16x128x1024.size a + 1 * (x a).val) :
    scores m c y = keyDot (folded m c) (x 1) (x 2) (hidden m c (bat t) (step t (x 3))) := by
  rw [(index_score t).2.2.2.2.2.2] at hy
  have hx : (x 0).val < 1 := (x 0).isLt
  have h0 : (y 0).val = t.val / 16 * 1 + 1 * (x 0).val := hy 0
  have h1 : (y 1).val = 0 * 16 + 1 * (x 1).val := hy 1
  have h2 : (y 2).val = 0 * 128 + 1 * (x 2).val := hy 2
  have h3 : (y 3).val = t.val % 16 * 1024 + 1 * (x 3).val := hy 3
  unfold scores
  congr 1
  · exact Fin.ext (h1.trans (by omega))
  · exact Fin.ext (h2.trans (by omega))
  · congr 1
    · exact Fin.ext (h0.trans (show _ = t.val / 16 by omega))
    · exact Fin.ext (h3.trans (show _ = t.val % 16 * 1024 + (x 3).val by omega))

/-- The first result array ends holding the normalized stream, transposed. -/
theorem normed_eq : (dat1 (V3 m ρ) c).arrAt 5 cfg1.N = normed m c :=
  (dat1 (V3 m ρ) c).arrAt_eq_of_covers 5 _ (by decide +kernel) fun t _ x => (congrFun (after1_5 (V3 m ρ) c t) x).trans
    ((congrFun (out5_same _ _ _ _ _) x).trans ((congrArg _ (Cert.Kernel4Ideal.Query.eq_ix3_one x)).trans
      ((Cert.Kernel4Ideal.Query.out5_at _ _ _ _ _ (x 1) (x 2)).trans ((congrFun (row_eq m ρ c t (x 2)) (x 1)).trans
        (normed_at m c t x (((cfg1.win 5).blk t).view.emb x) (fun _ => rfl)).symm))))

/-- The second result array ends holding the scores. -/
theorem scores_eq : (dat1 (V3 m ρ) c).arrAt 6 cfg1.N = scores m c :=
  (dat1 (V3 m ρ) c).arrAt_eq_of_covers 6 _ (by decide +kernel) fun t _ x => (congrFun (after1_6 (V3 m ρ) c t) x).trans
    ((congrArg _ (Cert.Kernel4Ideal.Query.eq_ix4_one x)).trans ((out6_at _ _ _ _ _ (x 1) (x 2) (x 3)).trans
      ((score_block m ρ c t (x 1) (x 2) (x 3)).trans (scores_at m c t x (((cfg1.win 6).blk t).view.emb x) (fun _ => rfl)).symm)))

end Cert.Kernel5Ideal.Fold

end
-- ==== Proof.RefFold.lean ====
/- The reference of the expert layer's queries, read at an index. -/
module

public import proofs.«01_k».proof.Proof.Norm
public import proofs.«01_k».proof.Proof.Gen.Reference5Ideal.Run

@[expose] public section

noncomputable section

open Idealize.ShloMosaic Idealize.ShloMosaic.TcCoe Idealize.SL.Sem

namespace Cert.Reference5Ideal.Fold

open Cert.Reference5Ideal Cert.Reference5Ideal.Gen Cert.Reference5Ideal.Value Cert.Norm

/-- The normalized stream as the reference computes it. -/
def hx (x : FVec Ideal S2x16384x1024 .f32) (w : FVec Ideal S1024 .f32) (sc sh : FVec Ideal S2x1x1024 .f32) : FVec Ideal S2x16384x1024 .f32 :=
  addf (mulf (mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 w))) (broadcastInDim S2x16384x1024 ![0, 1, 2] bcast_S2x1x1024_S2x16384x1024_0_1_2 (addf (broadcastInDim S2x1x1024 ![] bcast_S_S2x1x1024 (constant S_ .f32 0x3F800000#32)) sc))) (broadcastInDim S2x16384x1024 ![0, 1, 2] bcast_S2x1x1024_S2x16384x1024_0_1_2 sh)

/-- It is the normalized stream. -/
theorem hx_at (x : FVec Ideal S2x16384x1024 .f32) (w : FVec Ideal S1024 .f32) (sc sh : FVec Ideal S2x1x1024 .f32)
    (b : Fin 2) (l : Fin 16384) (d : Fin 1024) : (hx x w sc sh (ix3 b l d) : EReal) = stream x w sc sh b l d := by
  pointwise [hx]
  rfl

/-- The first result, read at an index. -/
theorem normed_at (x : FVec Ideal S2x16384x1024 .f32) (w : FVec Ideal S1024 .f32) (sc sh : FVec Ideal S2x1x1024 .f32)
    (b : Fin 2) (d : Fin 1024) (l : Fin 16384) :
    (truncf .bf16 (transpose S2x1024x16384 [0, 2, 1] (hx x w sc sh) transposes_S2x16384x1024_S2x1024x16384_0_2_1) bitsLt_bf16_f32 (ix3 b d l) : EReal)
      = stream x w sc sh b l d := by
  rw [← hx_at]
  generalize hx x w sc sh = h
  pointwise

/-- The queries, read at an index. -/
theorem query_at (h : FVec Ideal S2x16384x1024 .f32) (wq : FVec Ideal S1024x2048 .f32) (b : Fin 2) (l : Fin 16384) (i : Fin 8) (j : Fin 2) (e : Fin 128) :
    (shapeCast S2x16384x8x2x128 (Host.dotGeneral dot_S2x16384x1024_S1024x2048_S2x16384x2048_2_0_01_1_n_n none h wq) shapeCasts_S2x16384x2048_S2x16384x8x2x128 (ix5 b l i j e) : EReal)
      = ∑ d : Fin 1024, h (ix3 b l d) * wq (ix2 d (⟨i.val * 256 + j.val * 128 + e.val, by omega⟩ : Fin 2048)) := by
  pointwise

/-- The second result, read at an index. -/
theorem scores_at (x : FVec Ideal S2x16384x1024 .f32) (w : FVec Ideal S1024 .f32) (sc sh : FVec Ideal S2x1x1024 .f32)
    (wq : FVec Ideal S1024x2048 .f32) (keys : FVec Ideal S8x2x128x128 .f32) (b : Fin 2) (p : Fin 16) (k : Fin 128) (l : Fin 16384) :
    (shapeCast S2x16x128x16384 (transpose S2x8x2x128x16384 [3, 0, 1, 2, 4] (Host.dotGeneral dot_S8x2x128x128_S2x16384x8x2x128_S8x2x128x2x16384_3_4_2_01_01_23 none keys (shapeCast S2x16384x8x2x128 (Host.dotGeneral dot_S2x16384x1024_S1024x2048_S2x16384x2048_2_0_01_1_n_n none (hx x w sc sh) wq) shapeCasts_S2x16384x2048_S2x16384x8x2x128)) transposes_S8x2x128x2x16384_S2x8x2x128x16384_3_0_1_2_4) shapeCasts_S2x8x2x128x16384_S2x16x128x16384 (ix4 b p k l) : EReal)
      = projected wq keys p k (stream x w sc sh b l) := by
  unfold projected
  simp only [← hx_at]
  generalize hx x w sc sh = h
  have q := query_at h wq
  generalize shapeCast S2x16384x8x2x128 (Host.dotGeneral dot_S2x16384x1024_S1024x2048_S2x16384x2048_2_0_01_1_n_n none h wq) shapeCasts_S2x16384x2048_S2x16384x8x2x128 = qr at q ⊢
  pointwise
  simp only [q]
  refine Finset.sum_congr rfl fun e _ => congrArg _ (Finset.sum_congr rfl fun d _ => ?_)
  exact congrArg (fun n : Fin 2048 => h (ix3 b l d) * wq (ix2 d n)) (Fin.ext (show p.val / 2 * 256 + p.val % 2 * 128 + e.val = p.val * 128 + e.val by omega))

end Cert.Reference5Ideal.Fold

end
-- ==== Proof.FoldClaim.lean ====
/- The expert layer's queries: the two kernels' results are the reference's, for finite arguments. -/
module

public import proofs.«01_k».proof.Defs
public import proofs.«01_k».proof.Proof.Exchange
public import proofs.«01_k».proof.Proof.FoldRun
public import proofs.«01_k».proof.Proof.FoldQuery
public import proofs.«01_k».proof.Proof.RefFold
public import proofs.«01_k».proof.Proof.Gen.Pre_finite
public import Idealize.ShloMosaic.Adequacy

@[expose] public section

noncomputable section

namespace Cert.Proof

open Idealize.ShloMosaic Idealize.ShloMosaic.TcCoe Idealize.SL.Sem Cert.Norm

/-- A comparison of absolute values with infinity that is all ones says every value is a real number. -/
theorem real_of_ones {s : Shape} (x : FVec Ideal s .f32) (b : FVec Ideal s .f32) (hb : ∀ i, (b i : EReal) = ⊤)
    (h : cmpf .olt (Host.absf x) b = fun _ => 1#1) (i : s.Idx) : IsReal (x i) := by
  have e : Ideal.cmp .olt (max (x i : EReal) (-(x i : EReal))) (b i) = 1 := congrFun h i
  rw [Ideal.cmp_olt_eq_one, hb] at e
  exact fin_of_abs e

/-- The pattern of infinity. -/
theorem inf_top : Ideal.ofBits .f32 0x7F800000#32 = ⊤ := by simp [Ideal.ofBits, Ideal.ieee]

section
variable (m : (ℓ : Loc Cert.Kernel5Ideal.nD Cert.Kernel5Ideal.τ Cert.Kernel5Ideal.sig) → Buf (Elt Ideal) ℓ) (c : Dev Cert.Kernel5Ideal.nD)

open Cert.Kernel5Ideal in
/-- Under the precondition every argument is of real numbers. -/
theorem args_real (h : Cert.Pre_Kernel5Ideal_finite (hPre_finite := Cert.Pre_finite.Gen.facts) m) :
    (∀ i, IsReal ((m ((c : Thread nD τ).loc main_arg0) : FVec Ideal S2x16384x1024 .f32) i))
    ∧ (∀ i, IsReal ((m ((c : Thread nD τ).loc main_arg1) : FVec Ideal S1024 .f32) i))
    ∧ (∀ i, IsReal ((m ((c : Thread nD τ).loc main_arg2) : FVec Ideal S2x1x1024 .f32) i))
    ∧ (∀ i, IsReal ((m ((c : Thread nD τ).loc main_arg3) : FVec Ideal S2x1x1024 .f32) i))
    ∧ (∀ i, IsReal ((m ((c : Thread nD τ).loc main_arg4) : FVec Ideal S1024x2048 .f32) i))
    ∧ (∀ i, IsReal ((m ((c : Thread nD τ).loc main_arg5) : FVec Ideal S8x2x128x128 .f32) i)) := by
  obtain ⟨h0, h1, h2, h3, h4, h5⟩ := h c
  exact ⟨real_of_ones _ _ (fun _ => inf_top) h0, real_of_ones _ _ (fun _ => inf_top) h1, real_of_ones _ _ (fun _ => inf_top) h2,
    real_of_ones _ _ (fun _ => inf_top) h3, real_of_ones _ _ (fun _ => inf_top) h4, real_of_ones _ _ (fun _ => inf_top) h5⟩

/-- A score of the folded keys is the score of the projected query, for finite arguments. -/
theorem score_eq (h : Cert.Pre_Kernel5Ideal_finite (hPre_finite := Cert.Pre_finite.Gen.facts) m) (b : Fin 2) (p : Fin 16) (k : Fin 128) (l : Fin 16384) :
    keyDot (Cert.Kernel5Ideal.Fold.folded m c) p k (Cert.Kernel5Ideal.Fold.hidden m c b l)
      = projected (m ((c : Thread Cert.Kernel5Ideal.nD Cert.Kernel5Ideal.τ).loc Cert.Kernel5Ideal.main_arg4))
        (m ((c : Thread Cert.Kernel5Ideal.nD Cert.Kernel5Ideal.τ).loc Cert.Kernel5Ideal.main_arg5)) p k (Cert.Kernel5Ideal.Fold.hidden m c b l) := by
  obtain ⟨h0, h1, h2, h3, h4, h5⟩ := args_real m c h
  refine Eq.trans ?_ (exchange (fun e => h5 _) (fun d e => h4 _) (fun d => row_fin (fun _ => h0 _) (fun _ => h1 _) (fun _ => h2 _) (fun _ => h3 _) d))
  refine Finset.sum_congr rfl fun d _ => congrArg (fun a : EReal => a * Cert.Kernel5Ideal.Fold.hidden m c b l d) ?_
  refine congrArg₂ (fun (p' : Fin 16) (k' : Fin 128) => Cert.Kernel5Ideal.Fold.foldRow
    (m ((c : Thread Cert.Kernel5Ideal.nD Cert.Kernel5Ideal.τ).loc Cert.Kernel5Ideal.main_arg4))
    (m ((c : Thread Cert.Kernel5Ideal.nD Cert.Kernel5Ideal.τ).loc Cert.Kernel5Ideal.main_arg5)) p' k' d) (Fin.ext ?_) (Fin.ext ?_)
  · show (p.val * 128 + k.val) / 128 = p.val
    omega
  · show (p.val * 128 + k.val) % 128 = k.val
    omega

end

/-- The kernels' results are the reference's, for finite arguments. -/
theorem fold_eq : Cert.algebraic_Kernel5Ideal_Reference5Ideal_pre_finite (hKernel5Ideal := Cert.Kernel5Ideal.Gen.facts)
    (hReference5Ideal := Cert.Reference5Ideal.Gen.facts) (hPre_finite := Cert.Pre_finite.Gen.facts) := by
  intro m g m' g' hpre hagree
  refine ⟨Cert.Kernel5Ideal.Fold.normed m, Cert.Kernel5Ideal.Fold.scores m, ?_, ?_⟩
  · refine (θ_run _ _ _).mono (fun r h c => ?_) (Cert.Kernel5Ideal.Fold.run_all m g)
    have hb := fun b hs => h c _ (Cert.Kernel5Ideal.Gen.mem_uc b hs)
    exact ⟨(hb Cert.Kernel5Ideal.main_v3_0 (by decide)).trans ((Cert.Kernel5Ideal.Gen.W4_arr m g c 5).trans (Cert.Kernel5Ideal.Fold.normed_eq m g c)),
      (hb Cert.Kernel5Ideal.main_v3_1 (by decide)).trans ((Cert.Kernel5Ideal.Gen.W4_arr m g c 6).trans (Cert.Kernel5Ideal.Fold.scores_eq m g c)),
      (hb _ (by decide)).trans (Cert.Kernel5Ideal.Gen.W4_main_arg0 m g c), (hb _ (by decide)).trans (Cert.Kernel5Ideal.Gen.W4_main_arg1 m g c),
      (hb _ (by decide)).trans (Cert.Kernel5Ideal.Gen.W4_main_arg2 m g c), (hb _ (by decide)).trans (Cert.Kernel5Ideal.Gen.W4_main_arg3 m g c),
      (hb _ (by decide)).trans (Cert.Kernel5Ideal.Gen.W4_main_arg4 m g c), (hb _ (by decide)).trans (Cert.Kernel5Ideal.Gen.W4_main_arg5 m g c)⟩
  · refine (θ_run _ _ _).mono (fun r h c => ?_) (Cert.Reference5Ideal.Value.run m' g')
    have hc := h c
    obtain ⟨h0, h1, h2, h3, h4, h5⟩ := hagree c
    refine ⟨hc.1.trans ?_, hc.2.1.trans ?_, hc.2.2⟩
    · rw [h0, h1, h2, h3]
      funext y
      exact (congrArg _ (eq_ix3 y)).trans (Cert.Reference5Ideal.Fold.normed_at _ _ _ _ (y 0) (y 1) (y 2))
    · rw [h0, h1, h2, h3, h4, h5]
      funext y
      exact (congrArg _ (eq_ix4 y)).trans ((Cert.Reference5Ideal.Fold.scores_at _ _ _ _ _ _ (y 0) (y 1) (y 2) (y 3)).trans
        (score_eq m c hpre (y 0) (y 1) (y 2) (y 3)).symm)

/-- The reference runs, keeps its arguments and leaves no semaphore raised: it has none. -/
theorem frame_fold : Cert.quiescent_Reference5Ideal (hReference5Ideal := Cert.Reference5Ideal.Gen.facts) := fun m ρ _ =>
  (θ_run Cert.Reference5Ideal.defs _ _).mono
    (fun r h => ⟨fun c => (h c).2.2, sem_eq_zero_of_no_sems (by decide) r.2⟩) (Cert.Reference5Ideal.Value.run m ρ)

end Cert.Proof

end
-- ==== Proof.Modulation.lean ====
/- The modulation: the layers' vectors from the conditioning, the kernel's and the reference's. -/
module

public import proofs.«01_k».proof.Defs
public import proofs.«01_k».proof.Proof.Gen.Kernel6Ideal.Value
public import proofs.«01_k».proof.Proof.Gen.Reference6Ideal.Run
public import Idealize.ShloMosaic.PureOps.Ideal.Laws
public import Idealize.ShloMosaic.Lib.Pointwise
public import Idealize.ShloMosaic.Lib.StableHlo.RunRead
public import Idealize.ShloMosaic.Adequacy

@[expose] public section

noncomputable section

open Idealize.ShloMosaic Idealize.ShloMosaic.TcCoe Idealize.SL.Sem
open scoped BigOperators

namespace Cert.Modulation

/-- Conditioning through silu, against one column of a weight, plus a bias. -/
def entry (c w : Fin 1024 → EReal) (b : EReal) : EReal := (∑ k : Fin 1024, c k * Ideal.logistic (c k) * w k) + b

/-- The modulation of layer `i` for conditioning row `r`, component `j`. -/
def modAt (cc : FVec Ideal (⟨2, ![8, 1024]⟩ : Shape) .f32) (w : FVec Ideal (⟨3, ![2, 1024, 6144]⟩ : Shape) .f32)
    (b : FVec Ideal (⟨2, ![2, 6144]⟩ : Shape) .f32) (i : Fin 2) (r : Fin 8) (j : Fin 6144) : EReal :=
  entry (fun k => cc (ix2 r k)) (fun k => w (ix3 i k j)) (b (ix2 i j))

section

open Cert.Kernel6Ideal Cert.Kernel6Ideal.Gen Cert.Kernel6Ideal.Value

/-- What a point stores. -/
theorem pay1_at (cc : FVec Ideal S8x1024 .f32) (w : FVec Ideal S1x1024x1536 .f32) (b : FVec Ideal S1x1x1536 .f32) (r : Fin 8) (j : Fin 1536) :
    (k0_pay1 (F := Ideal) cc w b (ix3 0 r j) : EReal)
      = entry (fun k => cc (ix2 r k)) (fun k => w (ix3 0 k j)) (b (ix3 0 0 j)) := by
  pointwise [k0_pay1]
  rfl

/-- The block a point leaves. -/
theorem out3_at (cc : FVec Ideal S8x1024 .f32) (w : FVec Ideal S1x1024x1536 .f32) (b : FVec Ideal S1x1x1536 .f32) (r : Fin 8) (j : Fin 1536) :
    (out0_3 (F := Ideal) cc w b (ix3 0 r j) : EReal)
      = entry (fun k => cc (ix2 r k)) (fun k => w (ix3 0 k j)) (b (ix3 0 0 j)) := by
  unfold out0_3
  rw [View.canon_unit_zero (by decide), View.ld_unit_zero (by decide), View.ld_unit_zero (by decide), View.ld_unit_zero (by decide), pay1_at]

variable (m : (ℓ : Loc nD τ sig) → Buf (Elt Ideal) ℓ) (c : Dev nD)

/-- The modulation of the kernel's arguments. -/
def mods : Vec Ideal S2x8x6144 .f32 := fun y =>
  modAt (m ((c : Thread nD τ).loc main_arg0)) (m ((c : Thread nD τ).loc main_arg1)) (m ((c : Thread nD τ).loc main_arg2)) (y 0) (y 1) (y 2)

/-- The layer of a point. -/
def layer (t : Fin cfg0.N) : Fin 2 := ⟨t.val / 4, by have h : t.val < 8 := lt_of_lt_of_eq t.isLt N_0; omega⟩

/-- The component at place `j` of a point's columns. -/
def column (t : Fin cfg0.N) (j : Fin 1536) : Fin 6144 := ⟨t.val % 4 * 1536 + j.val, by omega⟩

/-- Where the windows stand at each point. -/
theorem index_all : ∀ t : Fin grid0.N,
    win0_0.index t = ![0, 0] ∧ win0_1.index t = ![t.val / 4, 0, t.val % 4] ∧ win0_2.index t = ![t.val / 4, 0, t.val % 4]
    ∧ win0_3.index t = ![t.val / 4, 0, t.val % 4] := by decide +kernel

/-- The bias as the region finds it. -/
theorem bias_entry : V m c main_v0
    = shapeCast S2x1x6144 (m ((c : Thread nD τ).loc main_arg2) : FVec Ideal S2x6144 .f32) shapeCasts_S2x6144_S2x1x6144 := by
  after_reads_simp
  rfl

/-- The block of the conditioning. -/
theorem block_c (t : Fin cfg0.N) (r : Fin 8) (k : Fin 1024) : (iblk m c 0 t : Vec Ideal S8x1024 .f32) (ix2 r k)
    = (m ((c : Thread nD τ).loc main_arg0) : Vec Ideal S8x1024 .f32) (ix2 r k) := by
  refine (congrFun (V_main_arg0 m c) _).trans (congrArg _ (funext fun a => Fin.ext ?_))
  show win0_0.index t a * S8x1024.size a + 1 * _ = _
  rw [(index_all t).1]
  fin_cases a
  · show 0 * 8 + 1 * r.val = r.val; omega
  · show 0 * 1024 + 1 * k.val = k.val; omega

/-- The block of the weight. -/
theorem block_w (t : Fin cfg0.N) (k : Fin 1024) (j : Fin 1536) : (iblk m c 1 t : Vec Ideal S1x1024x1536 .f32) (ix3 0 k j)
    = (m ((c : Thread nD τ).loc main_arg1) : Vec Ideal S2x1024x6144 .f32) (ix3 (layer t) k (column t j)) := by
  refine (congrFun (V_main_arg1 m c) _).trans (congrArg _ (funext fun a => Fin.ext ?_))
  show win0_1.index t a * S1x1024x1536.size a + 1 * _ = _
  rw [(index_all t).2.1]
  fin_cases a
  · show t.val / 4 * 1 + 1 * 0 = t.val / 4; omega
  · show 0 * 1024 + 1 * k.val = k.val; omega
  · show t.val % 4 * 1536 + 1 * j.val = t.val % 4 * 1536 + j.val; omega

/-- The reshaped bias at an index. -/
theorem bias_at (b : FVec Ideal S2x6144 .f32) (i : Fin 2) (j : Fin 6144) :
    shapeCast S2x1x6144 b shapeCasts_S2x6144_S2x1x6144 (ix3 i 0 j) = b (ix2 i j) := by
  refine shapeCast_apply _ _ _ _ ?_
  rw [Shape.rowMajor_val_two, Shape.rowMajor_val_three]
  show i.val * 6144 + j.val = (i.val * 1 + 0) * 6144 + j.val
  omega

/-- The block of the bias. -/
theorem block_b (t : Fin cfg0.N) (j : Fin 1536) : (iblk m c 2 t : Vec Ideal S1x1x1536 .f32) (ix3 0 0 j)
    = (m ((c : Thread nD τ).loc main_arg2) : Vec Ideal S2x6144 .f32) (ix2 (layer t) (column t j)) := by
  have e : (iblk m c 2 t : Vec Ideal S1x1x1536 .f32) (ix3 0 0 j)
      = (V m c main_v0 : Vec Ideal S2x1x6144 .f32) (ix3 (layer t) 0 (column t j)) := by
    refine congrArg (V m c main_v0 : Vec Ideal S2x1x6144 .f32) (funext fun a => Fin.ext ?_)
    show win0_2.index t a * S1x1x1536.size a + 1 * _ = _
    rw [(index_all t).2.2.1]
    fin_cases a
    · show t.val / 4 * 1 + 1 * 0 = t.val / 4; omega
    · show 0 * 1 + 1 * 0 = 0; omega
    · show t.val % 4 * 1536 + 1 * j.val = t.val % 4 * 1536 + j.val; omega
  rw [e, bias_entry]
  exact bias_at _ (layer t) (column t j)

/-- An index of a block whose first axis has one entry. -/
theorem eq_ix3_one (x : S1x8x1536.Idx) : x = ix3 (n0 := 1) (n1 := 8) (n2 := 1536) 0 (x 1) (x 2) := by
  refine (eq_ix3 x).trans ?_
  congr 1
  exact Subsingleton.elim _ _

/-- An entry of the block a point computes is the modulation's. -/
theorem entry_eq (t : Fin cfg0.N) (r : Fin 8) (j : Fin 1536) :
    entry (fun k => (iblk m c 0 t : Vec Ideal S8x1024 .f32) (ix2 r k)) (fun k => (iblk m c 1 t : Vec Ideal S1x1024x1536 .f32) (ix3 0 k j))
      ((iblk m c 2 t : Vec Ideal S1x1x1536 .f32) (ix3 0 0 j))
    = mods m c (ix3 (n0 := 2) (n1 := 8) (n2 := 6144) (layer t) r (column t j)) := by
  simp only [block_c, block_w, block_b]
  rfl

/-- The result array ends holding the modulation. -/
theorem mods_eq : (dats m 0 c).arrAt 3 cfg0.N = mods m c :=
  (dats m 0 c).arrAt_eq_of_cover 3 (mods m c)
    (fun t _ => by
      rw [flushed3]
      funext x
      have e : (((cfg0.win 3).blk t).view.read (Elt Ideal) (mods m c)) x
          = mods m c (ix3 (n0 := 2) (n1 := 8) (n2 := 6144) (layer t) (x 1) (column t (x 2))) := by
        refine congrArg (mods m c) (funext fun a => Fin.ext ?_)
        show win0_3.index t a * S1x8x1536.size a + 1 * (x a).val = _
        rw [(index_all t).2.2.2]
        have h0 : (x 0).val < 1 := (x 0).isLt
        fin_cases a
        · show t.val / 4 * 1 + 1 * (x 0).val = t.val / 4; omega
        · show 0 * 8 + 1 * (x 1).val = (x 1).val; omega
        · show t.val % 4 * 1536 + 1 * (x 2).val = t.val % 4 * 1536 + (x 2).val; omega
      rw [e]
      exact (congrArg _ (eq_ix3_one x)).trans ((out3_at _ _ _ (x 1) (x 2)).trans (entry_eq m c t (x 1) (x 2))))
    (fun i => by
      have h0 : (i 0).val < 2 := (i 0).isLt
      have h1 : (i 1).val < 8 := (i 1).isLt
      have h2 : (i 2).val < 6144 := (i 2).isLt
      have hN : cfg0.N = 8 := N_0
      obtain ⟨t, ht⟩ : ∃ t : Fin cfg0.N, t.val = (i 0).val * 4 + (i 2).val / 1536 :=
        ⟨⟨(i 0).val * 4 + (i 2).val / 1536, by omega⟩, rfl⟩
      refine ⟨t, flush0_3 t, ?_⟩
      show i ∈ ((View.whole main_v1).slice (win0_3.rect t)).set
      rw [View.set_slice_whole, Rect.mem_set_unit]
      intro a
      show win0_3.index t a * S1x8x1536.size a ≤ (i a).val ∧ (i a).val < win0_3.index t a * S1x8x1536.size a + S1x8x1536.size a
      rw [(index_all t).2.2.2]
      fin_cases a
      · show t.val / 4 * 1 ≤ (i 0).val ∧ (i 0).val < t.val / 4 * 1 + 1; omega
      · show 0 * 8 ≤ (i 1).val ∧ (i 1).val < 0 * 8 + 8; omega
      · show t.val % 4 * 1536 ≤ (i 2).val ∧ (i 2).val < t.val % 4 * 1536 + 1536; omega)

end

section

open Cert.Reference6Ideal Cert.Reference6Ideal.Gen Cert.Reference6Ideal.Value

/-- The conditioning through silu, as the reference computes it. -/
def silu (cc : FVec Ideal S8x1024 .f32) : FVec Ideal S8x1024 .f32 :=
  mulf cc (Host.divf (broadcastInDim S8x1024 ![] bcast_S_S8x1024 (constant S_ .f32 0x3F800000#32)) (addf (broadcastInDim S8x1024 ![] bcast_S_S8x1024 (constant S_ .f32 0x3F800000#32)) (Host.exp (Host.negf cc))))

/-- The silu at an index. -/
theorem silu_at (cc : FVec Ideal S8x1024 .f32) (r : Fin 8) (k : Fin 1024) :
    (silu cc (ix2 r k) : EReal) = cc (ix2 r k) * Ideal.logistic (cc (ix2 r k)) := by
  pointwise [silu]
  rfl

/-- The reference's result at an index. -/
theorem result_at (cc : FVec Ideal S8x1024 .f32) (w : FVec Ideal S2x1024x6144 .f32) (b : FVec Ideal S2x6144 .f32) (i : Fin 2) (r : Fin 8) (j : Fin 6144) :
    (addf (transpose S2x8x6144 [0, 2, 1] (Host.dotGeneral dot_S2x1024x6144_S8x1024_S2x6144x8_1_1_02_0_n_n none w (silu cc)) transposes_S2x6144x8_S2x8x6144_0_2_1) (broadcastInDim S2x8x6144 ![0, 1, 2] bcast_S2x1x6144_S2x8x6144_0_1_2 (broadcastInDim S2x1x6144 ![0, 2] bcast_S2x6144_S2x1x6144_0_2 b)) (ix3 i r j) : EReal)
      = modAt cc w b i r j := by
  unfold modAt entry
  simp only [← silu_at]
  generalize silu cc = s
  pointwise
  refine congrArg (fun e : EReal => e + b (ix2 i j)) (Finset.sum_congr rfl fun k _ => mul_comm _ _)

end

end Cert.Modulation

namespace Cert.Proof

/-- The kernel's result is the reference's, over the extended reals. -/
theorem modulation_eq : Cert.algebraic_Kernel6Ideal_Reference6Ideal (hKernel6Ideal := Cert.Kernel6Ideal.Gen.facts)
    (hReference6Ideal := Cert.Reference6Ideal.Gen.facts) := by
  intro m g m' g' _ hagree
  refine ⟨Cert.Modulation.mods m, ?_, ?_⟩
  · refine (θ_run _ _ _).mono (fun r h c => ?_) (Cert.Kernel6Ideal.Value.run_blocks m g)
    have hc := h c
    exact ⟨hc.1.trans (Cert.Modulation.mods_eq m c), hc.2⟩
  · refine (θ_run _ _ _).mono (fun r h c => ?_) (Cert.Reference6Ideal.Value.run m' g')
    have hc := h c
    obtain ⟨h0, h1, h2⟩ := hagree c
    refine ⟨hc.1.trans ?_, hc.2⟩
    rw [h0, h1, h2]
    funext y
    exact (congrArg _ (eq_ix3 y)).trans (Cert.Modulation.result_at _ _ _ (y 0) (y 1) (y 2))

/-- The reference runs, keeps its arguments and leaves no semaphore raised: it has none. -/
theorem frame_modulation : Cert.quiescent_Reference6Ideal (hReference6Ideal := Cert.Reference6Ideal.Gen.facts) := fun m ρ _ =>
  (θ_run Cert.Reference6Ideal.defs _ _).mono
    (fun r h => ⟨fun c => (h c).2, sem_eq_zero_of_no_sems (by decide) r.2⟩) (Cert.Reference6Ideal.Value.run m ρ)

end Cert.Proof

end
-- ==== Proof.ConvBlock.lean ====
/- The convolution channels: what one grid point stores. -/
module

public import proofs.«01_k».proof.Proof.Gen.Kernel7Ideal.Value
public import Idealize.ShloMosaic.PureOps.Ideal.Laws
public import Idealize.ShloMosaic.Lib.Pointwise

@[expose] public section

set_option maxHeartbeats 4000000

noncomputable section

open Idealize.ShloMosaic
open scoped BigOperators

namespace Cert.Conv

/-- A channel through the gate. -/
def gate (a b : EReal) : EReal := a * Ideal.logistic b

/-- A row of the grid with sixteen zeros before it and zeros after it. -/
def padRow (g : Fin 64 → EReal) (q : ℕ) : EReal := if h : 16 ≤ q ∧ q < 80 then g ⟨q - 16, by omega⟩ else 0

/-- The first `n` values added up in order, from zero. -/
def taps (f : ℕ → EReal) : ℕ → EReal
  | 0 => 0
  | n + 1 => taps f n + f n

/-- The convolution of one row at place `j`. -/
def conv (w : Fin 31 → EReal) (g : Fin 64 → EReal) (j : ℕ) : EReal :=
  taps (fun k => w ⟨k % 31, Nat.mod_lt _ (by decide)⟩ * padRow g (1 + k + j)) 31

end Cert.Conv

namespace Cert.Kernel7Ideal.Conv

open Cert.Kernel7Ideal Cert.Kernel7Ideal.Gen Cert.Conv

/-- The gated block as rows of the grid. -/
theorem pay5_at (v0 v3 : FVec Ideal S1x1024x256 .bf16) (r : Fin 16) (j : Fin 64) (ch : Fin 256) :
    (k0_pay5 (F := Ideal) v0 v3 (ix3 r j ch) : EReal)
      = gate (v0 (ix3 0 ⟨r.val * 64 + j.val, by omega⟩ ch)) (v3 (ix3 0 ⟨r.val * 64 + j.val, by omega⟩ ch)) := by
  pointwise [k0_pay5]
  rfl

variable (G : FVec Ideal S16x64x256 .f32)

/-- The rows with zeros around them. -/
def padded : Vec Ideal S16x96x256 .f32 := fun y => padRow (fun j => G (ix3 (n0 := 16) (n1 := 64) (n2 := 256) (y 0) j (y 2))) (y 1).val

/-- The eight copies of the rows, each one place further on. -/
def shifted (P : Vec Ideal S16x96x256 .f32) : Vec Ideal S8x16x88x256 .f32 := fun y =>
  P (ix3 (n0 := 16) (n1 := 96) (n2 := 256) (y 1) ⟨(y 0).val + (y 2).val, by
    have h0 : (y 0).val < 8 := (y 0).isLt
    have h2 : (y 2).val < 88 := (y 2).isLt
    omega⟩ (y 3))

/-- A copy at an index. -/
theorem shifted_at (n : Fin 8) (r : Fin 16) (q : Fin 88) (ch : Fin 256) :
    (shifted (padded G) (ix4 n r q ch) : EReal) = padRow (fun j => G (ix3 r j ch)) (n.val + q.val) := rfl

/-- The three stores leave the padded rows. -/
theorem canon_padded : View.canon (Val := Elt Ideal) (s := S16x96x256) (e := .f32)
    [⟨Rect.unit ![0, 16, 0] ![16, 64, 256] inb_S16x96x256_S16x64x256_0_16_0, G⟩,
     ⟨Rect.unit ![0, 80, 0] ![16, 16, 256] inb_S16x96x256_S16x16x256_0_80_0, k0_pay4 (F := Ideal)⟩,
     ⟨Rect.unit ![0, 0, 0] ![16, 16, 256] inb_S16x96x256_S16x16x256_0_0_0, k0_pay3 (F := Ideal)⟩] = padded G := by
  funext y
  refine View.canon_apply_of_pieces (padded G) _ ?_ y ?_
  · intro p hp x
    simp only [List.mem_cons, List.not_mem_nil, or_false] at hp
    rcases hp with rfl | rfl | rfl
    · have h1 : (x 1).val < 64 := (x 1).isLt
      have e : padRow (fun j => G (ix3 (n0 := 16) (n1 := 64) (n2 := 256) (x 0) j (x 2))) (16 + (x 1).val) = G x := by
        unfold padRow
        rw [dif_pos (by omega)]
        refine congrArg G (funext fun a => ?_)
        fin_cases a
        · rfl
        · exact Fin.ext (show 16 + (x 1).val - 16 = (x 1).val by omega)
        · rfl
      refine e.symm.trans ?_
      unfold padded
      refine congrArg₂ padRow (funext fun j => congrArg G ?_) ?_
      · refine congrArg₂ (fun a b => ix3 (n0 := 16) (n1 := 64) (n2 := 256) a j b) (Fin.ext ?_) (Fin.ext ?_)
        · show (x 0).val = 0 + 1 * (x 0).val; omega
        · show (x 2).val = 0 + 1 * (x 2).val; omega
      · show 16 + (x 1).val = 16 + 1 * (x 1).val; omega
    · have h1 : (x 1).val < 16 := (x 1).isLt
      refine Eq.trans ?_ (dif_neg ?_).symm
      · show Ideal.ofBits .f32 0x00000000#32 = 0
        simp
      · show ¬(16 ≤ 80 + 1 * (x 1).val ∧ 80 + 1 * (x 1).val < 80); omega
    · have h1 : (x 1).val < 16 := (x 1).isLt
      refine Eq.trans ?_ (dif_neg ?_).symm
      · show Ideal.ofBits .f32 0x00000000#32 = 0
        simp
      · show ¬(16 ≤ 0 + 1 * (x 1).val ∧ 0 + 1 * (x 1).val < 80); omega
  · have h0 : (y 0).val < 16 := (y 0).isLt
    have h1 : (y 1).val < 96 := (y 1).isLt
    have h2 : (y 2).val < 256 := (y 2).isLt
    by_cases ha : (y 1).val < 16
    · refine ⟨_, List.mem_cons_of_mem _ (List.mem_cons_of_mem _ (List.mem_singleton_self _)), ?_⟩
      rw [Rect.mem_set_unit]
      intro a
      fin_cases a
      · show 0 ≤ (y 0).val ∧ (y 0).val < 0 + 16; omega
      · show 0 ≤ (y 1).val ∧ (y 1).val < 0 + 16; omega
      · show 0 ≤ (y 2).val ∧ (y 2).val < 0 + 256; omega
    · by_cases hb : (y 1).val < 80
      · refine ⟨_, List.mem_cons_self, ?_⟩
        rw [Rect.mem_set_unit]
        intro a
        fin_cases a
        · show 0 ≤ (y 0).val ∧ (y 0).val < 0 + 16; omega
        · show 16 ≤ (y 1).val ∧ (y 1).val < 16 + 64; omega
        · show 0 ≤ (y 2).val ∧ (y 2).val < 0 + 256; omega
      · refine ⟨_, List.mem_cons_of_mem _ List.mem_cons_self, ?_⟩
        rw [Rect.mem_set_unit]
        intro a
        fin_cases a
        · show 0 ≤ (y 0).val ∧ (y 0).val < 0 + 16; omega
        · show 80 ≤ (y 1).val ∧ (y 1).val < 80 + 16; omega
        · show 0 ≤ (y 2).val ∧ (y 2).val < 0 + 256; omega

/-- A copy lies within the rows. -/
theorem inb_shift (n : Fin 8) : ∀ i, (![0, n.val, 0] : Fin 3 → ℕ) i + (![16, 88, 256] : Fin 3 → ℕ) i ≤ S16x96x256.size i := by
  revert n; decide

/-- The copies' places. -/
theorem inb_part (n : Fin 8) : ∀ i, (![n.val, 0, 0, 0] : Fin 4 → ℕ) i + (![1, 16, 88, 256] : Fin 4 → ℕ) i ≤ S8x16x88x256.size i := by
  revert n; decide

/-- The store of the `n`-th copy. -/
def shiftPiece (P : Vec Ideal S16x96x256 .f32) (n : Fin 8) : View.Piece (Elt Ideal) S8x16x88x256 .f32 :=
  ⟨Rect.unit (s := S8x16x88x256) ![n.val, 0, 0, 0] ![1, 16, 88, 256] (inb_part n),
    k0_pay6 (F := Ideal) (fun j => P ((Rect.unit (s := S16x96x256) ![0, n.val, 0] ![16, 88, 256] (inb_shift n)).idx j))⟩

/-- A copy's payload at an index. -/
theorem pay6_at (v : FVec Ideal S16x88x256 .f32) (x : S1x16x88x256.Idx) :
    (k0_pay6 (F := Ideal) v x : EReal) = v (ix3 (n0 := 16) (n1 := 88) (n2 := 256) (x 1) (x 2) (x 3)) := by
  have h0 : (x 0).val < 1 := (x 0).isLt
  refine shapeCast_apply _ _ _ _ ?_
  rw [Shape.rowMajor_val_three, Shape.rowMajor_val_four]
  show ((x 1).val * 88 + (x 2).val) * 256 + (x 3).val = (((x 0).val * 16 + (x 1).val) * 88 + (x 2).val) * 256 + (x 3).val
  omega

/-- The eight stores leave the copies. -/
theorem canon_shifted (P : Vec Ideal S16x96x256 .f32) : View.canon (Val := Elt Ideal) (s := S8x16x88x256) (e := .f32)
    [shiftPiece P 7, shiftPiece P 6, shiftPiece P 5, shiftPiece P 4, shiftPiece P 3, shiftPiece P 2, shiftPiece P 1, shiftPiece P 0]
    = shifted P := by
  funext y
  refine View.canon_apply_of_pieces (shifted P) _ ?_ y ?_
  · have key : ∀ (n : Fin 8) (x : (shiftPiece P n).1.shape.Idx), (shiftPiece P n).2 x = shifted P ((shiftPiece P n).1.emb x) := by
      intro n x
      refine Eq.trans (b := P ((Rect.unit (s := S16x96x256) ![0, n.val, 0] ![16, 88, 256] (inb_shift n)).idx
        (ix3 (n0 := 16) (n1 := 88) (n2 := 256) (x 1) (x 2) (x 3))))
        (pay6_at (fun j => P ((Rect.unit (s := S16x96x256) ![0, n.val, 0] ![16, 88, 256] (inb_shift n)).idx j)) x) (congrArg P (funext fun a => Fin.ext ?_))
      have h0 : (x 0).val < 1 := (x 0).isLt
      fin_cases a
      · show 0 + 1 * (x 1).val = 0 + 1 * (x 1).val; rfl
      · show n.val + 1 * (x 2).val = n.val + 1 * (x 0).val + (0 + 1 * (x 2).val); omega
      · show 0 + 1 * (x 3).val = 0 + 1 * (x 3).val; rfl
    intro p hp
    simp only [List.mem_cons, List.not_mem_nil, or_false] at hp
    rcases hp with rfl | rfl | rfl | rfl | rfl | rfl | rfl | rfl <;> exact key _
  · have key : ∀ n : Fin 8, (y 0).val = n.val → y ∈ (shiftPiece P n).1.set := by
      intro n hn
      have h1 : (y 1).val < 16 := (y 1).isLt
      have h2 : (y 2).val < 88 := (y 2).isLt
      have h3 : (y 3).val < 256 := (y 3).isLt
      refine (Rect.mem_set_unit (s := S8x16x88x256) (inb := inb_part n)).mpr fun a => ?_
      fin_cases a
      · show n.val ≤ (y 0).val ∧ (y 0).val < n.val + 1; omega
      · show 0 ≤ (y 1).val ∧ (y 1).val < 0 + 16; omega
      · show 0 ≤ (y 2).val ∧ (y 2).val < 0 + 88; omega
      · show 0 ≤ (y 3).val ∧ (y 3).val < 0 + 256; omega
    have h0 : (y 0).val < 8 := (y 0).isLt
    obtain ⟨n, hn⟩ : ∃ n : Fin 8, (y 0).val = n.val := ⟨⟨(y 0).val, h0⟩, rfl⟩
    refine ⟨shiftPiece P n, ?_, key n hn⟩
    fin_cases n <;> simp

section

variable (c : Dev nD) (i : grid0.Coords)
    (arg2 : Memref sig .tc .vmem S1x1024x512 .bf16) (harg2 : arg2.IsWhole) (arg3 : Memref sig .tc .vmem S31x256 .f32) (harg3 : arg3.IsWhole)
    (arg4 : Memref sig .tc .vmem S1x256 .f32) (harg4 : arg4.IsWhole) (arg5 : Memref sig .tc .vmem S1x256 .f32) (harg5 : arg5.IsWhole)
    (arg6 : Memref sig .tc .vmem S1x256 .f32) (harg6 : arg6.IsWhole) (arg7 : Memref sig .tc .vmem S256x256 .bf16) (harg7 : arg7.IsWhole)
    (arg8 : Memref sig .tc .vmem S1x1024x256 .f32) (harg8 : arg8.IsWhole) (arg9 : Memref sig .tc .vmem S16x96x256 .f32) (harg9 : arg9.IsWhole)
    (arg10 : Memref sig .tc .vmem S8x16x88x256 .f32) (harg10 : arg10.IsWhole)
    (x0 : Vec Ideal S1x1024x512 .bf16) (x1 : Vec Ideal S31x256 .f32) (x2 x3 x4 : Vec Ideal S1x256 .f32) (x5 : Vec Ideal S256x256 .bf16)

/-- The gated block a point's stores start from. -/
def gated : FVec Ideal S16x64x256 .f32 :=
  k0_pay5 (F := Ideal) (View.ld (Val := Elt Ideal) x0 (Rect.unit ![0, 0, 0] ![1, 1024, 256] inb_S1x1024x512_S1x1024x256_0_0_0))
    (View.ld (Val := Elt Ideal) x0 (Rect.unit ![0, 0, 256] ![1, 1024, 256] inb_S1x1024x512_S1x1024x256_0_0_256))

/-- What a point stores, from the sum of the products and the last product. -/
theorem out6_eq : ∃ a b : FVec Ideal S16x64x256 .f32,
    (∀ (r : Fin 16) (j : Fin 64) (ch : Fin 256), (a (ix3 r j ch) + b (ix3 r j ch) : EReal)
      = conv (fun k => x1 (ix2 k ch)) (fun j => gated x0 (ix3 r j ch)) j.val)
    ∧ out0_A_6 (F := Ideal) c i arg2 harg2 arg3 harg3 arg4 harg4 arg5 harg5 arg6 harg6 arg7 harg7 arg8 harg8 arg9 harg9 arg10 harg10 x0 x1 x2 x3 x4 x5
      = k0_pay1 (F := Ideal) (k0_pay27 a b x2 x5 x5 x5) (k0_pay31 a b x2 x5 x5 x5) (k0_pay32 a b x2 x5 x5 x5) (k0_pay33 a b x2 x5 x5 x5 x5)
        (k0_pay34 x5) x5 x3 x4 := by
  refine Exists.intro ?a (Exists.intro ?b ⟨?sum, ?out⟩)
  case out =>
    unfold out0_A_6
    rw [View.read_writes_junk_eq_canon]
    unfold kernelRun0_A
    dsimp only
    sl_unfold_words
    simp (disch := decide) only [View.readAt_eq_ld, Memref.IsWhole.read_unread]
    simp only [View.readCov_eq_canon']
    rw [View.canon_unit_zero (by decide)]
    generalize hP : View.canon (Val := Elt Ideal) (s := S16x96x256) (e := .f32) _ = P
    obtain rfl : padded (gated x0) = P := (canon_padded (gated x0)).symm.trans hP
    generalize hQ : View.canon (Val := Elt Ideal) (s := S8x16x88x256) (e := .f32) _ = Q
    obtain rfl : shifted (padded (gated x0)) = Q := (canon_shifted (padded (gated x0))).symm.trans hQ
    simp only [View.ld_unit_zero (Val := Elt Ideal) (S := S256x256) (off := ![0, 0]) (by decide),
      View.ld_unit_zero (Val := Elt Ideal) (S := S1x256) (off := ![0, 0]) (by decide)]
    rfl
  case sum =>
    intro r j ch
    pointwise [k0_pay14, k0_pay15, k0_pay16, k0_pay17, k0_pay18, k0_pay19, k0_pay20, k0_pay21, k0_pay22, k0_pay23, k0_pay24, k0_pay25, k0_pay26]
    simp only [shifted_at]
    unfold conv
    simp only [taps]
    repeat' refine congrArg₂ (fun a b : EReal => a + b) ?_ ?_
    · simp
    all_goals refine congrArg₂ (fun a b : EReal => a * b) rfl (congrArg (padRow _) ?_)
    all_goals simp
    all_goals omega

end

end Cert.Kernel7Ideal.Conv

end
-- ==== Proof.ConvTail.lean ====
/- The convolution channels: the norm over the groups, on one block. -/
module

public import proofs.«01_k».proof.Proof.ConvBlock
public import proofs.«01_k».proof.Proof.Exchange

@[expose] public section

set_option maxHeartbeats 4000000

noncomputable section

open Idealize.ShloMosaic
open scoped BigOperators

namespace Cert.Conv

/-- The mean over the groups that the kernel takes: three parts of each value against the table. -/
def mean3 (v : Fin 256 → EReal) (t : Fin 256 → EReal) : EReal :=
  (∑ k, v k * t k) + (∑ k, (v k - v k) * t k) + ∑ k, (v k - v k - (v k - v k)) * t k

/-- The scaled channel through silu. -/
def out (d gw gb mean : EReal) : EReal :=
  (d * Ideal.rsqrt (mean + Ideal.ofBits .f32 0x358637BD#32) * gw + gb) * Ideal.logistic (d * Ideal.rsqrt (mean + Ideal.ofBits .f32 0x358637BD#32) * gw + gb)

end Cert.Conv

namespace Cert.Kernel7Ideal.Conv

open Cert.Kernel7Ideal Cert.Kernel7Ideal.Gen Cert.Conv

section
variable (a b : FVec Ideal S16x64x256 .f32) (x2 x3 x4 : FVec Ideal S1x256 .f32) (x5 : FVec Ideal S256x256 .bf16)

/-- The convolution's channels at a position of the block. -/
def channel (p : Fin 1024) (ch : Fin 256) : EReal :=
  (a (ix3 ⟨p.val / 64, by omega⟩ ⟨p.val % 64, by omega⟩ ch) + b (ix3 ⟨p.val / 64, by omega⟩ ⟨p.val % 64, by omega⟩ ch)) + x2 (ix2 0 ch)

/-- The centred channels. -/
theorem pay27_at (p : Fin 1024) (ch : Fin 256) : (k0_pay27 (F := Ideal) a b x2 x5 x5 x5 (ix2 p ch) : EReal)
    = channel a b x2 p ch - mean3 (channel a b x2 p) (fun k => x5 (ix2 k ch)) := by
  pointwise [k0_pay27]
  rfl

/-- The stored block at an index. -/
theorem pay1_at (p : Fin 1024) (ch : Fin 256) (d : Fin 256 → EReal)
    (hd : ∀ k, (k0_pay27 (F := Ideal) a b x2 x5 x5 x5 (ix2 p k) : EReal) = d k) :
    (k0_pay1 (F := Ideal) (k0_pay27 a b x2 x5 x5 x5) (k0_pay31 a b x2 x5 x5 x5) (k0_pay32 a b x2 x5 x5 x5) (k0_pay33 a b x2 x5 x5 x5 x5)
        (k0_pay34 x5) x5 x3 x4 (ix3 0 p ch) : EReal)
      = out (d ch) (x3 (ix2 0 ch)) (x4 (ix2 0 ch)) (mean3 (fun k => d k * d k) (fun k => x5 (ix2 k ch))) := by
  unfold k0_pay34 k0_pay33 k0_pay32 k0_pay31 k0_pay30 k0_pay29 k0_pay28
  generalize k0_pay27 (F := Ideal) a b x2 x5 x5 x5 = e at *
  pointwise [k0_pay1]
  simp only [hd]
  rfl

end

end Cert.Kernel7Ideal.Conv

end
-- ==== Proof.ConvNorm.lean ====
/- The convolution channels: the kernel's mean of three parts is the mean over the group, for finite channels. -/
module

public import proofs.«01_k».proof.Proof.ConvTail

@[expose] public section

noncomputable section

open Idealize.ShloMosaic Cert.Norm
open scoped BigOperators

namespace Cert.Conv

/-- The mean over the channels of `ch`'s group. -/
def group (y : Fin 256 → EReal) (ch : Fin 256) : EReal :=
  Ideal.div (∑ j : Fin 64, y ⟨ch.val / 64 * 64 + j.val, by omega⟩) (Ideal.ofBits .f32 0x42800000#32)

/-- The channels through the group norm and silu. -/
def normed (y : Fin 256 → EReal) (gw gb : EReal) (ch : Fin 256) : EReal :=
  out (y ch - group y ch) gw gb (group (fun k => (y k - group y k) * (y k - group y k)) ch)

/-- The table's entry: the group's share where the two channels are of one group. -/
def share (k ch : Fin 256) : EReal := if k.val / 64 = ch.val / 64 then Ideal.ofBits .f32 0x3C800000#32 else Ideal.ofBits .f32 0x00000000#32

theorem share_real (k ch : Fin 256) : share k ch = ((if k.val / 64 = ch.val / 64 then 1 / 64 else 0 : ℝ) : EReal) := by
  unfold share
  split
  · simp [Ideal.ofBits, Ideal.ieee, -EReal.coe_mul]; norm_num
  · exact Ideal.ofBits_zero_f32

/-- A sum over the channels of one group. -/
theorem sum_group (ch : Fin 256) (f : Fin 256 → ℝ) : (∑ k : Fin 256, if k.val / 64 = ch.val / 64 then f k else 0)
    = ∑ j : Fin 64, f ⟨ch.val / 64 * 64 + j.val, by omega⟩ := by
  rw [← (finProdFinEquiv (m := 4) (n := 64)).sum_comp (fun k : Fin 256 => if k.val / 64 = ch.val / 64 then f k else 0), Fintype.sum_prod_type,
    Finset.sum_eq_single (⟨ch.val / 64, by omega⟩ : Fin 4)]
  · refine Finset.sum_congr rfl fun j _ => ?_
    have e : (finProdFinEquiv (m := 4) (n := 64) (⟨ch.val / 64, by omega⟩, j)).val = j.val + 64 * (ch.val / 64) := rfl
    rw [if_pos (by rw [e]; omega)]
    exact congrArg f (Fin.ext (by rw [e]; show _ = ch.val / 64 * 64 + j.val; omega))
  · intro g _ hg
    refine Finset.sum_eq_zero fun j _ => if_neg ?_
    have e : (finProdFinEquiv (m := 4) (n := 64) (g, j)).val = j.val + 64 * g.val := rfl
    rw [e]
    intro h
    exact hg (Fin.ext (by show g.val = ch.val / 64; omega))
  · intro h; exact absurd (Finset.mem_univ _) h

/-- The mean of real channels. -/
theorem group_coe (r : Fin 256 → ℝ) (ch : Fin 256) :
    group (fun k => (r k : EReal)) ch = (((∑ j : Fin 64, r ⟨ch.val / 64 * 64 + j.val, by omega⟩) / 64 : ℝ) : EReal) := by
  unfold group
  rw [show Ideal.ofBits .f32 0x42800000#32 = ((64 : ℝ) : EReal) by simp [Ideal.ofBits, Ideal.ieee, -EReal.coe_mul]; norm_num,
    ← coe_sum, Ideal.div_coe (by norm_num), ← EReal.coe_mul, mul_one_div]

/-- The kernel's mean is the mean over the group, for real channels. -/
theorem mean3_eq {y : Fin 256 → EReal} (hy : ∀ k, IsReal (y k)) (ch : Fin 256) : mean3 y (fun k => share k ch) = group y ch := by
  choose r hr using hy
  obtain rfl : y = fun k => (r k : EReal) := funext hr
  rw [group_coe]
  unfold mean3
  simp only [share_real, ← EReal.coe_sub, ← EReal.coe_mul, ← coe_sum, ← EReal.coe_add]
  congr 1
  simp only [sub_self, zero_mul, Finset.sum_const_zero, add_zero]
  rw [Finset.sum_div, ← sum_group ch (fun k => r k / 64)]
  refine Finset.sum_congr rfl fun k _ => ?_
  split
  · ring
  · ring

/-- The mean of real channels is real. -/
theorem group_fin {y : Fin 256 → EReal} (hy : ∀ k, IsReal (y k)) (ch : Fin 256) : IsReal (group y ch) := by
  choose r hr using hy
  obtain rfl : y = fun k => (r k : EReal) := funext hr
  exact ⟨_, group_coe r ch⟩

/-- The kernel's norm is the group norm, for real channels. -/
theorem normed_eq {y : Fin 256 → EReal} (hy : ∀ k, IsReal (y k)) (gw gb : EReal) (ch : Fin 256) (d : Fin 256 → EReal)
    (hd : ∀ k, d k = y k - mean3 y (fun i => share i k)) :
    out (d ch) gw gb (mean3 (fun k => d k * d k) (fun k => share k ch)) = normed y gw gb ch := by
  obtain rfl : d = fun k => y k - group y k := funext fun k => (hd k).trans (congrArg (fun a : EReal => y k - a) (mean3_eq hy k))
  rw [mean3_eq (fun k => ?_) ch]
  · rfl
  · obtain ⟨a, ha⟩ := hy k
    obtain ⟨b, hb⟩ := group_fin hy k
    refine ⟨(a - b) * (a - b), ?_⟩
    show (y k - group y k) * (y k - group y k) = _
    rw [ha, hb, EReal.coe_mul, EReal.coe_sub]

/-- A mean depends on the group alone. -/
theorem group_congr (y : Fin 256 → EReal) {k ch : Fin 256} (h : k.val / 64 = ch.val / 64) : group y k = group y ch := by
  unfold group
  simp only [h]

/-- The gate of real values is real. -/
theorem gate_fin {a b : EReal} (ha : IsReal a) (hb : IsReal b) : IsReal (gate a b) := by
  obtain ⟨x, rfl⟩ := ha
  obtain ⟨z, rfl⟩ := hb
  unfold gate Ideal.logistic
  rw [← EReal.coe_neg, Ideal.exp_coe, ← EReal.coe_one, ← EReal.coe_add, Ideal.div_coe (by positivity), ← EReal.coe_mul, ← EReal.coe_mul]
  exact ⟨_, rfl⟩

/-- A sum of real products is real. -/
theorem taps_fin {f : ℕ → EReal} (hf : ∀ k, IsReal (f k)) (n : ℕ) : IsReal (taps f n) := by
  induction n with
  | zero => exact ⟨0, rfl⟩
  | succ n ih =>
    obtain ⟨a, ha⟩ := ih
    obtain ⟨b, hb⟩ := hf n
    exact ⟨a + b, by show taps f n + f n = _; rw [ha, hb, EReal.coe_add]⟩

/-- The padded row of real values is real. -/
theorem padRow_fin {g : Fin 64 → EReal} (hg : ∀ j, IsReal (g j)) (q : ℕ) : IsReal (padRow g q) := by
  unfold padRow
  split
  · exact hg _
  · exact ⟨0, rfl⟩

/-- The convolution of real values is real. -/
theorem conv_fin {w : Fin 31 → EReal} {g : Fin 64 → EReal} (hw : ∀ k, IsReal (w k)) (hg : ∀ j, IsReal (g j)) (j : ℕ) : IsReal (conv w g j) := by
  refine taps_fin (fun k => ?_) 31
  obtain ⟨a, ha⟩ := hw ⟨k % 31, Nat.mod_lt _ (by decide)⟩
  obtain ⟨b, hb⟩ := padRow_fin hg (1 + k + j)
  exact ⟨a * b, by rw [ha, hb, EReal.coe_mul]⟩

/-- The channels of all positions: the gated values of a row of the grid against the weights, plus the bias. -/
def channelAt (gl : FVec Ideal (⟨3, ![2, 16384, 512]⟩ : Shape) .bf16) (w : FVec Ideal (⟨2, ![31, 256]⟩ : Shape) .f32)
    (b : FVec Ideal (⟨1, ![256]⟩ : Shape) .f32) (i : Fin 2) (l : Fin 16384) (ch : Fin 256) : EReal :=
  conv (fun k => w (ix2 k ch)) (fun j => gate (gl (ix3 i ⟨l.val / 64 * 64 + j.val, by omega⟩ ⟨ch.val, by omega⟩))
    (gl (ix3 i ⟨l.val / 64 * 64 + j.val, by omega⟩ ⟨256 + ch.val, by omega⟩))) (l.val % 64) + b (ix1 ch)

/-- The channels of finite arguments are finite. -/
theorem channelAt_fin {gl : FVec Ideal (⟨3, ![2, 16384, 512]⟩ : Shape) .bf16} {w : FVec Ideal (⟨2, ![31, 256]⟩ : Shape) .f32}
    {b : FVec Ideal (⟨1, ![256]⟩ : Shape) .f32} (hg : ∀ y, IsReal (gl y)) (hw : ∀ y, IsReal (w y)) (hb : ∀ y, IsReal (b y))
    (i : Fin 2) (l : Fin 16384) (ch : Fin 256) : IsReal (channelAt gl w b i l ch) := by
  obtain ⟨x, hx⟩ := conv_fin (w := fun k => w (ix2 k ch)) (g := fun j => gate (gl (ix3 i ⟨l.val / 64 * 64 + j.val, by omega⟩ ⟨ch.val, by omega⟩))
    (gl (ix3 i ⟨l.val / 64 * 64 + j.val, by omega⟩ ⟨256 + ch.val, by omega⟩))) (fun k => hw _) (fun j => gate_fin (hg _) (hg _)) (l.val % 64)
  obtain ⟨z, hz⟩ := hb (ix1 ch)
  refine ⟨x + z, ?_⟩
  unfold channelAt
  rw [hx, hz, EReal.coe_add]

/-- The result at a position and channel. -/
def resultAt (gl : FVec Ideal (⟨3, ![2, 16384, 512]⟩ : Shape) .bf16) (w : FVec Ideal (⟨2, ![31, 256]⟩ : Shape) .f32)
    (b gw gb : FVec Ideal (⟨1, ![256]⟩ : Shape) .f32) (i : Fin 2) (l : Fin 16384) (ch : Fin 256) : EReal :=
  normed (channelAt gl w b i l) (gw (ix1 ch)) (gb (ix1 ch)) ch

end Cert.Conv

end
-- ==== Proof.ConvRun.lean ====
/- The convolution channels: the kernel's blocks and its result array. -/
module

public import proofs.«01_k».proof.Proof.ConvTail
public import proofs.«01_k».proof.Proof.ConvNorm
public import proofs.«01_k».proof.Proof.Gen.Kernel7Ideal.Value
public import Idealize.ShloMosaic.Lib.StableHlo.RunRead
public import Idealize.ShloMosaic.Lib.WordCmp

@[expose] public section

set_option maxHeartbeats 4000000

noncomputable section

open Idealize.ShloMosaic Idealize.ShloMosaic.TcCoe Idealize.SL.Sem Cert.Norm

namespace Cert.Kernel7Ideal.Conv

open Cert.Kernel7Ideal Cert.Kernel7Ideal.Gen Cert.Kernel7Ideal.Value Cert.Conv WordCmp

section

variable (x0 : Vec Ideal S1x1024x512 .bf16) (x1 : Vec Ideal S31x256 .f32) (x2 x3 x4 : Vec Ideal S1x256 .f32) (x5 : Vec Ideal S256x256 .bf16)

/-- The gated block at an index. -/
theorem gated_at (r : Fin 16) (j : Fin 64) (ch : Fin 256) : (gated x0 (ix3 r j ch) : EReal)
    = gate (x0 (ix3 0 ⟨r.val * 64 + j.val, by omega⟩ ⟨ch.val, by omega⟩)) (x0 (ix3 0 ⟨r.val * 64 + j.val, by omega⟩ ⟨256 + ch.val, by omega⟩)) := by
  refine (pay5_at _ _ r j ch).trans (congrArg₂ gate (congrArg x0 (funext fun a => Fin.ext ?_)) (congrArg x0 (funext fun a => Fin.ext ?_)))
  · fin_cases a
    · rfl
    · show 0 + 1 * (r.val * 64 + j.val) = r.val * 64 + j.val; omega
    · show 0 + 1 * ch.val = ch.val; omega
  · fin_cases a
    · rfl
    · show 0 + 1 * (r.val * 64 + j.val) = r.val * 64 + j.val; omega
    · show 256 + 1 * ch.val = 256 + ch.val; omega

/-- The channels of a block are the channels of the whole, at the block's rows. -/
theorem channel_eq (gl : FVec Ideal S2x16384x512 .bf16) (b0 : FVec Ideal S256 .f32) (i : Fin 2) (s : Fin 16)
    (h0 : ∀ (q : Fin 1024) (k : Fin 512), x0 (ix3 0 q k) = gl (ix3 i ⟨s.val * 1024 + q.val, by omega⟩ k))
    (h2 : ∀ ch : Fin 256, x2 (ix2 0 ch) = b0 (ix1 ch))
    (a b : FVec Ideal S16x64x256 .f32)
    (hab : ∀ (r : Fin 16) (j : Fin 64) (ch : Fin 256), (a (ix3 r j ch) + b (ix3 r j ch) : EReal)
      = conv (fun k => x1 (ix2 k ch)) (fun j => gated x0 (ix3 r j ch)) j.val) (p : Fin 1024) (ch : Fin 256) :
    channel a b x2 p ch = channelAt gl x1 b0 i ⟨s.val * 1024 + p.val, by omega⟩ ch := by
  unfold channel channelAt
  rw [hab, h2]
  refine congrArg (fun e : EReal => e + b0 (ix1 ch)) ?_
  have hm : (s.val * 1024 + p.val) % 64 = p.val % 64 := by omega
  show conv _ _ (p.val % 64) = conv _ _ ((s.val * 1024 + p.val) % 64)
  rw [hm]
  refine congrArg (fun g => conv (fun k => x1 (ix2 k ch)) g (p.val % 64)) (funext fun j => ?_)
  rw [gated_at, h0, h0]
  have hr : (⟨s.val * 1024 + (p.val / 64 * 64 + j.val), by omega⟩ : Fin 16384)
      = ⟨(s.val * 1024 + p.val) / 64 * 64 + j.val, by omega⟩ := Fin.ext (by dsimp only; omega)
  exact congrArg (fun l : Fin 16384 => gate (gl (ix3 i l ⟨ch.val, by omega⟩)) (gl (ix3 i l ⟨256 + ch.val, by omega⟩))) hr

variable (c : Dev nD) (i : grid0.Coords)
    (arg2 : Memref sig .tc .vmem S1x1024x512 .bf16) (harg2 : arg2.IsWhole) (arg3 : Memref sig .tc .vmem S31x256 .f32) (harg3 : arg3.IsWhole)
    (arg4 : Memref sig .tc .vmem S1x256 .f32) (harg4 : arg4.IsWhole) (arg5 : Memref sig .tc .vmem S1x256 .f32) (harg5 : arg5.IsWhole)
    (arg6 : Memref sig .tc .vmem S1x256 .f32) (harg6 : arg6.IsWhole) (arg7 : Memref sig .tc .vmem S256x256 .bf16) (harg7 : arg7.IsWhole)
    (arg8 : Memref sig .tc .vmem S1x1024x256 .f32) (harg8 : arg8.IsWhole) (arg9 : Memref sig .tc .vmem S16x96x256 .f32) (harg9 : arg9.IsWhole)
    (arg10 : Memref sig .tc .vmem S8x16x88x256 .f32) (harg10 : arg10.IsWhole)

/-- The block a point leaves, when its input blocks are of the arguments' rows. -/
theorem out6_at (gl : FVec Ideal S2x16384x512 .bf16) (w : FVec Ideal S31x256 .f32) (b0 gw gb : FVec Ideal S256 .f32) (n : Fin 2) (s : Fin 16)
    (h0 : ∀ (q : Fin 1024) (k : Fin 512), x0 (ix3 0 q k) = gl (ix3 n ⟨s.val * 1024 + q.val, by omega⟩ k)) (h1 : x1 = w)
    (h2 : ∀ ch : Fin 256, x2 (ix2 0 ch) = b0 (ix1 ch)) (h3 : ∀ ch : Fin 256, x3 (ix2 0 ch) = gw (ix1 ch))
    (h4 : ∀ ch : Fin 256, x4 (ix2 0 ch) = gb (ix1 ch)) (h5 : ∀ k ch : Fin 256, x5 (ix2 k ch) = share k ch)
    (hg : ∀ y, IsReal (gl y)) (hw : ∀ y, IsReal (w y)) (hb : ∀ y, IsReal (b0 y)) (p : Fin 1024) (ch : Fin 256) :
    (out0_A_6 (F := Ideal) c i arg2 harg2 arg3 harg3 arg4 harg4 arg5 harg5 arg6 harg6 arg7 harg7 arg8 harg8 arg9 harg9 arg10 harg10 x0 x1 x2 x3 x4 x5
      (ix3 0 p ch) : EReal) = resultAt gl w b0 gw gb n ⟨s.val * 1024 + p.val, by omega⟩ ch := by
  subst h1
  obtain ⟨a, b, hab, ho⟩ := out6_eq c i arg2 harg2 arg3 harg3 arg4 harg4 arg5 harg5 arg6 harg6 arg7 harg7 arg8 harg8 arg9 harg9 arg10 harg10 x0 x1 x2 x3 x4 x5
  rw [ho]
  have hch : channel a b x2 p = channelAt gl x1 b0 n ⟨s.val * 1024 + p.val, by omega⟩ :=
    funext fun k => channel_eq x0 x1 x2 gl b0 n s h0 h2 a b hab p k
  refine (pay1_at a b x2 x3 x4 x5 p ch _ (fun k => pay27_at a b x2 x5 p k)).trans ?_
  simp only [h5]
  rw [h3, h4, hch]
  exact normed_eq (fun k => channelAt_fin hg hw hb n _ k) _ _ ch
    (fun k => channelAt gl x1 b0 n ⟨s.val * 1024 + p.val, by omega⟩ k
      - mean3 (channelAt gl x1 b0 n ⟨s.val * 1024 + p.val, by omega⟩) (fun i => share i k)) (fun _ => rfl)

end

/-- Which channels are of one group. -/
def groups : IVec S256x256 1 :=
  cmpi .eq (Host.divsi (iotaInDim S256x256 32 0) (broadcastInDim S256x256 ![] bcast_S_S256x256 (constantI S_ 32 64#32)))
    (Host.divsi (iotaInDim S256x256 32 1) (broadcastInDim S256x256 ![] bcast_S_S256x256 (constantI S_ 32 64#32)))

/-- The table the host hands the kernel. -/
def table : FVec Ideal S256x256 .bf16 :=
  truncf .bf16 (select groups (broadcastInDim S256x256 ![] bcast_S_S256x256 (constant (F := Ideal) S_ .f32 0x3C800000#32))
    (broadcastInDim S256x256 ![] bcast_S_S256x256 (constant S_ .f32 0x00000000#32))) bitsLt_bf16_f32

/-- The group of a channel. -/
theorem quot_eq : ∀ r : Fin 256, IntOp.divsi .host (BitVec.ofNat 32 r.val) 64#32 = BitVec.ofNat 32 (r.val / 64) := by decide +kernel

/-- Two channels are of one group. -/
theorem groups_at (k ch : Fin 256) : groups (ix2 k ch) = BitVec.ofBool (decide (k.val / 64 = ch.val / 64)) := by
  pointwise [groups]
  rw [quot_eq, quot_eq]
  exact cmpi_eq_ofNat (by omega) (by omega)

/-- The table at an index. -/
theorem table_at (k ch : Fin 256) : (table (ix2 k ch) : EReal) = share k ch := by
  pointwise [table]
  rw [groups_at, select_ofBool]
  simp only [decide_eq_true_eq]
  unfold share
  rw [Ideal.ofBits_zero_f32]

variable (m : (ℓ : Loc nD τ sig) → Buf (Elt Ideal) ℓ) (c : Dev nD)

/-- The arguments of the call. -/
abbrev argGl : FVec Ideal S2x16384x512 .bf16 := m ((c : Thread nD τ).loc main_arg0)
abbrev argDw : FVec Ideal S31x256 .f32 := m ((c : Thread nD τ).loc main_arg1)
abbrev argDb : FVec Ideal S256 .f32 := m ((c : Thread nD τ).loc main_arg2)
abbrev argGw : FVec Ideal S256 .f32 := m ((c : Thread nD τ).loc main_arg3)
abbrev argGb : FVec Ideal S256 .f32 := m ((c : Thread nD τ).loc main_arg4)

/-- The result of the kernel's arguments. -/
def result : Vec Ideal S2x16384x256 .f32 := fun y =>
  resultAt (argGl m c) (argDw m c) (argDb m c) (argGw m c) (argGb m c) (y 0) (y 1) (y 2)

/-- The table as the region finds it. -/
theorem table_entry : V m c main_v8 = table := by
  after_reads_simp
  rfl

/-- The bias as the region finds it. -/
theorem db_entry : V m c main_v9 = shapeCast S1x256 (argDb m c) shapeCasts_S256_S1x256 := by
  after_reads_simp
  rfl

/-- The norm's weight as the region finds it. -/
theorem gw_entry : V m c main_v10 = shapeCast S1x256 (argGw m c) shapeCasts_S256_S1x256 := by
  after_reads_simp
  rfl

/-- The norm's bias as the region finds it. -/
theorem gb_entry : V m c main_v11 = shapeCast S1x256 (argGb m c) shapeCasts_S256_S1x256 := by
  after_reads_simp
  rfl

/-- A reshaped row at an index. -/
theorem row_at (b : FVec Ideal S256 .f32) (ch : Fin 256) : shapeCast S1x256 b shapeCasts_S256_S1x256 (ix2 0 ch) = b (ix1 ch) := by
  pointwise

/-- The batch of a point. -/
def batch (t : Fin cfg0.N) : Fin 2 := ⟨t.val / 16, by have h : t.val < 32 := lt_of_lt_of_eq t.isLt N_0; omega⟩

/-- The stretch of tokens of a point. -/
def stretch (t : Fin cfg0.N) : Fin 16 := ⟨t.val % 16, by omega⟩

/-- Where the windows stand at each point. -/
theorem index_all : ∀ t : Fin grid0.N,
    win0_0.index t = ![t.val / 16, t.val % 16, 0] ∧ win0_1.index t = ![0, 0] ∧ win0_2.index t = ![0, 0] ∧ win0_3.index t = ![0, 0]
    ∧ win0_4.index t = ![0, 0] ∧ win0_5.index t = ![0, 0] ∧ win0_6.index t = ![t.val / 16, t.val % 16, 0] := by decide +kernel

/-- The block of the gated channels. -/
theorem block_gl (t : Fin cfg0.N) (q : Fin 1024) (k : Fin 512) : (iblk m c 0 t : Vec Ideal S1x1024x512 .bf16) (ix3 0 q k)
    = argGl m c (ix3 (batch t) ⟨(stretch t).val * 1024 + q.val, by omega⟩ k) := by
  refine (congrFun (V_main_arg0 m c) _).trans (congrArg _ (funext fun a => Fin.ext ?_))
  show win0_0.index t a * S1x1024x512.size a + 1 * _ = _
  rw [(index_all t).1]
  fin_cases a
  · show t.val / 16 * 1 + 1 * 0 = t.val / 16; omega
  · show t.val % 16 * 1024 + 1 * q.val = t.val % 16 * 1024 + q.val; omega
  · show 0 * 512 + 1 * k.val = k.val; omega

/-- The block of the taps. -/
theorem block_dw (t : Fin cfg0.N) : (iblk m c 1 t : Vec Ideal S31x256 .f32) = argDw m c := by
  funext x
  refine (congrFun (V_main_arg1 m c) _).trans (congrArg _ (funext fun a => Fin.ext ?_))
  show win0_1.index t a * S31x256.size a + 1 * (x a).val = (x a).val
  rw [(index_all t).2.1]
  fin_cases a
  · show 0 * 31 + 1 * (x 0).val = (x 0).val; omega
  · show 0 * 256 + 1 * (x 1).val = (x 1).val; omega

/-- The block of the bias. -/
theorem block_db (t : Fin cfg0.N) (ch : Fin 256) : (iblk m c 2 t : Vec Ideal S1x256 .f32) (ix2 0 ch) = argDb m c (ix1 ch) := by
  refine Eq.trans (congrArg (V m c main_v9 : Vec Ideal S1x256 .f32) (funext fun a => Fin.ext ?_))
    ((congrFun (db_entry m c) (ix2 0 ch)).trans (row_at _ ch))
  show win0_2.index t a * S1x256.size a + 1 * _ = _
  rw [(index_all t).2.2.1]
  fin_cases a
  · rfl
  · show 0 * 256 + 1 * ch.val = ch.val; omega

/-- The block of the norm's weight. -/
theorem block_gw (t : Fin cfg0.N) (ch : Fin 256) : (iblk m c 3 t : Vec Ideal S1x256 .f32) (ix2 0 ch) = argGw m c (ix1 ch) := by
  refine Eq.trans (congrArg (V m c main_v10 : Vec Ideal S1x256 .f32) (funext fun a => Fin.ext ?_))
    ((congrFun (gw_entry m c) (ix2 0 ch)).trans (row_at _ ch))
  show win0_3.index t a * S1x256.size a + 1 * _ = _
  rw [(index_all t).2.2.2.1]
  fin_cases a
  · rfl
  · show 0 * 256 + 1 * ch.val = ch.val; omega

/-- The block of the norm's bias. -/
theorem block_gb (t : Fin cfg0.N) (ch : Fin 256) : (iblk m c 4 t : Vec Ideal S1x256 .f32) (ix2 0 ch) = argGb m c (ix1 ch) := by
  refine Eq.trans (congrArg (V m c main_v11 : Vec Ideal S1x256 .f32) (funext fun a => Fin.ext ?_))
    ((congrFun (gb_entry m c) (ix2 0 ch)).trans (row_at _ ch))
  show win0_4.index t a * S1x256.size a + 1 * _ = _
  rw [(index_all t).2.2.2.2.1]
  fin_cases a
  · rfl
  · show 0 * 256 + 1 * ch.val = ch.val; omega

/-- The block of the table. -/
theorem block_table (t : Fin cfg0.N) (k ch : Fin 256) : (iblk m c 5 t : Vec Ideal S256x256 .bf16) (ix2 k ch) = share k ch := by
  refine Eq.trans (congrArg (V m c main_v8 : Vec Ideal S256x256 .bf16) (funext fun a => Fin.ext ?_))
    ((congrFun (table_entry m c) (ix2 k ch)).trans (table_at k ch))
  show win0_5.index t a * S256x256.size a + 1 * _ = _
  rw [(index_all t).2.2.2.2.2.1]
  fin_cases a
  · show 0 * 256 + 1 * k.val = k.val; omega
  · show 0 * 256 + 1 * ch.val = ch.val; omega

/-- An index of a block whose first axis has one entry. -/
theorem eq_ix3_one (x : S1x1024x256.Idx) : x = ix3 (n0 := 1) (n1 := 1024) (n2 := 256) 0 (x 1) (x 2) := by
  refine (eq_ix3 x).trans ?_
  congr 1
  exact Subsingleton.elim _ _

/-- The result array ends holding the result, for finite arguments. -/
theorem result_eq (hg : ∀ y, IsReal (argGl m c y)) (hw : ∀ y, IsReal (argDw m c y)) (hb : ∀ y, IsReal (argDb m c y)) :
    (dats m 0 c).arrAt 6 cfg0.N = result m c :=
  (dats m 0 c).arrAt_eq_of_cover 6 (result m c)
    (fun t _ => by
      rw [flushed6_A]
      funext x
      have e : (((cfg0.win 6).blk t).view.read (Elt Ideal) (result m c)) x
          = result m c (ix3 (n0 := 2) (n1 := 16384) (n2 := 256) (batch t) ⟨(stretch t).val * 1024 + (x 1).val, by
              have h1 : (x 1).val < 1024 := (x 1).isLt
              omega⟩ (x 2)) := by
        refine congrArg (result m c) (funext fun a => Fin.ext ?_)
        show win0_6.index t a * S1x1024x256.size a + 1 * (x a).val = _
        rw [(index_all t).2.2.2.2.2.2]
        have h0 : (x 0).val < 1 := (x 0).isLt
        fin_cases a
        · show t.val / 16 * 1 + 1 * (x 0).val = t.val / 16; omega
        · show t.val % 16 * 1024 + 1 * (x 1).val = t.val % 16 * 1024 + (x 1).val; omega
        · show 0 * 256 + 1 * (x 2).val = (x 2).val; omega
      rw [e]
      exact (congrArg _ (eq_ix3_one x)).trans (out6_at _ _ _ _ _ _ c _ _ _ _ _ _ _ _ _ _ _ _ _ _ _ _ _ _ _
        (argGl m c) (argDw m c) (argDb m c) (argGw m c) (argGb m c) (batch t) (stretch t)
        (block_gl m c t) (block_dw m c t) (block_db m c t) (block_gw m c t) (block_gb m c t) (block_table m c t) hg hw hb (x 1) (x 2)))
    (fun i => by
      have h0 : (i 0).val < 2 := (i 0).isLt
      have h1 : (i 1).val < 16384 := (i 1).isLt
      have h2 : (i 2).val < 256 := (i 2).isLt
      have hN : cfg0.N = 32 := N_0
      obtain ⟨t, ht⟩ : ∃ t : Fin cfg0.N, t.val = (i 0).val * 16 + (i 1).val / 1024 :=
        ⟨⟨(i 0).val * 16 + (i 1).val / 1024, by omega⟩, rfl⟩
      refine ⟨t, flush0_6 t, ?_⟩
      show i ∈ ((View.whole main_v12).slice (win0_6.rect t)).set
      rw [View.set_slice_whole, Rect.mem_set_unit]
      intro a
      show win0_6.index t a * S1x1024x256.size a ≤ (i a).val ∧ (i a).val < win0_6.index t a * S1x1024x256.size a + S1x1024x256.size a
      rw [(index_all t).2.2.2.2.2.2]
      fin_cases a
      · show t.val / 16 * 1 ≤ (i 0).val ∧ (i 0).val < t.val / 16 * 1 + 1; omega
      · show t.val % 16 * 1024 ≤ (i 1).val ∧ (i 1).val < t.val % 16 * 1024 + 1024; omega
      · show 0 * 256 ≤ (i 2).val ∧ (i 2).val < 0 * 256 + 256; omega)

end Cert.Kernel7Ideal.Conv

end
-- ==== Proof.RefConv.lean ====
/- The convolution channels: the reference's result at an index. -/
module

public import proofs.«01_k».proof.Proof.ConvNorm
public import proofs.«01_k».proof.Proof.Gen.Reference7Ideal.Run

@[expose] public section

set_option maxHeartbeats 4000000

noncomputable section

open Idealize.ShloMosaic Idealize.SL.Sem Cert.Norm
open scoped BigOperators

namespace Cert.Reference7Ideal.Conv

open Cert.Reference7Ideal Cert.Reference7Ideal.Gen Cert.Reference7Ideal.Value Cert.Conv

variable (V : Valuation τ sig (Elt Ideal))

/-- The arguments. -/
abbrev gl : FVec Ideal S2x16384x512 .bf16 := V (Proc.devRef .tc main_arg0)
abbrev dw : FVec Ideal S31x256 .f32 := V (Proc.devRef .tc main_arg1)
abbrev db : FVec Ideal S256 .f32 := V (Proc.devRef .tc main_arg2)
abbrev gw : FVec Ideal S256 .f32 := V (Proc.devRef .tc main_arg3)
abbrev gb : FVec Ideal S256 .f32 := V (Proc.devRef .tc main_arg4)

/-- The padded rows. -/
theorem v11_at (r : Fin 512) (q : Fin 94) (ch : Fin 256) :
    ((res_main_v11 V : FVec Ideal S512x94x256 .f32) (ix3 r q ch) : EReal)
      = padRow (fun j => gate (gl V (ix3 ⟨r.val / 256, by omega⟩ ⟨r.val % 256 * 64 + j.val, by omega⟩ ⟨ch.val, by omega⟩))
          (gl V (ix3 ⟨r.val / 256, by omega⟩ ⟨r.val % 256 * 64 + j.val, by omega⟩ ⟨256 + ch.val, by omega⟩))) (1 + q.val) := by
  unfold res_main_v11 res_main_v0
  pointwise
  unfold padRow
  by_cases h : 15 ≤ q.val ∧ q.val - 15 < 64
  · rw [dif_pos h, dif_pos (by omega)]
    have e : (⟨1 + q.val - 16, by omega⟩ : Fin 64) = ⟨q.val - 15, by omega⟩ := Fin.ext (by show 1 + q.val - 16 = q.val - 15; omega)
    rw [e]
    rfl
  · rw [dif_neg h, dif_neg (by omega)]
    show (((0#32 : BitVec 32).toInt : ℝ) : EReal) = 0
    simp

/-- The gated row of the grid at a position, from the row's number. -/
theorem row_eq (i : Fin 2) (l : Fin 16384) (ch : Fin 256) :
    (fun j : Fin 64 => gate (gl V (ix3 ⟨(i.val * 256 + l.val / 64) / 256, by omega⟩ ⟨(i.val * 256 + l.val / 64) % 256 * 64 + j.val, by omega⟩ ⟨ch.val, by omega⟩))
          (gl V (ix3 ⟨(i.val * 256 + l.val / 64) / 256, by omega⟩ ⟨(i.val * 256 + l.val / 64) % 256 * 64 + j.val, by omega⟩ ⟨256 + ch.val, by omega⟩)))
      = fun j => gate (gl V (ix3 i ⟨l.val / 64 * 64 + j.val, by omega⟩ ⟨ch.val, by omega⟩)) (gl V (ix3 i ⟨l.val / 64 * 64 + j.val, by omega⟩ ⟨256 + ch.val, by omega⟩)) := by
  funext j
  have e0 : (⟨(i.val * 256 + l.val / 64) / 256, by omega⟩ : Fin 2) = i := Fin.ext (by show (i.val * 256 + l.val / 64) / 256 = i.val; omega)
  have e1 : (⟨(i.val * 256 + l.val / 64) % 256 * 64 + j.val, by omega⟩ : Fin 16384) = ⟨l.val / 64 * 64 + j.val, by omega⟩ :=
    Fin.ext (by show (i.val * 256 + l.val / 64) % 256 * 64 + j.val = l.val / 64 * 64 + j.val; omega)
  rw [e0, e1]

/-- The channels by group. -/
theorem v233_at (i : Fin 2) (l : Fin 16384) (g : Fin 4) (j : Fin 64) :
    ((res_main_v233 V : FVec Ideal S2x16384x4x64 .f32) (ix4 i l g j) : EReal)
      = channelAt (gl V) (dw V) (db V) i l ⟨g.val * 64 + j.val, by omega⟩ := by
  unfold res_main_v233 res_main_v166 res_main_v89
  obtain ⟨p, hp, hv⟩ : ∃ p : FVec Ideal S512x94x256 .f32, res_main_v11 V = p ∧ ∀ (r : Fin 512) (q : Fin 94) (ch : Fin 256), (p (ix3 r q ch) : EReal)
      = padRow (fun j => gate (gl V (ix3 ⟨r.val / 256, by omega⟩ ⟨r.val % 256 * 64 + j.val, by omega⟩ ⟨ch.val, by omega⟩))
          (gl V (ix3 ⟨r.val / 256, by omega⟩ ⟨r.val % 256 * 64 + j.val, by omega⟩ ⟨256 + ch.val, by omega⟩))) (1 + q.val) := ⟨_, rfl, v11_at V⟩
  rw [hp]
  pointwise
  unfold channelAt conv
  simp only [taps, hv]
  refine congrArg₂ (fun a b : EReal => a + b) ?_ rfl
  repeat' refine congrArg₂ (fun a b : EReal => a + b) ?_ ?_
  · simp only [zero_add]
    exact congrArg₂ (fun a b : EReal => a * b) rfl (congrArg₂ padRow (row_eq V i l ⟨g.val * 64 + j.val, by omega⟩) (by simp))
  all_goals refine congrArg₂ (fun a b : EReal => a * b) rfl (congrArg₂ padRow (row_eq V i l ⟨g.val * 64 + j.val, by omega⟩) ?_)
  all_goals simp
  all_goals omega

/-- The scaled channels, from the channels. -/
def scaled (y : Fin 256 → EReal) (gw gb : EReal) (ch : Fin 256) : EReal :=
  (y ch - group y ch) * Ideal.rsqrt (group (fun k => (y k - group y k) * (y k - group y k)) ch + Ideal.ofBits .f32 0x358637BD#32) * gw + gb

/-- The scaled channels at an index. -/
theorem v258_at (i : Fin 2) (l : Fin 16384) (ch : Fin 256) :
    ((res_main_v258 V : FVec Ideal S2x16384x256 .f32) (ix3 i l ch) : EReal)
      = scaled (channelAt (gl V) (dw V) (db V) i l) (gw V (ix1 ch)) (gb V (ix1 ch)) ch := by
  unfold res_main_v258 res_main_v239 res_main_v237
  obtain ⟨p, hp, hv⟩ : ∃ p : FVec Ideal S2x16384x4x64 .f32, res_main_v233 V = p ∧ ∀ (i : Fin 2) (l : Fin 16384) (g : Fin 4) (j : Fin 64),
      (p (ix4 i l g j) : EReal) = channelAt (gl V) (dw V) (db V) i l ⟨g.val * 64 + j.val, by omega⟩ := ⟨_, rfl, v233_at V⟩
  rw [hp]
  pointwise
  simp only [hv]
  generalize channelAt (gl V) (dw V) (db V) i l = y
  have hc : (⟨ch.val / 64 * 64 + ch.val % 64, by omega⟩ : Fin 256) = ch := Fin.ext (by show ch.val / 64 * 64 + ch.val % 64 = ch.val; omega)
  have hg : ∀ x : Fin 64, group y ⟨ch.val / 64 * 64 + x.val, by omega⟩ = group y ch := fun x =>
    group_congr y (by show (ch.val / 64 * 64 + x.val) / 64 = ch.val / 64; omega)
  have e : group (fun k => (y k - group y k) * (y k - group y k)) ch
      = Ideal.div (∑ x : Fin 64, (y ⟨ch.val / 64 * 64 + x.val, by omega⟩ - group y ch) * (y ⟨ch.val / 64 * 64 + x.val, by omega⟩ - group y ch))
        (Ideal.ofBits .f32 0x42800000#32) := by
    refine congrArg (fun a : EReal => Ideal.div a (Ideal.ofBits .f32 0x42800000#32)) (Finset.sum_congr rfl fun x _ => ?_)
    show (y _ - group y _) * (y _ - group y _) = _
    rw [hg]
  unfold scaled
  rw [e, hc]
  rfl

/-- The scaled channels through silu, as the reference computes it. -/
def silu (z : FVec Ideal S2x16384x256 .f32) : FVec Ideal S2x16384x256 .f32 :=
  mulf z (Host.divf (broadcastInDim S2x16384x256 ![] bcast_S_S2x16384x256 (constant S_ .f32 0x3F800000#32)) (addf (broadcastInDim S2x16384x256 ![] bcast_S_S2x16384x256 (constant S_ .f32 0x3F800000#32)) (Host.exp (Host.negf z))))

/-- The silu at an index. -/
theorem silu_at (z : FVec Ideal S2x16384x256 .f32) (i : Fin 2) (l : Fin 16384) (ch : Fin 256) :
    (silu z (ix3 i l ch) : EReal) = z (ix3 i l ch) * Ideal.logistic (z (ix3 i l ch)) := by
  pointwise [silu]
  rfl

/-- The reference's result at an index. -/
theorem result_at (i : Fin 2) (l : Fin 16384) (ch : Fin 256) :
    (silu (res_main_v258 V) (ix3 i l ch) : EReal) = resultAt (gl V) (dw V) (db V) (gw V) (gb V) i l ch := by
  refine (silu_at _ i l ch).trans ?_
  rw [v258_at]
  rfl

end Cert.Reference7Ideal.Conv

end
-- ==== Proof.ConvClaim.lean ====
/- The convolution channels: the kernel's result is the reference's, for finite arguments. -/
module

public import proofs.«01_k».proof.Defs
public import proofs.«01_k».proof.Proof.ConvRun
public import proofs.«01_k».proof.Proof.RefConv
public import proofs.«01_k».proof.Proof.FoldClaim
public import proofs.«01_k».proof.Proof.Gen.Pre_finite_conv
public import Idealize.ShloMosaic.Adequacy

@[expose] public section

noncomputable section

namespace Cert.Proof

open Idealize.ShloMosaic Idealize.ShloMosaic.TcCoe Idealize.SL.Sem Cert.Norm

/-- Under the precondition the channels, the taps and their bias are real numbers. -/
theorem conv_real (m : (ℓ : Loc Cert.Kernel7Ideal.nD Cert.Kernel7Ideal.τ Cert.Kernel7Ideal.sig) → Buf (Elt Ideal) ℓ)
    (h : Cert.Pre_Kernel7Ideal_finite_conv (hPre_finite_conv := Cert.Pre_finite_conv.Gen.facts) m) (c : Dev Cert.Kernel7Ideal.nD) :
    (∀ y, IsReal (Cert.Kernel7Ideal.Conv.argGl m c y)) ∧ (∀ y, IsReal (Cert.Kernel7Ideal.Conv.argDw m c y))
    ∧ (∀ y, IsReal (Cert.Kernel7Ideal.Conv.argDb m c y)) := by
  obtain ⟨h0, h1, h2⟩ := h c
  exact ⟨real_of_ones (extf .f32 (Cert.Kernel7Ideal.Conv.argGl m c) (by decide)) _ (fun _ => inf_top) h0,
    real_of_ones _ _ (fun _ => inf_top) h1, real_of_ones _ _ (fun _ => inf_top) h2⟩

/-- The kernel's result is the reference's, for finite arguments. -/
theorem conv_eq : Cert.algebraic_Kernel7Ideal_Reference7Ideal_pre_finite_conv (hKernel7Ideal := Cert.Kernel7Ideal.Gen.facts)
    (hReference7Ideal := Cert.Reference7Ideal.Gen.facts) (hPre_finite_conv := Cert.Pre_finite_conv.Gen.facts) := by
  intro m g m' g' hpre hagree
  refine ⟨Cert.Kernel7Ideal.Conv.result m, ?_, ?_⟩
  · refine (θ_run _ _ _).mono (fun r h c => ?_) (Cert.Kernel7Ideal.Value.run_blocks m g)
    have hc := h c
    obtain ⟨hg, hw, hb⟩ := conv_real m hpre c
    exact ⟨hc.1.trans (Cert.Kernel7Ideal.Conv.result_eq m c hg hw hb), hc.2⟩
  · refine (θ_run _ _ _).mono (fun r h c => ?_) (Cert.Reference7Ideal.Value.run m' g')
    have hc := h c
    obtain ⟨h0, h1, h2, h3, h4⟩ := hagree c
    refine ⟨hc.1.trans ?_, hc.2⟩
    funext y
    refine (congrArg _ (eq_ix3 y)).trans ((Cert.Reference7Ideal.Conv.result_at _ (y 0) (y 1) (y 2)).trans ?_)
    show Cert.Conv.resultAt (m' ((c.tc : Thread Cert.Reference7Ideal.nD Cert.Reference7Ideal.τ).loc Cert.Reference7Ideal.main_arg0))
      (m' ((c.tc : Thread Cert.Reference7Ideal.nD Cert.Reference7Ideal.τ).loc Cert.Reference7Ideal.main_arg1))
      (m' ((c.tc : Thread Cert.Reference7Ideal.nD Cert.Reference7Ideal.τ).loc Cert.Reference7Ideal.main_arg2))
      (m' ((c.tc : Thread Cert.Reference7Ideal.nD Cert.Reference7Ideal.τ).loc Cert.Reference7Ideal.main_arg3))
      (m' ((c.tc : Thread Cert.Reference7Ideal.nD Cert.Reference7Ideal.τ).loc Cert.Reference7Ideal.main_arg4)) (y 0) (y 1) (y 2) = _
    rw [h0, h1, h2, h3, h4]
    rfl

/-- The reference runs, keeps its arguments and leaves no semaphore raised: it has none. -/
theorem frame_conv : Cert.quiescent_Reference7Ideal (hReference7Ideal := Cert.Reference7Ideal.Gen.facts) := fun m ρ _ =>
  (θ_run Cert.Reference7Ideal.defs _ _).mono
    (fun r h => ⟨fun c => (h c).2, sem_eq_zero_of_no_sems (by decide) r.2⟩) (Cert.Reference7Ideal.Value.run m ρ)

end Cert.Proof

end
-- ==== Proof.InputModel.lean ====
/- The layer's input projection and what the gated delta rule takes from it, in extended reals. -/
module

public import proofs.«01_k».proof.Proof.Norm

@[expose] public section

noncomputable section

open Idealize.ShloMosaic
open scoped BigOperators

namespace Cert.Input

/-- A weighted sum of a token, the one before it and the one after it, through silu. -/
def tap (w0 w1 w2 p x n : EReal) : EReal := (w0 * p + w1 * x + w2 * n) * Ideal.logistic (w0 * p + w1 * x + w2 * n)

/-- A head's row of 128 entries, divided by its root sum of squares. -/
def unit (y : Fin 128 → EReal) (k : Fin 128) : EReal :=
  y k * Ideal.rsqrt ((∑ k : Fin 128, y k * y k) + Ideal.ofBits .f32 897988541#32)

/-- The softplus of a number, by its magnitude. -/
def softplus (t : EReal) : EReal := max t 0 + Ideal.log1p (Ideal.exp (-(max t (-t))))

/-- The arguments: the residual stream, the norm's weight and conditioning, the projection, the convolution's weights, the decays' rates and biases. -/
structure Args where
  x : FVec Ideal (⟨3, ![2, 16384, 1024]⟩ : Shape) .f32
  nw : FVec Ideal (⟨1, ![1024]⟩ : Shape) .f32
  sc : FVec Ideal (⟨3, ![2, 1, 1024]⟩ : Shape) .f32
  sh : FVec Ideal (⟨3, ![2, 1, 1024]⟩ : Shape) .f32
  w : FVec Ideal (⟨2, ![1024, 2832]⟩ : Shape) .f32
  cw : FVec Ideal (⟨2, ![3, 1536]⟩ : Shape) .f32
  al : FVec Ideal (⟨2, ![2, 4]⟩ : Shape) .f32
  dt : FVec Ideal (⟨2, ![2, 4]⟩ : Shape) .f32

variable (a : Args)

/-- Column `j` of the projection of a token's normalized row. -/
def Args.proj (b : Fin 2) (l : Fin 16384) (j : Fin 2832) : EReal :=
  ∑ d : Fin 1024, Norm.stream a.x a.nw a.sc a.sh b l d * a.w (ix2 d j)

/-- That of the token before, zero at the first. -/
def Args.before (b : Fin 2) (l : Fin 16384) (j : Fin 2832) : EReal :=
  if 0 < l.val then a.proj b ⟨l.val - 1, by omega⟩ j else 0

/-- That of the token after, zero at the last. -/
def Args.after (b : Fin 2) (l : Fin 16384) (j : Fin 2832) : EReal :=
  if h : l.val + 1 < 16384 then a.proj b ⟨l.val + 1, h⟩ j else 0

/-- The short convolution with silu. -/
def Args.conv (b : Fin 2) (l : Fin 16384) (j : Fin 1536) : EReal :=
  tap (a.cw (ix2 0 j)) (a.cw (ix2 1 j)) (a.cw (ix2 2 j)) (a.before b l ⟨j.val, by omega⟩) (a.proj b l ⟨j.val, by omega⟩)
    (a.after b l ⟨j.val, by omega⟩)

/-- Component `k` of the query of head `h`. -/
def Args.query (b : Fin 2) (l : Fin 16384) (h : Fin 4) (k : Fin 128) : EReal :=
  unit (fun k => a.conv b l ⟨h.val * 128 + k.val, by omega⟩) k * (((Real.sqrt 128)⁻¹ : ℝ) : EReal)

/-- Component `k` of the key of head `h`. -/
def Args.key (b : Fin 2) (l : Fin 16384) (h : Fin 4) (k : Fin 128) : EReal :=
  unit (fun k => a.conv b l ⟨512 + (h.val * 128 + k.val), by omega⟩) k

/-- Component `k` of the value of head `h`. -/
def Args.value (b : Fin 2) (l : Fin 16384) (h : Fin 4) (k : Fin 128) : EReal :=
  a.conv b l ⟨1024 + (h.val * 128 + k.val), by omega⟩

/-- The log decay of a token, direction and head. -/
def Args.decay (b : Fin 2) (l : Fin 16384) (n : Fin 8) : EReal :=
  -(Ideal.exp (a.al (ix2 ⟨n.val / 4, by omega⟩ ⟨n.val % 4, by omega⟩)))
    * softplus (a.proj b l ⟨2048 + n.val, by omega⟩ + a.dt (ix2 ⟨n.val / 4, by omega⟩ ⟨n.val % 4, by omega⟩))

/-- Log decays summed over the tokens `i` of a token's chunk that `p` admits. -/
def Args.chunk (b : Fin 2) (l : Fin 16384) (n : Fin 8) (p : Fin 128 → Prop) [DecidablePred p] : EReal :=
  ∑ i : Fin 128, if p i then a.decay b ⟨l.val / 128 * 128 + i.val, by omega⟩ n else 0

/-- Lane `e` of the decays and write strengths of a token: sums up to it (forward heads), from it on (backward heads), write
strengths, sums over its chunk. -/
def Args.lane (b : Fin 2) (l : Fin 16384) (e : Fin 128) : EReal :=
  if h : e.val < 4 then a.chunk b l ⟨e.val, by omega⟩ (fun i => i.val ≤ l.val % 128)
  else if h : e.val < 8 then a.chunk b l ⟨e.val, by omega⟩ (fun i => l.val % 128 ≤ i.val)
  else if h : e.val < 16 then Ideal.logistic (a.proj b l ⟨2048 + e.val, by omega⟩)
  else if h : e.val < 24 then a.chunk b l ⟨e.val - 16, by omega⟩ (fun _ => True)
  else 0

/-- The queries, heads side by side. -/
def Args.queries : FVec Ideal (⟨3, ![2, 16384, 512]⟩ : Shape) .f32 := fun y =>
  a.query (y 0) (y 1) ⟨(y 2).val / 128, by have h : (y 2).val < 512 := (y 2).isLt; omega⟩ ⟨(y 2).val % 128, by omega⟩

/-- The keys, heads side by side. -/
def Args.keys : FVec Ideal (⟨3, ![2, 16384, 512]⟩ : Shape) .f32 := fun y =>
  a.key (y 0) (y 1) ⟨(y 2).val / 128, by have h : (y 2).val < 512 := (y 2).isLt; omega⟩ ⟨(y 2).val % 128, by omega⟩

/-- The values, heads side by side. -/
def Args.values : FVec Ideal (⟨3, ![2, 16384, 512]⟩ : Shape) .f32 := fun y =>
  a.value (y 0) (y 1) ⟨(y 2).val / 128, by have h : (y 2).val < 512 := (y 2).isLt; omega⟩ ⟨(y 2).val % 128, by omega⟩

/-- The decays and write strengths. -/
def Args.lanes : FVec Ideal (⟨3, ![2, 16384, 128]⟩ : Shape) .f32 := fun y => a.lane (y 0) (y 1) (y 2)

/-- The gates. -/
def Args.gates : FVec Ideal (⟨3, ![2, 16384, 512]⟩ : Shape) .bf16 := fun y =>
  a.proj (y 0) (y 1) ⟨1536 + (y 2).val, by have h : (y 2).val < 512 := (y 2).isLt; omega⟩

/-- The Fourier channels. -/
def Args.fouriers : FVec Ideal (⟨3, ![2, 16384, 256]⟩ : Shape) .f32 := fun y =>
  a.proj (y 0) (y 1) ⟨2064 + (y 2).val, by have h : (y 2).val < 256 := (y 2).isLt; omega⟩

/-- The convolution channels. -/
def Args.channels : FVec Ideal (⟨3, ![2, 16384, 512]⟩ : Shape) .bf16 := fun y =>
  a.proj (y 0) (y 1) ⟨2320 + (y 2).val, by have h : (y 2).val < 512 := (y 2).isLt; omega⟩

end Cert.Input

end
-- ==== Proof.InputTile.lean ====
/- The kernel of the input projection: its bodies' values, read at an index. -/
module

public import proofs.«01_k».proof.Proof.InputModel
public import proofs.«01_k».proof.Proof.Gen.Kernel2Ideal.Value

@[expose] public section

noncomputable section

open Idealize.ShloMosaic Idealize.ShloMosaic.TcCoe Idealize.SL.Sem

namespace Cert.Kernel2Ideal.Input

open Cert.Kernel2Ideal Cert.Kernel2Ideal.Gen Cert.Kernel2Ideal.Value Cert.Input

/-- The column numbers. -/
abbrev cols : IVec S256x128 32 := iota .tc S256x128 32 [1] iota_S256x128_d1_w32

/-- The row numbers. -/
abbrev rows : IVec S256x128 32 := iota .tc S256x128 32 [0] iota_S256x128_d0_w32

/-- A tile's normalized row. -/
theorem pay2_mid (p n : FVec Ideal S1x8x1024 .f32) (x : FVec Ideal S1x256x1024 .f32) (nw : FVec Ideal S1x1024 .f32)
    (sc sh : FVec Ideal S1x1x1024 .f32) (r : Fin 256) (d : Fin 1024) :
    (k0_pay2 (F := Ideal) p x n nw sc sh (ix2 ⟨8 + r.val, by omega⟩ d) : EReal)
      = Norm.row (fun k => x (ix3 0 r k)) (fun k => nw (ix2 0 k)) (fun k => sc (ix3 0 0 k)) (fun k => sh (ix3 0 0 k)) d := by
  pointwise [k0_pay2]
  rfl

/-- The normalized row before a tile. -/
theorem pay2_prev (p n : FVec Ideal S1x8x1024 .f32) (x : FVec Ideal S1x256x1024 .f32) (nw : FVec Ideal S1x1024 .f32)
    (sc sh : FVec Ideal S1x1x1024 .f32) (d : Fin 1024) : (k0_pay2 (F := Ideal) p x n nw sc sh (ix2 7 d) : EReal)
      = Norm.row (fun k => p (ix3 0 7 k)) (fun k => nw (ix2 0 k)) (fun k => sc (ix3 0 0 k)) (fun k => sh (ix3 0 0 k)) d := by
  pointwise [k0_pay2]
  rfl

/-- The normalized row after a tile. -/
theorem pay2_next (p n : FVec Ideal S1x8x1024 .f32) (x : FVec Ideal S1x256x1024 .f32) (nw : FVec Ideal S1x1024 .f32)
    (sc sh : FVec Ideal S1x1x1024 .f32) (d : Fin 1024) : (k0_pay2 (F := Ideal) p x n nw sc sh (ix2 264 d) : EReal)
      = Norm.row (fun k => n (ix3 0 0 k)) (fun k => nw (ix2 0 k)) (fun k => sc (ix3 0 0 k)) (fun k => sh (ix3 0 0 k)) d := by
  pointwise [k0_pay2]
  rfl

theorem pay8_at (h : FVec Ideal S272x1024 .f32) (w : FVec Ideal S1024x1536 .bf16) (r : Fin 272) (j : Fin 1536) :
    (k0_pay8 (F := Ideal) h w (ix2 r j) : EReal) = ∑ d : Fin 1024, h (ix2 r d) * w (ix2 d j) := by
  pointwise [k0_pay8]

theorem pay3_at (p n : FVec Ideal S1x8x1024 .f32) (x : FVec Ideal S1x256x1024 .f32) (nw : FVec Ideal S1x1024 .f32)
    (sc sh : FVec Ideal S1x1x1024 .f32) (r : Fin 256) (d : Fin 1024) : (k0_pay3 (F := Ideal) p x n nw sc sh (ix2 r d) : EReal)
      = k0_pay2 (F := Ideal) p x n nw sc sh (ix2 ⟨8 + r.val, by omega⟩ d) := by
  unfold k0_pay3
  pointwise

/-- The gates. -/
theorem pay4_at (h : FVec Ideal S256x1024 .bf16) (w : FVec Ideal S1024x512 .bf16) (r : Fin 256) (j : Fin 512) :
    (k0_pay4 (F := Ideal) h w (ix3 0 r j) : EReal) = ∑ d : Fin 1024, h (ix2 r d) * w (ix2 d j) := by
  pointwise [k0_pay4]

/-- The Fourier channels. -/
theorem pay5_at (h : FVec Ideal S256x1024 .bf16) (w : FVec Ideal S1024x256 .bf16) (r : Fin 256) (j : Fin 256) :
    (k0_pay5 (F := Ideal) h w (ix3 0 r j) : EReal) = ∑ d : Fin 1024, h (ix2 r d) * w (ix2 d j) := by
  pointwise [k0_pay5]

/-- The convolution channels. -/
theorem pay6_at (h : FVec Ideal S256x1024 .bf16) (w : FVec Ideal S1024x512 .bf16) (r : Fin 256) (j : Fin 512) :
    (k0_pay6 (F := Ideal) h w (ix3 0 r j) : EReal) = ∑ d : Fin 1024, h (ix2 r d) * w (ix2 d j) := by
  pointwise [k0_pay6]

/-- The decays' and write strengths' columns. -/
theorem pay7_at (h : FVec Ideal S256x1024 .bf16) (w : FVec Ideal S1024x128 .bf16) (r : Fin 256) (j : Fin 128) :
    (k0_pay7 (F := Ideal) h w (ix2 r j) : EReal) = ∑ d : Fin 1024, h (ix2 r d) * w (ix2 d j) := by
  pointwise [k0_pay7]

/-- The projected row before row `r` of a tile, as the kernel selects it. -/
def before (v0 : BitVec 1) (u : FVec Ideal S272x1536 .f32) (r : Fin 256) (j : Fin 1536) : EReal :=
  Scalar.select (IntOp.cmpi CmpIPredicate.eq (BitVec.ofNat 32 r.val) 0#32) (Scalar.select v0 0 (u (ix2 7 j)))
    (u (ix2 ⟨8 + (r.val + 256 - 1) % 256, by omega⟩ j))

/-- The projected row after row `r` of a tile, as the kernel selects it. -/
def after (v1 : BitVec 1) (u : FVec Ideal S272x1536 .f32) (r : Fin 256) (j : Fin 1536) : EReal :=
  Scalar.select (IntOp.cmpi CmpIPredicate.eq (BitVec.ofNat 32 r.val) 255#32) (Scalar.select v1 0 (u (ix2 264 j)))
    (u (ix2 ⟨8 + (r.val + 256 - 255) % 256, by omega⟩ j))

/-- The convolution's row of the head whose lanes start at `o`. -/
def act (v0 v1 : BitVec 1) (u : FVec Ideal S272x1536 .f32) (w0 w1 w2 : FVec Ideal S1x128 .f32) (r : Fin 256) (o : ℕ) (ho : o + 128 ≤ 1536)
    (k : Fin 128) : EReal :=
  tap (w0 (ix2 0 k)) (w1 (ix2 0 k)) (w2 (ix2 0 k)) (before v0 u r ⟨o + k.val, by omega⟩) (u (ix2 ⟨8 + r.val, by omega⟩ ⟨o + k.val, by omega⟩))
    (after v1 u r ⟨o + k.val, by omega⟩)

/-- The constant the queries are scaled by. -/
theorem named_eq : (Named.named κ "inv_sqrt_dk" 0x3DB504F3#32 : Ideal .f32) = (((Real.sqrt 128)⁻¹ : ℝ) : EReal) := rfl

variable (v0 v1 : BitVec 1) (u : FVec Ideal S272x1536 .f32) (w0 w1 w2 : FVec Ideal S1x128 .f32) (r : Fin 256) (k : Fin 128)

/-- The row of the head whose lanes start at zero. -/
theorem act_zero (r : Fin 256) : act v0 v1 u w0 w1 w2 r 0 (by omega) = fun k => tap (w0 (ix2 0 k)) (w1 (ix2 0 k)) (w2 (ix2 0 k))
    (before v0 u r ⟨k.val, by omega⟩) (u (ix2 ⟨8 + r.val, by omega⟩ ⟨k.val, by omega⟩)) (after v1 u r ⟨k.val, by omega⟩) := by
  funext k
  unfold act
  simp only [Nat.zero_add]

/-- The first head's queries. -/
theorem q0_at (h : FVec Ideal S272x1024 .f32) (w : FVec Ideal S1024x1536 .bf16) :
    (k0_pay11 (F := Ideal) v1 (k0_pay8 h w) rows (k0_pay9 h w) (k0_pay10 v0 h w) w0 w1 w2 (ix3 0 r k) : EReal)
      = unit (act v0 v1 (k0_pay8 h w) w0 w1 w2 r 0 (by omega)) k * (((Real.sqrt 128)⁻¹ : ℝ) : EReal) := by
  rw [← named_eq]
  unfold k0_pay9 k0_pay10
  generalize k0_pay8 h w = u
  rw [act_zero]
  pointwise [k0_pay11]
  rfl

/-- The second head's queries. -/
theorem q1_at : (k0_pay14 (F := Ideal) (k0_pay13 v0 v1 u rows (k0_pay12 u) w0 w1 w2) (ix3 0 r k) : EReal)
      = unit (act v0 v1 u w0 w1 w2 r 128 (by omega)) k * (((Real.sqrt 128)⁻¹ : ℝ) : EReal) := by
  rw [← named_eq]
  pointwise [k0_pay14, k0_pay13, k0_pay12]
  rfl

/-- The third head's queries. -/
theorem q2_at : (k0_pay16 (F := Ideal) (k0_pay15 v0 v1 u rows w0 w1 w2) (ix3 0 r k) : EReal)
      = unit (act v0 v1 u w0 w1 w2 r 256 (by omega)) k * (((Real.sqrt 128)⁻¹ : ℝ) : EReal) := by
  rw [← named_eq]
  pointwise [k0_pay16, k0_pay15]
  rfl

/-- The fourth head's queries. -/
theorem q3_at : (k0_pay19 (F := Ideal) (k0_pay17 v0 v1 u rows w0 w1 w2) (k0_pay18 v0 v1 u rows w0 w1 w2) (ix3 0 r k) : EReal)
      = unit (act v0 v1 u w0 w1 w2 r 384 (by omega)) k * (((Real.sqrt 128)⁻¹ : ℝ) : EReal) := by
  rw [← named_eq]
  pointwise [k0_pay19, k0_pay18, k0_pay17]
  rfl

/-- The first head's keys. -/
theorem k0_at : (k0_pay22 (F := Ideal) (k0_pay20 v0 v1 u rows w0 w1 w2) (k0_pay21 v0 v1 u rows w0 w1 w2) (Scalar.ofBits .f32 0x358637BD#32) (ix3 0 r k) : EReal)
      = unit (act v0 v1 u w0 w1 w2 r 512 (by omega)) k := by
  pointwise [k0_pay20, k0_pay21, k0_pay22]
  rfl

/-- The second head's keys. -/
theorem k1_at : (k0_pay25 (F := Ideal) (k0_pay23 v0 v1 u rows w0 w1 w2) (k0_pay24 v0 v1 u rows w0 w1 w2) (ix3 0 r k) : EReal)
      = unit (act v0 v1 u w0 w1 w2 r 640 (by omega)) k := by
  pointwise [k0_pay23, k0_pay24, k0_pay25]
  rfl

/-- The third head's keys. -/
theorem k2_at : (k0_pay28 (F := Ideal) (k0_pay26 v0 v1 u rows w0 w1 w2) (k0_pay27 v0 v1 u rows w0 w1 w2) (ix3 0 r k) : EReal)
      = unit (act v0 v1 u w0 w1 w2 r 768 (by omega)) k := by
  pointwise [k0_pay26, k0_pay27, k0_pay28]
  rfl

/-- The fourth head's keys. -/
theorem k3_at : (k0_pay31 (F := Ideal) (k0_pay29 v0 v1 u rows w0 w1 w2) (k0_pay30 v0 v1 u rows w0 w1 w2) (ix3 0 r k) : EReal)
      = unit (act v0 v1 u w0 w1 w2 r 896 (by omega)) k := by
  pointwise [k0_pay29, k0_pay30, k0_pay31]
  rfl

/-- The first head's values. -/
theorem v0_at : (k0_pay33 (F := Ideal) (k0_pay32 v0 v1 u rows w0 w1 w2) (ix3 0 r k) : EReal)
      = act v0 v1 u w0 w1 w2 r 1024 (by omega) k := by
  pointwise [k0_pay32, k0_pay33]
  rfl

/-- The second head's values. -/
theorem v1_at : (k0_pay34 (F := Ideal) v0 v1 u rows w0 w1 w2 (ix3 0 r k) : EReal)
      = act v0 v1 u w0 w1 w2 r 1152 (by omega) k := by
  pointwise [k0_pay34]
  rfl

/-- The third head's values. -/
theorem v2_at : (k0_pay37 (F := Ideal) v0 v1 u rows (k0_pay35 u) (k0_pay36 u) (Scalar.ofBits .f32 0x00000000#32) w0 w1 w2 (ix3 0 r k) : EReal)
      = act v0 v1 u w0 w1 w2 r 1280 (by omega) k := by
  pointwise [k0_pay35, k0_pay36, k0_pay37]
  rfl

/-- The fourth head's values. -/
theorem v3_at : (k0_pay42 (F := Ideal) rows (k0_pay38 u) (k0_pay39 v0 u) (k0_pay40 v1 u) (k0_pay41 rows) w0 w1 w2 (ix3 0 r k) : EReal)
      = act v0 v1 u w0 w1 w2 r 1408 (by omega) k := by
  pointwise [k0_pay38, k0_pay39, k0_pay40, k0_pay41, k0_pay42]
  rfl

/-- A mask's product with a matrix split in three, each part what the rounding of the parts before leaves. -/
def split (m : FVec Ideal S256x256 .bf16) (g : FVec Ideal S256x128 .f32) (r : Fin 256) (e : Fin 128) : EReal :=
  (∑ i : Fin 256, m (ix2 r i) * g (ix2 i e)) + (∑ i : Fin 256, m (ix2 r i) * (g (ix2 i e) - g (ix2 i e)))
    + ∑ i : Fin 256, m (ix2 r i) * (g (ix2 i e) - g (ix2 i e) - (g (ix2 i e) - g (ix2 i e)))

/-- The log decays, in the first eight columns. -/
theorem pay45_at (ab : FVec Ideal S256x128 .f32) (dt al : FVec Ideal S1x128 .f32) (e : Fin 128) :
    (k0_pay45 (F := Ideal) cols (k0_pay43 ab dt) (k0_pay44 ab dt) al (ix2 r e) : EReal)
      = Scalar.select (IntOp.cmpi CmpIPredicate.slt (BitVec.ofNat 32 e.val) 8#32)
          (-(Ideal.exp (al (ix2 0 e))) * softplus (ab (ix2 r e) + dt (ix2 0 e))) 0 := by
  pointwise [k0_pay45, k0_pay43, k0_pay44]
  simp only [zero_sub]
  rfl

/-- The lanes of the decays and write strengths. -/
theorem pay1_at (ab a b : FVec Ideal S256x128 .f32) (al : FVec Ideal S1x128 .f32) (tril triu same : FVec Ideal S256x256 .bf16) (e : Fin 128) :
    (k0_pay1 (F := Ideal) ab cols (k0_pay46 cols a b al) (k0_pay48 cols a b al) (k0_pay49 cols a b al) (k0_pay50 cols a b al tril)
      (k0_pay51 cols a b al triu) (k0_pay52 same) (constant S256x128 .f32 0x00000000#32) (ix3 0 r e) : EReal)
      = Scalar.select (IntOp.cmpi CmpIPredicate.slt (BitVec.ofNat 32 e.val) 4#32) (split tril (k0_pay45 cols a b al) r e)
          (Scalar.select (IntOp.cmpi CmpIPredicate.slt (BitVec.ofNat 32 e.val) 8#32) (split triu (k0_pay45 cols a b al) r e) 0)
        + Scalar.select (IntOp.andi (IntOp.cmpi CmpIPredicate.sge (BitVec.ofNat 32 e.val) 8#32) (IntOp.cmpi CmpIPredicate.slt (BitVec.ofNat 32 e.val) 16#32))
            (Ideal.logistic (ab (ix2 r e))) 0
        + split same (k0_pay45 cols a b al) r ⟨(e.val + 128 - 16) % 128, by omega⟩ := by
  unfold k0_pay50 k0_pay51 k0_pay49 k0_pay48 k0_pay47 k0_pay46
  generalize k0_pay45 (F := Ideal) cols a b al = g
  pointwise [k0_pay1, k0_pay52]
  rfl

end Cert.Kernel2Ideal.Input

end
-- ==== Proof.InputHost.lean ====
/- The kernel of the input projection: what the host hands it. -/
module

public import proofs.«01_k».proof.Proof.InputModel
public import proofs.«01_k».proof.Proof.Gen.Kernel2Ideal.Value
public import Idealize.ShloMosaic.Lib.StableHlo.RunRead
public import Idealize.ShloMosaic.Lib.WordCmp

@[expose] public section

noncomputable section

open Idealize.ShloMosaic Idealize.ShloMosaic.TcCoe Idealize.SL.Sem

namespace Cert.Kernel2Ideal.Input

open Cert.Kernel2Ideal Cert.Kernel2Ideal.Gen Cert.Kernel2Ideal.Value Cert.Input WordCmp

/-- Three stretches of columns side by side. -/
def beside (a : FVec Ideal S1024x2048 .f32) (b : FVec Ideal S1024x768 .f32) (c : FVec Ideal S1024x128 .f32) : FVec Ideal S1024x2944 .bf16 :=
  truncf .bf16 (concatenate S1024x2944 1 [⟨S1024x2048, a⟩, ⟨S1024x768, b⟩, ⟨S1024x128, c⟩]
    concatenates_S1024x2048_S1024x768_S1024x128_S1024x2944_d1) bitsLt_bf16_f32

/-- The projection's columns, in the kernel's order. -/
def packed (w : FVec Ideal S1024x2832 .f32) : FVec Ideal S1024x2944 .bf16 :=
  beside (extractStridedSlice S1024x2048 ![0, 0] w slices_S1024x2832_S1024x2048_0_0)
    (extractStridedSlice S1024x768 ![0, 2064] w slices_S1024x2832_S1024x768_0_2064)
    (pad S1024x128 ![0, 0] ![0, 112] ![0, 0] (extractStridedSlice S1024x16 ![0, 2048] w slices_S1024x2832_S1024x16_0_2048)
      (sitofp .f32 (constantI S_ 32 0#32)) pads_S1024x16_S1024x128_000_01120 h_S_)

/-- Which rows and columns lie in one chunk. -/
def chunks : IVec S256x256 1 :=
  cmpi .eq (Host.divsi (iotaInDim S256x256 32 0) (broadcastInDim S256x256 ![] bcast_S_S256x256 (constantI S_ 32 128#32)))
    (Host.divsi (iotaInDim S256x256 32 1) (broadcastInDim S256x256 ![] bcast_S_S256x256 (constantI S_ 32 128#32)))

/-- A mask as a matrix of ones and zeros. -/
def ones (p : IVec S256x256 1) : FVec Ideal S256x256 .bf16 :=
  truncf .bf16 (select p (broadcastInDim S256x256 ![] bcast_S_S256x256 (constant (F := Ideal) S_ .f32 0x3F800000#32))
    (broadcastInDim S256x256 ![] bcast_S_S256x256 (constant S_ .f32 0x00000000#32))) bitsLt_bf16_f32

/-- A row of eight numbers, padded to 128 lanes. -/
def lanes8 (a : FVec Ideal S2x4 .f32) : FVec Ideal S1x128 .f32 :=
  pad S1x128 ![0, 0] ![0, 120] ![0, 0] (shapeCast S1x8 a shapeCasts_S2x4_S1x8) (sitofp .f32 (constantI S_ 32 0#32)) pads_S1x8_S1x128_000_01200 h_S_

variable (m : (ℓ : Loc nD τ sig) → Buf (Elt Ideal) ℓ) (c : Dev nD)

/-- The projection as the region finds it. -/
theorem w_entry : V m c main_v5 = packed (m ((c : Thread nD τ).loc main_arg4)) := by
  after_reads_simp
  dsimp only [Matrix.cons_val]
  refine (show _ = beside _ _ _ from rfl).trans ?_
  after_reads_simp
  rfl

/-- The mask of the sums up to a token. -/
theorem tril_entry : V m c main_v16 = ones (andi chunks (cmpi .sge (iotaInDim S256x256 32 0) (iotaInDim S256x256 32 1))) := by
  after_reads_simp
  rfl

/-- The mask of the sums from a token on. -/
theorem triu_entry : V m c main_v20 = ones (andi chunks (cmpi .sle (iotaInDim S256x256 32 0) (iotaInDim S256x256 32 1))) := by
  after_reads_simp
  rfl

/-- The mask of the sums over a chunk. -/
theorem same_entry : V m c main_v22 = ones chunks := by
  after_reads_simp
  rfl

/-- The norm's weight as the region finds it. -/
theorem nw_entry : V m c main_v23 = shapeCast S1x1024 (m ((c : Thread nD τ).loc main_arg1) : FVec Ideal S1024 .f32) shapeCasts_S1024_S1x1024 := by
  after_reads_simp
  rfl

/-- The decays' rates as the region finds them. -/
theorem al_entry : V m c main_v25 = lanes8 (m ((c : Thread nD τ).loc main_arg6)) := by
  after_reads_simp
  rfl

/-- The decays' biases as the region finds them. -/
theorem dt_entry : V m c main_v27 = lanes8 (m ((c : Thread nD τ).loc main_arg7)) := by
  after_reads_simp
  rfl

/-- The packed columns of the queries, keys, values and gates. -/
theorem packed_qkvz (w : FVec Ideal S1024x2832 .f32) (d : Fin 1024) (j : Fin 2048) :
    (packed w (ix2 d ⟨j.val, by omega⟩) : EReal) = w (ix2 d ⟨j.val, by omega⟩) := by
  pointwise [packed, beside]

/-- The packed columns of the Fourier and the convolution channels. -/
theorem packed_fc (w : FVec Ideal S1024x2832 .f32) (d : Fin 1024) (j : Fin 768) :
    (packed w (ix2 d ⟨2048 + j.val, by omega⟩) : EReal) = w (ix2 d ⟨2064 + j.val, by omega⟩) := by
  pointwise [packed, beside]

/-- The packed columns of the decays and write strengths. -/
theorem packed_ab (w : FVec Ideal S1024x2832 .f32) (d : Fin 1024) (j : Fin 16) :
    (packed w (ix2 d ⟨2816 + j.val, by omega⟩) : EReal) = w (ix2 d ⟨2048 + j.val, by omega⟩) := by
  pointwise [packed, beside]
  rw [dif_neg (by omega), dif_neg (by omega), dif_pos (by omega)]
  refine congrArg w (congrArg (ix2 d) (Fin.ext ?_))
  dsimp only
  omega

/-- The padded row, in its first eight lanes. -/
theorem lanes8_at (a : FVec Ideal S2x4 .f32) (n : Fin 8) :
    (lanes8 a (ix2 0 ⟨n.val, by omega⟩) : EReal) = a (ix2 ⟨n.val / 4, by omega⟩ ⟨n.val % 4, by omega⟩) := by
  pointwise [lanes8]

/-- The chunk of a token of a tile. -/
theorem quot_eq : ∀ r : Fin 256, IntOp.divsi .host (BitVec.ofNat 32 r.val) 128#32 = BitVec.ofNat 32 (r.val / 128) := by decide +kernel

/-- Two tokens of a tile lie in one chunk. -/
theorem chunks_at (r i : Fin 256) : chunks (ix2 r i) = BitVec.ofBool (decide (r.val / 128 = i.val / 128)) := by
  pointwise [chunks]
  rw [quot_eq, quot_eq]
  exact cmpi_eq_ofNat (by omega) (by omega)

/-- The mask of the sums up to a token, at an index. -/
theorem tril_at (r i : Fin 256) : (ones (andi chunks (cmpi .sge (iotaInDim S256x256 32 0) (iotaInDim S256x256 32 1))) (ix2 r i) : EReal)
    = if r.val / 128 = i.val / 128 ∧ i.val ≤ r.val then 1 else 0 := by
  pointwise [ones]
  rw [chunks_at, cmpi_sge_ofNat (by omega) (by omega), andi_ofBool, select_ofBool]
  simp only [Bool.and_eq_true, decide_eq_true_eq]

/-- The mask of the sums from a token on, at an index. -/
theorem triu_at (r i : Fin 256) : (ones (andi chunks (cmpi .sle (iotaInDim S256x256 32 0) (iotaInDim S256x256 32 1))) (ix2 r i) : EReal)
    = if r.val / 128 = i.val / 128 ∧ r.val ≤ i.val then 1 else 0 := by
  pointwise [ones]
  rw [chunks_at, cmpi_sle_ofNat (by omega) (by omega), andi_ofBool, select_ofBool]
  simp only [Bool.and_eq_true, decide_eq_true_eq]

/-- The mask of the sums over a chunk, at an index. -/
theorem same_at (r i : Fin 256) : (ones chunks (ix2 r i) : EReal) = if r.val / 128 = i.val / 128 then 1 else 0 := by
  pointwise [ones]
  rw [chunks_at, select_ofBool]
  simp only [decide_eq_true_eq]

end Cert.Kernel2Ideal.Input

end
-- ==== Proof.InputSums.lean ====
/- The sums of log decays: they are never +∞, and a sum over a chunk of a tile is a sum over the chunk. -/
module

public import proofs.«01_k».proof.Proof.InputModel

@[expose] public section

noncomputable section

open Idealize.ShloMosaic
open scoped BigOperators

namespace Cert.Input

/-- An exponential is not negative. -/
theorem exp_nonneg (x : EReal) : 0 ≤ Ideal.exp x := by
  induction x with
  | bot => simp
  | top => simp
  | coe r => rw [Ideal.exp_coe]; exact_mod_cast (Real.exp_pos r).le

/-- A softplus is not negative. -/
theorem softplus_nonneg (t : EReal) : 0 ≤ softplus t := by
  refine add_nonneg (le_max_right _ _) ?_
  have h := exp_nonneg (-(max t (-t)))
  generalize Ideal.exp (-(max t (-t))) = y at h
  show 0 ≤ Ideal.log (1 + y)
  induction y with
  | bot => simp at h
  | top => rw [show (1 : EReal) + ⊤ = ⊤ from EReal.add_top_of_ne_bot (EReal.coe_ne_bot 1), Ideal.log_top]; exact le_top
  | coe r =>
    have h : 0 ≤ r := by exact_mod_cast h
    rw [show (1 : EReal) + (r : EReal) = ((1 + r : ℝ) : EReal) by push_cast; rfl, Ideal.log_coe, if_neg (by linarith)]
    exact_mod_cast Real.log_nonneg (by linarith)

/-- A log decay is not +∞. -/
theorem rate_ne_top (x t : EReal) : -(Ideal.exp x) * softplus t ≠ ⊤ := by
  rw [EReal.neg_mul]
  intro h
  have h0 : 0 ≤ Ideal.exp x * softplus t := mul_nonneg (exp_nonneg x) (softplus_nonneg t)
  rw [EReal.neg_eq_top_iff] at h
  rw [h] at h0
  simp at h0

/-- A number below +∞ plus what is left of it, and what is left of that, is the number. -/
theorem parts_eq (g : EReal) (h : g ≠ ⊤) : g + (g - g) + (g - g - (g - g)) = g := by
  induction g with
  | bot => simp
  | top => exact absurd rfl h
  | coe r => norm_cast; ring_nf

/-- The products with the three parts of a matrix, by a row of ones and zeros, add up to the entries the row admits. -/
theorem split_sum {n : ℕ} (m g : Fin n → EReal) (p : Fin n → Prop) [DecidablePred p] (hm : ∀ i, m i = if p i then 1 else 0)
    (hg : ∀ i, g i ≠ ⊤) :
    (∑ i, m i * g i) + (∑ i, m i * (g i - g i)) + (∑ i, m i * (g i - g i - (g i - g i))) = ∑ i, if p i then g i else 0 := by
  rw [← Finset.sum_add_distrib, ← Finset.sum_add_distrib]
  refine Finset.sum_congr rfl fun i _ => ?_
  rw [hm i]
  by_cases h : p i
  · rw [if_pos h, if_pos h, one_mul, one_mul, one_mul]
    exact parts_eq _ (hg i)
  · rw [if_neg h, if_neg h, zero_mul, zero_mul, zero_mul, add_zero, add_zero]

/-- A sum over the tile's tokens of one chunk is a sum over the chunk's tokens. -/
theorem sum_chunk (r : Fin 256) (q : ℕ → Prop) [DecidablePred q] (f : Fin 256 → EReal) :
    (∑ i : Fin 256, if r.val / 128 = i.val / 128 ∧ q i.val then f i else 0)
      = ∑ k : Fin 128, if q (r.val / 128 * 128 + k.val) then f ⟨r.val / 128 * 128 + k.val, by omega⟩ else 0 := by
  rw [show (∑ i : Fin 256, if r.val / 128 = i.val / 128 ∧ q i.val then f i else 0) = _ from
    Fin.sum_univ_add (a := 128) (b := 128) (fun i : Fin (128 + 128) => if r.val / 128 = i.val / 128 ∧ q i.val then f i else 0)]
  have h : r.val / 128 = 0 ∨ r.val / 128 = 1 := by omega
  rcases h with h | h
  · rw [Finset.sum_eq_zero (s := Finset.univ) (f := fun i : Fin 128 => if r.val / 128 = (Fin.natAdd 128 i).val / 128 ∧ q (Fin.natAdd 128 i).val then f (Fin.natAdd 128 i) else 0)
      (fun i _ => if_neg fun hh => by have := hh.1; rw [h, Fin.val_natAdd] at this; omega), add_zero]
    refine Finset.sum_congr rfl fun k _ => ?_
    have e : (Fin.castAdd 128 k : Fin (128 + 128)) = (⟨r.val / 128 * 128 + k.val, by omega⟩ : Fin 256) := Fin.ext (by
      show k.val = r.val / 128 * 128 + k.val; omega)
    rw [e]
    exact if_congr (and_iff_right (by show r.val / 128 = (r.val / 128 * 128 + k.val) / 128; omega)) rfl rfl
  · rw [Finset.sum_eq_zero (s := Finset.univ) (f := fun i : Fin 128 => if r.val / 128 = (Fin.castAdd 128 i).val / 128 ∧ q (Fin.castAdd 128 i).val then f (Fin.castAdd 128 i) else 0)
      (fun i _ => if_neg fun hh => by have := hh.1; rw [h, Fin.val_castAdd] at this; omega), zero_add]
    refine Finset.sum_congr rfl fun k _ => ?_
    have e : (Fin.natAdd 128 k : Fin (128 + 128)) = (⟨r.val / 128 * 128 + k.val, by omega⟩ : Fin 256) := Fin.ext (by
      show 128 + k.val = r.val / 128 * 128 + k.val; omega)
    rw [e]
    exact if_congr (and_iff_right (by show r.val / 128 = (r.val / 128 * 128 + k.val) / 128; omega)) rfl rfl

end Cert.Input

end
-- ==== Proof.InputBlock.lean ====
/- The kernel of the input projection: a point's blocks and what the point computes of them. -/
module

public import proofs.«01_k».proof.Proof.InputTile
public import proofs.«01_k».proof.Proof.InputHost
public import proofs.«01_k».proof.Proof.InputSums

@[expose] public section

noncomputable section

open Idealize.ShloMosaic Idealize.ShloMosaic.TcCoe Idealize.SL.Sem
open scoped BigOperators

namespace Cert.Kernel2Ideal.Input

open Cert.Kernel2Ideal Cert.Kernel2Ideal.Gen Cert.Kernel2Ideal.Value Cert.Input WordCmp

/-- Token `r` of the tile `j`. -/
abbrev tok (j : Fin 64) (r : Fin 256) : Fin 16384 := ⟨j.val * 256 + r.val, by omega⟩

/-- A point's blocks hold their parts of the arguments. -/
structure Tile (a : Args) (b : Fin 2) (j : Fin 64) (x0 : Vec Ideal S1x8x1024 .f32) (x1 : Vec Ideal S1x256x1024 .f32) (x2 : Vec Ideal S1x8x1024 .f32)
    (x3 : Vec Ideal S1x1024 .f32) (x4 x5 : Vec Ideal S1x1x1024 .f32) (x6 : Vec Ideal S1024x2944 .bf16) (x7 : Vec Ideal S3x1536 .f32)
    (x8 x9 : Vec Ideal S1x128 .f32) (x10 x11 x12 : Vec Ideal S256x256 .bf16) : Prop where
  prev : ∀ (h : 0 < j.val) (k : Fin 1024), x0 (ix3 0 7 k) = a.x (ix3 b ⟨j.val * 256 - 1, by omega⟩ k)
  mid : ∀ (r : Fin 256) (k : Fin 1024), x1 (ix3 0 r k) = a.x (ix3 b (tok j r) k)
  next : ∀ (h : j.val < 63) (k : Fin 1024), x2 (ix3 0 0 k) = a.x (ix3 b ⟨j.val * 256 + 256, by omega⟩ k)
  norm : ∀ k : Fin 1024, x3 (ix2 0 k) = a.nw (ix1 k)
  sc : ∀ k : Fin 1024, x4 (ix3 0 0 k) = a.sc (ix3 b 0 k)
  sh : ∀ k : Fin 1024, x5 (ix3 0 0 k) = a.sh (ix3 b 0 k)
  w : x6 = packed a.w
  cw : ∀ (i : Fin 3) (k : Fin 1536), x7 (ix2 i k) = a.cw (ix2 i k)
  al : ∀ n : Fin 8, x8 (ix2 0 ⟨n.val, by omega⟩) = a.al (ix2 ⟨n.val / 4, by omega⟩ ⟨n.val % 4, by omega⟩)
  dt : ∀ n : Fin 8, x9 (ix2 0 ⟨n.val, by omega⟩) = a.dt (ix2 ⟨n.val / 4, by omega⟩ ⟨n.val % 4, by omega⟩)
  tril : ∀ r i : Fin 256, x10 (ix2 r i) = (if r.val / 128 = i.val / 128 ∧ i.val ≤ r.val then (1 : EReal) else 0)
  triu : ∀ r i : Fin 256, x11 (ix2 r i) = (if r.val / 128 = i.val / 128 ∧ r.val ≤ i.val then (1 : EReal) else 0)
  same : ∀ r i : Fin 256, x12 (ix2 r i) = (if r.val / 128 = i.val / 128 then (1 : EReal) else 0)

section Loads

variable (x6 : Vec Ideal S1024x2944 .bf16) (x7 : Vec Ideal S3x1536 .f32)

/-- A stretch of the packed projection's columns. -/
theorem ld_cols (s o : ℕ) (hs : o + s ≤ 2944) (inb : ∀ a, (![0, o] : Fin 2 → ℕ) a + (⟨2, ![1024, s]⟩ : Shape).size a ≤ S1024x2944.size a)
    (d : Fin 1024) (k : Fin s) : View.ld (Val := Elt Ideal) x6 (Rect.unit (s := S1024x2944) ![0, o] (⟨2, ![1024, s]⟩ : Shape).size inb) (ix2 d k)
      = x6 (ix2 d ⟨o + k.val, by omega⟩) := by
  refine congrArg x6 (funext fun a => Fin.ext ?_)
  fin_cases a
  · show 0 + 1 * d.val = d.val; omega
  · show o + 1 * k.val = o + k.val; omega

/-- A stretch of one row of the convolution's weights. -/
theorem ld_row (i : Fin 3) (o : ℕ) (ho : o + 128 ≤ 1536) (inb : ∀ a, (![i.val, o] : Fin 2 → ℕ) a + S1x128.size a ≤ S3x1536.size a) (k : Fin 128) :
    View.ld (Val := Elt Ideal) x7 (Rect.unit (s := S3x1536) ![i.val, o] S1x128.size inb) (ix2 0 k) = x7 (ix2 i ⟨o + k.val, by omega⟩) := by
  refine congrArg x7 (funext fun a => Fin.ext ?_)
  fin_cases a
  · show i.val + 1 * 0 = i.val; omega
  · show o + 1 * k.val = o + k.val; omega

end Loads

variable {a : Args} {b : Fin 2} {j : Fin 64} {x0 : Vec Ideal S1x8x1024 .f32} {x1 : Vec Ideal S1x256x1024 .f32} {x2 : Vec Ideal S1x8x1024 .f32}
    {x3 : Vec Ideal S1x1024 .f32} {x4 x5 : Vec Ideal S1x1x1024 .f32} {x6 : Vec Ideal S1024x2944 .bf16} {x7 : Vec Ideal S3x1536 .f32}
    {x8 x9 : Vec Ideal S1x128 .f32} {x10 x11 x12 : Vec Ideal S256x256 .bf16}
    (H : Tile a b j x0 x1 x2 x3 x4 x5 x6 x7 x8 x9 x10 x11 x12)

include H

/-- The tile's normalized rows. -/
theorem Tile.row_mid (r : Fin 256) (d : Fin 1024) :
    (k0_pay2 (F := Ideal) x0 x1 x2 x3 x4 x5 (ix2 ⟨8 + r.val, by omega⟩ d) : EReal) = Norm.stream a.x a.nw a.sc a.sh b (tok j r) d := by
  rw [pay2_mid]
  simp only [H.mid, H.norm, H.sc, H.sh]
  rfl

/-- The normalized row before the tile. -/
theorem Tile.row_prev (h : 0 < j.val) (d : Fin 1024) :
    (k0_pay2 (F := Ideal) x0 x1 x2 x3 x4 x5 (ix2 7 d) : EReal) = Norm.stream a.x a.nw a.sc a.sh b ⟨j.val * 256 - 1, by omega⟩ d := by
  rw [pay2_prev]
  simp only [H.prev h, H.norm, H.sc, H.sh]
  rfl

/-- The normalized row after the tile. -/
theorem Tile.row_next (h : j.val < 63) (d : Fin 1024) :
    (k0_pay2 (F := Ideal) x0 x1 x2 x3 x4 x5 (ix2 264 d) : EReal) = Norm.stream a.x a.nw a.sc a.sh b ⟨j.val * 256 + 256, by omega⟩ d := by
  rw [pay2_next]
  simp only [H.next h, H.norm, H.sc, H.sh]
  rfl

/-- The columns of the queries, keys and values of a normalized row. -/
theorem Tile.pre_at (r : Fin 272) (l : Fin 16384)
    (hr : ∀ d, (k0_pay2 (F := Ideal) x0 x1 x2 x3 x4 x5 (ix2 r d) : EReal) = Norm.stream a.x a.nw a.sc a.sh b l d) (i : Fin 1536) :
    (k0_pay8 (F := Ideal) (k0_pay2 x0 x1 x2 x3 x4 x5) (View.ld x6 r0_10) (ix2 r i) : EReal) = a.proj b l ⟨i.val, by omega⟩ := by
  rw [pay8_at]
  refine Finset.sum_congr rfl fun d _ => congrArg₂ (· * ·) (hr d) ?_
  refine (ld_cols x6 1536 0 (by omega) _ d i).trans ?_
  rw [H.w]
  refine (congrArg (packed a.w) (congrArg (ix2 d) (Fin.ext (Nat.zero_add i.val)))).trans (packed_qkvz a.w d ⟨i.val, by omega⟩)

/-- Those of a row of the tile. -/
theorem Tile.pre_mid (r : Fin 256) (i : Fin 1536) :
    (k0_pay8 (F := Ideal) (k0_pay2 x0 x1 x2 x3 x4 x5) (View.ld x6 r0_10) (ix2 ⟨8 + r.val, by omega⟩ i) : EReal) = a.proj b (tok j r) ⟨i.val, by omega⟩ :=
  H.pre_at _ _ (H.row_mid r) i

/-- The row before, as the kernel selects it. -/
theorem Tile.before_eq (r : Fin 256) (i : Fin 1536) :
    before (Scalar.cmpi .eq (BitVec.ofNat 32 j.val) 0#32) (k0_pay8 (F := Ideal) (k0_pay2 x0 x1 x2 x3 x4 x5) (View.ld x6 r0_10)) r i
      = a.before b (tok j r) ⟨i.val, by omega⟩ := by
  unfold before Args.before
  rw [scalar_cmpi_eq, cmpi_eq_ofNat (by omega) (by omega), cmpi_eq_ofNat (by omega) (by omega), select_ofBool, select_ofBool]
  simp only [decide_eq_true_eq]
  by_cases hr : r.val = 0
  · rw [if_pos hr]
    by_cases hj : j.val = 0
    · rw [if_pos hj, if_neg (by omega)]
    · rw [if_neg hj, if_pos (by omega), H.pre_at 7 _ (H.row_prev (by omega)) i]
      exact congrArg (fun l => a.proj b l ⟨i.val, by omega⟩) (Fin.ext (by dsimp only; omega))
  · rw [if_neg hr, if_pos (by omega)]
    have e : (⟨8 + (r.val + 256 - 1) % 256, by omega⟩ : Fin 272) = ⟨8 + (⟨r.val - 1, by omega⟩ : Fin 256).val, by dsimp only; omega⟩ :=
      Fin.ext (by dsimp only; omega)
    rw [e, H.pre_mid]
    exact congrArg (fun l => a.proj b l ⟨i.val, by omega⟩) (Fin.ext (by dsimp only; omega))

/-- The row after, as the kernel selects it. -/
theorem Tile.after_eq (r : Fin 256) (i : Fin 1536) :
    after (Scalar.cmpi .eq (BitVec.ofNat 32 j.val) 63#32) (k0_pay8 (F := Ideal) (k0_pay2 x0 x1 x2 x3 x4 x5) (View.ld x6 r0_10)) r i
      = a.after b (tok j r) ⟨i.val, by omega⟩ := by
  unfold after Args.after
  rw [scalar_cmpi_eq, cmpi_eq_ofNat (by omega) (by omega), cmpi_eq_ofNat (by omega) (by omega), select_ofBool, select_ofBool]
  simp only [decide_eq_true_eq]
  by_cases hr : r.val = 255
  · rw [if_pos hr]
    by_cases hj : j.val = 63
    · rw [if_pos hj, dif_neg (by omega)]
    · rw [if_neg hj, dif_pos (by omega), H.pre_at 264 _ (H.row_next (by omega)) i]
      exact congrArg (fun l => a.proj b l ⟨i.val, by omega⟩) (Fin.ext (by dsimp only; omega))
  · rw [if_neg hr, dif_pos (by omega)]
    have e : (⟨8 + (r.val + 256 - 255) % 256, by omega⟩ : Fin 272) = ⟨8 + (⟨r.val + 1, by omega⟩ : Fin 256).val, by dsimp only; omega⟩ :=
      Fin.ext (by dsimp only; omega)
    rw [e, H.pre_mid]
    exact congrArg (fun l => a.proj b l ⟨i.val, by omega⟩) (Fin.ext (by dsimp only; omega))

/-- The row of a head, of the convolution. -/
theorem Tile.act_eq (w0 w1 w2 : FVec Ideal S1x128 .f32) (r : Fin 256) (o : ℕ) (ho : o + 128 ≤ 1536)
    (h0 : ∀ k, w0 (ix2 0 k) = x7 (ix2 0 ⟨o + k.val, by omega⟩)) (h1 : ∀ k, w1 (ix2 0 k) = x7 (ix2 1 ⟨o + k.val, by omega⟩))
    (h2 : ∀ k, w2 (ix2 0 k) = x7 (ix2 2 ⟨o + k.val, by omega⟩)) :
    act (Scalar.cmpi .eq (BitVec.ofNat 32 j.val) 0#32) (Scalar.cmpi .eq (BitVec.ofNat 32 j.val) 63#32)
      (k0_pay8 (F := Ideal) (k0_pay2 x0 x1 x2 x3 x4 x5) (View.ld x6 r0_10)) w0 w1 w2 r o ho = fun k => a.conv b (tok j r) ⟨o + k.val, by omega⟩ := by
  funext k
  unfold act
  rw [H.before_eq, H.after_eq, H.pre_mid, h0, h1, h2, H.cw, H.cw, H.cw]
  rfl

/-- A stretch of columns of the tile's normalized rows. -/
theorem Tile.cols_eq (s o c : ℕ) (hs : o + s ≤ 2944) (hc : c + s ≤ 2832)
    (inb : ∀ a, (![0, o] : Fin 2 → ℕ) a + (⟨2, ![1024, s]⟩ : Shape).size a ≤ S1024x2944.size a)
    (hw : ∀ (d : Fin 1024) (k : Fin s), (packed a.w (ix2 d ⟨o + k.val, by omega⟩) : EReal) = a.w (ix2 d ⟨c + k.val, by omega⟩)) (r : Fin 256) (k : Fin s) :
    (∑ d : Fin 1024, (k0_pay3 (F := Ideal) x0 x1 x2 x3 x4 x5 (ix2 r d) : EReal)
      * (View.ld (Val := Elt Ideal) x6 (Rect.unit (s := S1024x2944) ![0, o] (⟨2, ![1024, s]⟩ : Shape).size inb) (ix2 d k) : EReal))
      = a.proj b (tok j r) ⟨c + k.val, by omega⟩ := by
  refine Finset.sum_congr rfl fun d _ => congrArg₂ (· * ·) ?_ ?_
  · rw [pay3_at, H.row_mid]
  · refine (ld_cols x6 s o hs inb d k).trans ?_
    rw [H.w]
    exact hw d k

/-- The gates. -/
theorem Tile.gates (r : Fin 256) (k : Fin 512) : (k0_pay4 (F := Ideal) (k0_pay3 x0 x1 x2 x3 x4 x5) (View.ld x6 r0_4) (ix3 0 r k) : EReal)
    = a.proj b (tok j r) ⟨1536 + k.val, by omega⟩ := by
  rw [pay4_at]
  exact H.cols_eq 512 1536 1536 (by omega) (by omega) _ (fun d k => packed_qkvz a.w d ⟨1536 + k.val, by omega⟩) r k

/-- The Fourier channels. -/
theorem Tile.fouriers (r : Fin 256) (k : Fin 256) : (k0_pay5 (F := Ideal) (k0_pay3 x0 x1 x2 x3 x4 x5) (View.ld x6 r0_6) (ix3 0 r k) : EReal)
    = a.proj b (tok j r) ⟨2064 + k.val, by omega⟩ := by
  rw [pay5_at]
  exact H.cols_eq 256 2048 2064 (by omega) (by omega) _ (fun d k => packed_fc a.w d ⟨k.val, by omega⟩) r k

/-- The convolution channels. -/
theorem Tile.channels (r : Fin 256) (k : Fin 512) : (k0_pay6 (F := Ideal) (k0_pay3 x0 x1 x2 x3 x4 x5) (View.ld x6 r0_8) (ix3 0 r k) : EReal)
    = a.proj b (tok j r) ⟨2320 + k.val, by omega⟩ := by
  rw [pay6_at]
  refine H.cols_eq 512 2304 2320 (by omega) (by omega) _ (fun d k => ?_) r k
  refine (congrArg (packed a.w) (congrArg (ix2 d) (Fin.ext ?_))).trans
    ((packed_fc a.w d ⟨256 + k.val, by omega⟩).trans (congrArg a.w (congrArg (ix2 d) (Fin.ext ?_)))) <;> dsimp only <;> omega

/-- The columns of the decays and write strengths. -/
theorem Tile.small (r : Fin 256) (n : Fin 16) :
    (k0_pay7 (F := Ideal) (k0_pay3 x0 x1 x2 x3 x4 x5) (View.ld x6 r0_9) (ix2 r ⟨n.val, by omega⟩) : EReal) = a.proj b (tok j r) ⟨2048 + n.val, by omega⟩ := by
  rw [pay7_at]
  refine Finset.sum_congr rfl fun d _ => congrArg₂ (· * ·) ?_ ?_
  · rw [pay3_at, H.row_mid]
  · refine (ld_cols x6 128 2816 (by omega) _ d ⟨n.val, by omega⟩).trans ?_
    rw [H.w]
    exact packed_ab a.w d n

/-- The log decays of the tile's tokens. -/
theorem Tile.rate_lt (i : Fin 256) (n : Fin 8) :
    (k0_pay45 (F := Ideal) cols (k0_pay43 (k0_pay7 (k0_pay3 x0 x1 x2 x3 x4 x5) (View.ld x6 r0_9)) x9)
      (k0_pay44 (k0_pay7 (k0_pay3 x0 x1 x2 x3 x4 x5) (View.ld x6 r0_9)) x9) x8 (ix2 i ⟨n.val, by omega⟩) : EReal) = a.decay b (tok j i) n := by
  rw [pay45_at, cmpi_slt_ofNat (by dsimp only; omega) (by omega), select_ofBool, if_pos (by simp only [decide_eq_true_eq]; omega), H.al, H.dt,
    H.small i ⟨n.val, by omega⟩]
  rfl

omit H in
/-- The other columns are zero. -/
theorem rate_ge (ab : FVec Ideal S256x128 .f32) (i : Fin 256) (e : Fin 128) (he : 8 ≤ e.val) :
    (k0_pay45 (F := Ideal) cols (k0_pay43 ab x9) (k0_pay44 ab x9) x8 (ix2 i e) : EReal) = 0 := by
  rw [pay45_at, cmpi_slt_ofNat (by omega) (by omega), select_ofBool, if_neg (by simp only [decide_eq_true_eq]; omega)]

omit H in
/-- A masked sum of columns of zeros. -/
theorem split_zero (m : FVec Ideal S256x256 .bf16) (g : FVec Ideal S256x128 .f32) (r : Fin 256) (e : Fin 128) (h : ∀ i, (g (ix2 i e) : EReal) = 0) :
    split m g r e = 0 := by
  unfold split
  simp [h]

/-- A masked sum of log decays. -/
theorem Tile.split_eq (m : FVec Ideal S256x256 .bf16) (r : Fin 256) (q : ℕ → Prop) [DecidablePred q] (p : Fin 128 → Prop) [DecidablePred p]
    (hm : ∀ i, (m (ix2 r i) : EReal) = if r.val / 128 = i.val / 128 ∧ q i.val then 1 else 0)
    (hp : ∀ k : Fin 128, q (r.val / 128 * 128 + k.val) ↔ p k) (n : Fin 8) :
    split m (k0_pay45 (F := Ideal) cols (k0_pay43 (k0_pay7 (k0_pay3 x0 x1 x2 x3 x4 x5) (View.ld x6 r0_9)) x9)
      (k0_pay44 (k0_pay7 (k0_pay3 x0 x1 x2 x3 x4 x5) (View.ld x6 r0_9)) x9) x8) r ⟨n.val, by omega⟩ = a.chunk b (tok j r) n p := by
  unfold split
  simp only [H.rate_lt]
  refine (split_sum (fun i => m (ix2 r i)) (fun i => a.decay b (tok j i) n) _ hm (fun i => rate_ne_top _ _)).trans ?_
  refine (sum_chunk r q (fun i => a.decay b (tok j i) n)).trans ?_
  refine Finset.sum_congr rfl fun k _ => if_congr (hp k) ?_ rfl
  exact congrArg (fun l => a.decay b l n) (Fin.ext (by dsimp only; omega))

/-- The lanes of the decays and write strengths. -/
theorem Tile.lanes (r : Fin 256) (e : Fin 128) :
    (k0_pay1 (F := Ideal) (k0_pay7 (k0_pay3 x0 x1 x2 x3 x4 x5) (View.ld x6 r0_9)) cols
      (k0_pay46 cols (k0_pay43 (k0_pay7 (k0_pay3 x0 x1 x2 x3 x4 x5) (View.ld x6 r0_9)) x9) (k0_pay44 (k0_pay7 (k0_pay3 x0 x1 x2 x3 x4 x5) (View.ld x6 r0_9)) x9) x8)
      (k0_pay48 cols (k0_pay43 (k0_pay7 (k0_pay3 x0 x1 x2 x3 x4 x5) (View.ld x6 r0_9)) x9) (k0_pay44 (k0_pay7 (k0_pay3 x0 x1 x2 x3 x4 x5) (View.ld x6 r0_9)) x9) x8)
      (k0_pay49 cols (k0_pay43 (k0_pay7 (k0_pay3 x0 x1 x2 x3 x4 x5) (View.ld x6 r0_9)) x9) (k0_pay44 (k0_pay7 (k0_pay3 x0 x1 x2 x3 x4 x5) (View.ld x6 r0_9)) x9) x8)
      (k0_pay50 cols (k0_pay43 (k0_pay7 (k0_pay3 x0 x1 x2 x3 x4 x5) (View.ld x6 r0_9)) x9) (k0_pay44 (k0_pay7 (k0_pay3 x0 x1 x2 x3 x4 x5) (View.ld x6 r0_9)) x9) x8 x10)
      (k0_pay51 cols (k0_pay43 (k0_pay7 (k0_pay3 x0 x1 x2 x3 x4 x5) (View.ld x6 r0_9)) x9) (k0_pay44 (k0_pay7 (k0_pay3 x0 x1 x2 x3 x4 x5) (View.ld x6 r0_9)) x9) x8 x11)
      (k0_pay52 x12) (constant S256x128 .f32 0x00000000#32) (ix3 0 r e) : EReal) = a.lane b (tok j r) e := by
  rw [pay1_at, cmpi_slt_ofNat (by omega) (by omega), cmpi_slt_ofNat (by omega) (by omega), cmpi_slt_ofNat (by omega) (by omega),
    cmpi_sge_ofNat (by omega) (by omega), andi_ofBool, select_ofBool, select_ofBool, select_ofBool]
  simp only [Bool.and_eq_true, decide_eq_true_eq]
  unfold Args.lane
  have hl : (tok j r).val % 128 = r.val % 128 := by show (j.val * 256 + r.val) % 128 = _; omega
  by_cases h4 : e.val < 4
  · rw [if_pos h4, if_neg (by omega), dif_pos h4, split_zero x12 _ _ _ (fun i => rate_ge _ i _ (by dsimp only; omega)), add_zero, add_zero]
    exact H.split_eq x10 r (fun i => i ≤ r.val) _ (H.tril r) (fun k => by rw [hl]; omega) ⟨e.val, by omega⟩
  rw [if_neg h4, dif_neg h4]
  by_cases h8 : e.val < 8
  · rw [if_pos h8, if_neg (by omega), dif_pos h8, split_zero x12 _ _ _ (fun i => rate_ge _ i _ (by dsimp only; omega)), add_zero, add_zero]
    exact H.split_eq x11 r (fun i => r.val ≤ i) _ (H.triu r) (fun k => by rw [hl]; omega) ⟨e.val, by omega⟩
  rw [if_neg h8, dif_neg h8]
  by_cases h16 : e.val < 16
  · rw [if_pos (by omega), dif_pos h16, split_zero x12 _ _ _ (fun i => rate_ge _ i _ (by dsimp only; omega)), zero_add, add_zero]
    exact congrArg Ideal.logistic (H.small r ⟨e.val, h16⟩)
  rw [if_neg (by omega), dif_neg h16, zero_add, zero_add]
  by_cases h24 : e.val < 24
  · rw [dif_pos h24]
    have he : (⟨(e.val + 128 - 16) % 128, by omega⟩ : Fin 128) = ⟨(⟨e.val - 16, by omega⟩ : Fin 8).val, by dsimp only; omega⟩ := Fin.ext (by dsimp only; omega)
    rw [he]
    exact H.split_eq x12 r (fun _ => True) _ (fun i => by rw [H.same]; exact if_congr (by simp) rfl rfl) (fun k => Iff.rfl) ⟨e.val - 16, by omega⟩
  · rw [dif_neg h24, split_zero x12 _ _ _ (fun i => rate_ge _ i _ (by dsimp only; omega))]

end Cert.Kernel2Ideal.Input

end
-- ==== Proof.Input.lean ====
/- The kernel of the input projection: what its result arrays end holding. -/
module

public import proofs.«01_k».proof.Proof.InputBlock

@[expose] public section

noncomputable section

open Idealize.ShloMosaic Idealize.ShloMosaic.TcCoe Idealize.SL.Sem
open scoped BigOperators

namespace Cert.Kernel2Ideal.Input

open Cert.Kernel2Ideal Cert.Kernel2Ideal.Gen Cert.Kernel2Ideal.Value Cert.Input WordCmp

/-- An index of a block whose first axis has one entry. -/
theorem eq_ix3_one {n k : ℕ} (x : (⟨3, ![1, n, k]⟩ : Shape).Idx) : x = ix3 (n0 := 1) (n1 := n) (n2 := k) 0 (x 1) (x 2) := by
  refine (eq_ix3 x).trans ?_
  congr 1
  exact Subsingleton.elim _ _

/-- Four heads' stores, side by side, hold what each holds at its columns. -/
theorem heads_at (G : Fin 256 → Fin 512 → EReal) (p3 p2 p1 p0 : Vec Ideal S1x256x128 .f32)
    (h3 : ∀ (r : Fin 256) (k : Fin 128), p3 (ix3 0 r k) = G r ⟨384 + k.val, by omega⟩)
    (h2 : ∀ (r : Fin 256) (k : Fin 128), p2 (ix3 0 r k) = G r ⟨256 + k.val, by omega⟩)
    (h1 : ∀ (r : Fin 256) (k : Fin 128), p1 (ix3 0 r k) = G r ⟨128 + k.val, by omega⟩)
    (h0 : ∀ (r : Fin 256) (k : Fin 128), p0 (ix3 0 r k) = G r ⟨0 + k.val, by omega⟩) (r : Fin 256) (k : Fin 512) :
    View.canon (Val := Elt Ideal) (s := S1x256x512) (e := .f32) [⟨r0_26, p3⟩, ⟨r0_22, p2⟩, ⟨r0_18, p1⟩, ⟨r0_14, p0⟩] (ix3 0 r k) = G r k := by
  refine View.canon_apply_of_pieces (Val := Elt Ideal) (S := S1x256x512) (e := .f32) (fun y => G (y 1) (y 2)) _ ?_ (ix3 0 r k)
    (cover0_13 p3 p2 p1 p0 _)
  intro p hp x
  simp only [List.mem_cons, List.not_mem_nil, or_false] at hp
  have go : ∀ (q : Vec Ideal S1x256x128 .f32) (o : ℕ) (ho : o + 128 ≤ 512) (_ : ∀ (r : Fin 256) (k : Fin 128), q (ix3 0 r k) = G r ⟨o + k.val, by omega⟩)
      (inb : ∀ a, (![0, 0, o] : Fin 3 → ℕ) a + S1x256x128.size a ≤ S1x256x512.size a) (x : S1x256x128.Idx),
      q x = G ((Rect.unit (s := S1x256x512) ![0, 0, o] S1x256x128.size inb).emb x 1) ((Rect.unit (s := S1x256x512) ![0, 0, o] S1x256x128.size inb).emb x 2) := by
    intro q o ho h inb x
    refine (congrArg q (eq_ix3_one x)).trans ((h (x 1) (x 2)).trans ?_)
    refine congrArg₂ G (Fin.ext ?_) (Fin.ext ?_)
    · show (x 1).val = 0 + 1 * (x 1).val; omega
    · show o + (x 2).val = o + 1 * (x 2).val; omega
  rcases hp with rfl | rfl | rfl | rfl
  · exact go p3 384 (by omega) h3 inb_S1x256x512_S1x256x128_0_0_384 x
  · exact go p2 256 (by omega) h2 inb_S1x256x512_S1x256x128_0_0_256 x
  · exact go p1 128 (by omega) h1 inb_S1x256x512_S1x256x128_0_0_128 x
  · exact go p0 0 (by omega) h0 inb_S1x256x512_S1x256x128_0_0_0 x

section Cols

variable (a : Args) (b : Fin 2) (l : Fin 16384) (k : Fin 128)

/-- A head's queries, by their first lane. -/
theorem query_col (h : Fin 4) (o : ℕ) (ho : o = h.val * 128) :
    unit (fun k => a.conv b l ⟨o + k.val, by omega⟩) k * (((Real.sqrt 128)⁻¹ : ℝ) : EReal)
      = a.query b l ⟨(o + k.val) / 128, by omega⟩ ⟨(o + k.val) % 128, by omega⟩ := by
  subst ho
  rw [show (⟨(h.val * 128 + k.val) / 128, by omega⟩ : Fin 4) = h from Fin.ext (by dsimp only; omega),
    show (⟨(h.val * 128 + k.val) % 128, by omega⟩ : Fin 128) = k from Fin.ext (by dsimp only; omega)]
  rfl

/-- A head's keys, by their first lane. -/
theorem key_col (h : Fin 4) (o p : ℕ) (hp : p = h.val * 128) (ho : o = 512 + p) :
    unit (fun k => a.conv b l ⟨o + k.val, by omega⟩) k = a.key b l ⟨(p + k.val) / 128, by omega⟩ ⟨(p + k.val) % 128, by omega⟩ := by
  subst hp ho
  rw [show (⟨(h.val * 128 + k.val) / 128, by omega⟩ : Fin 4) = h from Fin.ext (by dsimp only; omega),
    show (⟨(h.val * 128 + k.val) % 128, by omega⟩ : Fin 128) = k from Fin.ext (by dsimp only; omega)]
  exact congrArg (fun y => unit y k) (funext fun k => congrArg (a.conv b l) (Fin.ext (Nat.add_assoc _ _ _)))

/-- A head's values, by their first lane. -/
theorem value_col (h : Fin 4) (o p : ℕ) (hp : p = h.val * 128) (ho : o = 1024 + p) :
    a.conv b l ⟨o + k.val, by omega⟩ = a.value b l ⟨(p + k.val) / 128, by omega⟩ ⟨(p + k.val) % 128, by omega⟩ := by
  subst hp ho
  rw [show (⟨(h.val * 128 + k.val) / 128, by omega⟩ : Fin 4) = h from Fin.ext (by dsimp only; omega),
    show (⟨(h.val * 128 + k.val) % 128, by omega⟩ : Fin 128) = k from Fin.ext (by dsimp only; omega)]
  exact congrArg (a.conv b l) (Fin.ext (Nat.add_assoc _ _ _))

end Cols

section Outs

variable {a : Args} {b : Fin 2} {j : Fin 64} {x0 : Vec Ideal S1x8x1024 .f32} {x1 : Vec Ideal S1x256x1024 .f32} {x2 : Vec Ideal S1x8x1024 .f32}
    {x3 : Vec Ideal S1x1024 .f32} {x4 x5 : Vec Ideal S1x1x1024 .f32} {x6 : Vec Ideal S1024x2944 .bf16} {x7 : Vec Ideal S3x1536 .f32}
    {x8 x9 : Vec Ideal S1x128 .f32} {x10 x11 x12 : Vec Ideal S256x256 .bf16}
    (H : Tile a b j x0 x1 x2 x3 x4 x5 x6 x7 x8 x9 x10 x11 x12)

include H

/-- A head's row, of the weights as loaded. -/
theorem Tile.head (r : Fin 256) (o : ℕ) (ho : o + 128 ≤ 1536) (n0 : ∀ a, (![0, o] : Fin 2 → ℕ) a + S1x128.size a ≤ S3x1536.size a)
    (n1 : ∀ a, (![1, o] : Fin 2 → ℕ) a + S1x128.size a ≤ S3x1536.size a) (n2 : ∀ a, (![2, o] : Fin 2 → ℕ) a + S1x128.size a ≤ S3x1536.size a) :
    act (Scalar.cmpi .eq (BitVec.ofNat 32 j.val) 0#32) (Scalar.cmpi .eq (BitVec.ofNat 32 j.val) 63#32)
      (k0_pay8 (F := Ideal) (k0_pay2 x0 x1 x2 x3 x4 x5) (View.ld x6 r0_10))
      (View.ld (Val := Elt Ideal) x7 (Rect.unit (s := S3x1536) ![0, o] S1x128.size n0))
      (View.ld (Val := Elt Ideal) x7 (Rect.unit (s := S3x1536) ![1, o] S1x128.size n1))
      (View.ld (Val := Elt Ideal) x7 (Rect.unit (s := S3x1536) ![2, o] S1x128.size n2)) r o ho = fun k => a.conv b (tok j r) ⟨o + k.val, by omega⟩ :=
  H.act_eq _ _ _ r o ho (ld_row x7 0 o ho n0) (ld_row x7 1 o ho n1) (ld_row x7 2 o ho n2)

variable (i : grid0.Coords) (hi : (i 1).val = j.val)

include hi

/-- The block of the queries a point stores. -/
theorem Tile.out13 (r : Fin 256) (k : Fin 512) : (out0_13 (F := Ideal) i x0 x1 x2 x3 x4 x5 x6 x7 x8 x9 x10 x11 x12 (ix3 0 r k) : EReal)
    = a.query b (tok j r) ⟨k.val / 128, by omega⟩ ⟨k.val % 128, by omega⟩ := by
  unfold out0_13 k0_pay57 k0_pay55 k0_pay53
  iterate 6 rw [View.ld_unit_zero (by decide)]
  rw [hi]
  refine heads_at (fun r k => a.query b (tok j r) ⟨k.val / 128, by omega⟩ ⟨k.val % 128, by omega⟩) _ _ _ _ (fun r k => ?_) (fun r k => ?_) (fun r k => ?_)
    (fun r k => ?_) r k
  · exact (q3_at _ _ _ _ _ _ r k).trans (by rw [H.head]; exact query_col a b (tok j r) k 3 384 rfl)
  · exact (q2_at _ _ _ _ _ _ r k).trans (by rw [H.head]; exact query_col a b (tok j r) k 2 256 rfl)
  · exact (q1_at _ _ _ _ _ _ r k).trans (by rw [H.head]; exact query_col a b (tok j r) k 1 128 rfl)
  · exact (q0_at _ _ _ _ _ r k _ _).trans (by rw [H.head]; exact query_col a b (tok j r) k 0 0 rfl)

/-- The block of the keys a point stores. -/
theorem Tile.out14 (r : Fin 256) (k : Fin 512) : (out0_14 (F := Ideal) i x0 x1 x2 x3 x4 x5 x6 x7 x8 x9 x10 x11 x12 (ix3 0 r k) : EReal)
    = a.key b (tok j r) ⟨k.val / 128, by omega⟩ ⟨k.val % 128, by omega⟩ := by
  unfold out0_14 k0_pay57 k0_pay55 k0_pay53
  iterate 6 rw [View.ld_unit_zero (by decide)]
  rw [hi]
  refine heads_at (fun r k => a.key b (tok j r) ⟨k.val / 128, by omega⟩ ⟨k.val % 128, by omega⟩) _ _ _ _ (fun r k => ?_) (fun r k => ?_) (fun r k => ?_)
    (fun r k => ?_) r k
  · exact (k3_at _ _ _ _ _ _ r k).trans (by rw [H.head]; exact key_col a b (tok j r) k 3 896 384 rfl rfl)
  · exact (k2_at _ _ _ _ _ _ r k).trans (by rw [H.head]; exact key_col a b (tok j r) k 2 768 256 rfl rfl)
  · exact (k1_at _ _ _ _ _ _ r k).trans (by rw [H.head]; exact key_col a b (tok j r) k 1 640 128 rfl rfl)
  · exact (k0_at _ _ _ _ _ _ r k).trans (by rw [H.head]; exact key_col a b (tok j r) k 0 512 0 rfl rfl)

/-- The block of the values a point stores. -/
theorem Tile.out15 (r : Fin 256) (k : Fin 512) : (out0_15 (F := Ideal) i x0 x1 x2 x3 x4 x5 x6 x7 x8 x9 x10 x11 x12 (ix3 0 r k) : EReal)
    = a.value b (tok j r) ⟨k.val / 128, by omega⟩ ⟨k.val % 128, by omega⟩ := by
  unfold out0_15 k0_pay57 k0_pay55 k0_pay53
  iterate 6 rw [View.ld_unit_zero (by decide)]
  rw [hi]
  refine heads_at (fun r k => a.value b (tok j r) ⟨k.val / 128, by omega⟩ ⟨k.val % 128, by omega⟩) _ _ _ _ (fun r k => ?_) (fun r k => ?_) (fun r k => ?_)
    (fun r k => ?_) r k
  · exact (v3_at _ _ _ _ _ _ r k).trans (by rw [H.head]; exact value_col a b (tok j r) k 3 1408 384 rfl rfl)
  · exact (v2_at _ _ _ _ _ _ r k).trans (by rw [H.head]; exact value_col a b (tok j r) k 2 1280 256 rfl rfl)
  · exact (v1_at _ _ _ _ _ _ r k).trans (by rw [H.head]; exact value_col a b (tok j r) k 1 1152 128 rfl rfl)
  · exact (v0_at _ _ _ _ _ _ r k).trans (by rw [H.head]; exact value_col a b (tok j r) k 0 1024 0 rfl rfl)

omit hi

/-- The block of the lanes a point stores. -/
theorem Tile.out16 (r : Fin 256) (e : Fin 128) : (out0_16 (F := Ideal) i x0 x1 x2 x3 x4 x5 x6 x7 x8 x9 x10 x11 x12 (ix3 0 r e) : EReal)
    = a.lane b (tok j r) e := by
  unfold out0_16 k0_pay60 k0_pay59 k0_pay58 k0_pay56 k0_pay54
  rw [View.canon_unit_zero (by decide)]
  iterate 11 rw [View.ld_unit_zero (by decide)]
  exact H.lanes r e

/-- The block of the gates a point stores. -/
theorem Tile.out17 (r : Fin 256) (k : Fin 512) : (out0_17 (F := Ideal) i x0 x1 x2 x3 x4 x5 x6 x7 x8 x9 x10 x11 x12 (ix3 0 r k) : EReal)
    = a.proj b (tok j r) ⟨1536 + k.val, by omega⟩ := by
  unfold out0_17 k0_pay54
  rw [View.canon_unit_zero (by decide)]
  iterate 6 rw [View.ld_unit_zero (by decide)]
  exact H.gates r k

/-- The block of the Fourier channels a point stores. -/
theorem Tile.out18 (r : Fin 256) (k : Fin 256) : (out0_18 (F := Ideal) i x0 x1 x2 x3 x4 x5 x6 x7 x8 x9 x10 x11 x12 (ix3 0 r k) : EReal)
    = a.proj b (tok j r) ⟨2064 + k.val, by omega⟩ := by
  unfold out0_18 k0_pay54
  rw [View.canon_unit_zero (by decide)]
  iterate 6 rw [View.ld_unit_zero (by decide)]
  exact H.fouriers r k

/-- The block of the convolution channels a point stores. -/
theorem Tile.out19 (r : Fin 256) (k : Fin 512) : (out0_19 (F := Ideal) i x0 x1 x2 x3 x4 x5 x6 x7 x8 x9 x10 x11 x12 (ix3 0 r k) : EReal)
    = a.proj b (tok j r) ⟨2320 + k.val, by omega⟩ := by
  unfold out0_19 k0_pay54
  rw [View.canon_unit_zero (by decide)]
  iterate 6 rw [View.ld_unit_zero (by decide)]
  exact H.channels r k

end Outs

end Cert.Kernel2Ideal.Input

end
-- ==== Proof.InputArrays.lean ====
/- The kernel of the input projection: its result arrays, of its arguments. -/
module

public import proofs.«01_k».proof.Proof.Input
public import Idealize.ShloMosaic.Lib.Pipeline.ValueKit.Geometry

@[expose] public section

noncomputable section

open Idealize.ShloMosaic Idealize.ShloMosaic.TcCoe Idealize.SL.Sem
open scoped BigOperators

namespace Cert.Kernel2Ideal.Input

open Cert.Kernel2Ideal Cert.Kernel2Ideal.Gen Cert.Kernel2Ideal.Value Cert.Input

variable (m : (ℓ : Loc nD τ sig) → Buf (Elt Ideal) ℓ) (c : Dev nD)

/-- The kernel's arguments. -/
def args : Args where
  x := m ((c : Thread nD τ).loc main_arg0)
  nw := m ((c : Thread nD τ).loc main_arg1)
  sc := m ((c : Thread nD τ).loc main_arg2)
  sh := m ((c : Thread nD τ).loc main_arg3)
  w := m ((c : Thread nD τ).loc main_arg4)
  cw := m ((c : Thread nD τ).loc main_arg5)
  al := m ((c : Thread nD τ).loc main_arg6)
  dt := m ((c : Thread nD τ).loc main_arg7)

/-- The batch entry of a point. -/
def bat (t : Fin cfg0.N) : Fin 2 := ⟨t.val / 64, by have h : t.val < 128 := lt_of_lt_of_eq t.isLt N_0; omega⟩

/-- The tile of a point. -/
def blk (t : Fin cfg0.N) : Fin 64 := ⟨t.val % 64, by omega⟩

/-- A point's second coordinate is its tile. -/
theorem coord_eq : ∀ t : Fin grid0.N, (grid0.coords t 1).val = t.val % 64 := by decide +kernel

/-- Where the windows of the arguments stand at each point. -/
theorem index_in : ∀ t : Fin grid0.N,
    win0_0.index t = ![t.val / 64, t.val % 64 * 32 - 1, 0] ∧ win0_1.index t = ![t.val / 64, t.val % 64, 0]
    ∧ win0_2.index t = ![t.val / 64, min ((t.val % 64 + 1) * 32) 2047, 0] ∧ win0_3.index t = ![0, 0] ∧ win0_4.index t = ![t.val / 64, 0, 0]
    ∧ win0_5.index t = ![t.val / 64, 0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] := by decide +kernel

/-- Where the windows of the results stand at each point. -/
theorem index_out : ∀ t : Fin grid0.N,
    win0_13.index t = ![t.val / 64, t.val % 64, 0] ∧ win0_14.index t = ![t.val / 64, t.val % 64, 0] ∧ win0_15.index t = ![t.val / 64, t.val % 64, 0]
    ∧ win0_16.index t = ![t.val / 64, t.val % 64, 0] ∧ win0_17.index t = ![t.val / 64, t.val % 64, 0] ∧ win0_18.index t = ![t.val / 64, t.val % 64, 0]
    ∧ win0_19.index t = ![t.val / 64, t.val % 64, 0] := by decide +kernel

/-- An index of a window that stands at the origin of its whole array. -/
theorem whole_at (n k : ℕ) (y : (⟨2, ![n, k]⟩ : Shape).Idx) (i : Fin 2 → ℕ) (hi : i = ![0, 0]) (a : Fin 2) :
    i a * (![n, k] : Fin 2 → ℕ) a + 1 * (y a).val = (y a).val := by
  subst hi
  fin_cases a
  · show 0 * n + 1 * (y 0).val = (y 0).val; omega
  · show 0 * k + 1 * (y 1).val = (y 1).val; omega

/-- An index of a tile's block of an array of all tokens. -/
theorem tile_at (s : ℕ) (t : Fin cfg0.N) (x : (⟨3, ![1, 256, s]⟩ : Shape).Idx) (i : Fin 3 → ℕ) (hi : i = ![t.val / 64, t.val % 64, 0]) (a : Fin 3) :
    i a * (![1, 256, s] : Fin 3 → ℕ) a + 1 * (x a).val = ((ix3 (n0 := 2) (n1 := 16384) (n2 := s) (bat t) (tok (blk t) (x 1)) (x 2)) a).val := by
  subst hi
  have h0 : (x 0).val < 1 := (x 0).isLt
  fin_cases a
  · show t.val / 64 * 1 + 1 * (x 0).val = t.val / 64; omega
  · show t.val % 64 * 256 + 1 * (x 1).val = t.val % 64 * 256 + (x 1).val; omega
  · show 0 * s + 1 * (x 2).val = (x 2).val; omega

/-- The row of the conditioning a point reads. -/
theorem cond_at (t : Fin cfg0.N) (k : Fin 1024) (i : Fin 3 → ℕ) (hi : i = ![t.val / 64, 0, 0]) (a : Fin 3) :
    i a * (![1, 1, 1024] : Fin 3 → ℕ) a + 1 * ((ix3 (n0 := 1) (n1 := 1) (n2 := 1024) 0 0 k) a).val = ((ix3 (n0 := 2) (n1 := 1) (n2 := 1024) (bat t) 0 k) a).val := by
  subst hi
  fin_cases a
  · show t.val / 64 * 1 + 1 * 0 = t.val / 64; omega
  · show 0 * 1 + 1 * 0 = 0; omega
  · show 0 * 1024 + 1 * k.val = k.val; omega

/-- The block of the tokens before a tile. -/
theorem block_prev (t : Fin cfg0.N) (h : 0 < t.val % 64) (k : Fin 1024) : (iblk m c 0 t : Vec Ideal S1x8x1024 .f32) (ix3 0 7 k)
    = (m ((c : Thread nD τ).loc main_arg0) : Vec Ideal S2x16384x1024 .f32) (ix3 (bat t) ⟨t.val % 64 * 256 - 1, by omega⟩ k) := by
  refine (congrFun (V_main_arg0 m c) _).trans (congrArg _ (funext fun a => Fin.ext ?_))
  show win0_0.index t a * S1x8x1024.size a + 1 * _ = _
  rw [(index_in t).1]
  fin_cases a
  · show t.val / 64 * 1 + 1 * 0 = t.val / 64; omega
  · show (t.val % 64 * 32 - 1) * 8 + 1 * 7 = t.val % 64 * 256 - 1; omega
  · show 0 * 1024 + 1 * k.val = k.val; omega

/-- The block of a tile's tokens. -/
theorem block_mid (t : Fin cfg0.N) (r : Fin 256) (k : Fin 1024) : (iblk m c 1 t : Vec Ideal S1x256x1024 .f32) (ix3 0 r k)
    = (m ((c : Thread nD τ).loc main_arg0) : Vec Ideal S2x16384x1024 .f32) (ix3 (bat t) (tok (blk t) r) k) :=
  (congrFun (V_main_arg0 m c) _).trans (congrArg _ (funext fun a => Fin.ext (tile_at 1024 t (ix3 0 r k) _ (index_in t).2.1 a)))

/-- The block of the tokens after a tile. -/
theorem block_next (t : Fin cfg0.N) (h : t.val % 64 < 63) (k : Fin 1024) : (iblk m c 2 t : Vec Ideal S1x8x1024 .f32) (ix3 0 0 k)
    = (m ((c : Thread nD τ).loc main_arg0) : Vec Ideal S2x16384x1024 .f32) (ix3 (bat t) ⟨t.val % 64 * 256 + 256, by omega⟩ k) := by
  refine (congrFun (V_main_arg0 m c) _).trans (congrArg _ (funext fun a => Fin.ext ?_))
  show win0_2.index t a * S1x8x1024.size a + 1 * _ = _
  rw [(index_in t).2.2.1]
  fin_cases a
  · show t.val / 64 * 1 + 1 * 0 = t.val / 64; omega
  · show min ((t.val % 64 + 1) * 32) 2047 * 8 + 1 * 0 = t.val % 64 * 256 + 256; omega
  · show 0 * 1024 + 1 * k.val = k.val; omega

/-- The block of the norm's weight. -/
theorem block_norm (t : Fin cfg0.N) (k : Fin 1024) : (iblk m c 3 t : Vec Ideal S1x1024 .f32) (ix2 0 k)
    = (m ((c : Thread nD τ).loc main_arg1) : Vec Ideal S1024 .f32) (ix1 k) := by
  have e : (iblk m c 3 t : Vec Ideal S1x1024 .f32) (ix2 0 k) = (V m c main_v23 : Vec Ideal S1x1024 .f32) (ix2 0 k) :=
    congrArg (V m c main_v23 : Vec Ideal S1x1024 .f32) (funext fun a => Fin.ext (whole_at 1 1024 (ix2 0 k) _ (index_in t).2.2.2.1 a))
  rw [e, nw_entry]
  generalize (m ((c : Thread nD τ).loc main_arg1) : FVec Ideal S1024 .f32) = w
  pointwise

/-- The block of the norm's scale. -/
theorem block_sc (t : Fin cfg0.N) (k : Fin 1024) : (iblk m c 4 t : Vec Ideal S1x1x1024 .f32) (ix3 0 0 k)
    = (m ((c : Thread nD τ).loc main_arg2) : Vec Ideal S2x1x1024 .f32) (ix3 (bat t) 0 k) :=
  (congrFun (V_main_arg2 m c) _).trans (congrArg _ (funext fun a => Fin.ext (cond_at t k _ (index_in t).2.2.2.2.1 a)))

/-- The block of the norm's shift. -/
theorem block_sh (t : Fin cfg0.N) (k : Fin 1024) : (iblk m c 5 t : Vec Ideal S1x1x1024 .f32) (ix3 0 0 k)
    = (m ((c : Thread nD τ).loc main_arg3) : Vec Ideal S2x1x1024 .f32) (ix3 (bat t) 0 k) :=
  (congrFun (V_main_arg3 m c) _).trans (congrArg _ (funext fun a => Fin.ext (cond_at t k _ (index_in t).2.2.2.2.2.1 a)))

/-- The block of the packed projection: all of it. -/
theorem block_w (t : Fin cfg0.N) : (iblk m c 6 t : Vec Ideal S1024x2944 .bf16) = packed (m ((c : Thread nD τ).loc main_arg4)) := by
  have e : (iblk m c 6 t : Vec Ideal S1024x2944 .bf16) = (V m c main_v5 : Vec Ideal S1024x2944 .bf16) := funext fun y =>
    congrArg (V m c main_v5 : Vec Ideal S1024x2944 .bf16) (funext fun a => Fin.ext (whole_at 1024 2944 y _ (index_in t).2.2.2.2.2.2.1 a))
  rw [e, w_entry]

/-- The block of the convolution's weights: all of them. -/
theorem block_cw (t : Fin cfg0.N) (i : Fin 3) (k : Fin 1536) : (iblk m c 7 t : Vec Ideal S3x1536 .f32) (ix2 i k)
    = (m ((c : Thread nD τ).loc main_arg5) : Vec Ideal S3x1536 .f32) (ix2 i k) :=
  (congrFun (V_main_arg5 m c) _).trans (congrArg _ (funext fun a => Fin.ext (whole_at 3 1536 (ix2 i k) _ (index_in t).2.2.2.2.2.2.2.1 a)))

/-- The block of the decays' rates. -/
theorem block_al (t : Fin cfg0.N) : (iblk m c 8 t : Vec Ideal S1x128 .f32) = lanes8 (m ((c : Thread nD τ).loc main_arg6)) := by
  have e : (iblk m c 8 t : Vec Ideal S1x128 .f32) = (V m c main_v25 : Vec Ideal S1x128 .f32) := funext fun y =>
    congrArg (V m c main_v25 : Vec Ideal S1x128 .f32) (funext fun a => Fin.ext (whole_at 1 128 y _ (index_in t).2.2.2.2.2.2.2.2.1 a))
  rw [e, al_entry]

/-- The block of the decays' biases. -/
theorem block_dt (t : Fin cfg0.N) : (iblk m c 9 t : Vec Ideal S1x128 .f32) = lanes8 (m ((c : Thread nD τ).loc main_arg7)) := by
  have e : (iblk m c 9 t : Vec Ideal S1x128 .f32) = (V m c main_v27 : Vec Ideal S1x128 .f32) := funext fun y =>
    congrArg (V m c main_v27 : Vec Ideal S1x128 .f32) (funext fun a => Fin.ext (whole_at 1 128 y _ (index_in t).2.2.2.2.2.2.2.2.2.1 a))
  rw [e, dt_entry]

/-- The block of the mask of the sums up to a token. -/
theorem block_tril (t : Fin cfg0.N) (r i : Fin 256) : (iblk m c 10 t : Vec Ideal S256x256 .bf16) (ix2 r i)
    = (if r.val / 128 = i.val / 128 ∧ i.val ≤ r.val then (1 : EReal) else 0) := by
  have e : (iblk m c 10 t : Vec Ideal S256x256 .bf16) = (V m c main_v16 : Vec Ideal S256x256 .bf16) := funext fun y =>
    congrArg (V m c main_v16 : Vec Ideal S256x256 .bf16) (funext fun a => Fin.ext (whole_at 256 256 y _ (index_in t).2.2.2.2.2.2.2.2.2.2.1 a))
  rw [e, tril_entry]
  exact tril_at r i

/-- The block of the mask of the sums from a token on. -/
theorem block_triu (t : Fin cfg0.N) (r i : Fin 256) : (iblk m c 11 t : Vec Ideal S256x256 .bf16) (ix2 r i)
    = (if r.val / 128 = i.val / 128 ∧ r.val ≤ i.val then (1 : EReal) else 0) := by
  have e : (iblk m c 11 t : Vec Ideal S256x256 .bf16) = (V m c main_v20 : Vec Ideal S256x256 .bf16) := funext fun y =>
    congrArg (V m c main_v20 : Vec Ideal S256x256 .bf16) (funext fun a => Fin.ext (whole_at 256 256 y _ (index_in t).2.2.2.2.2.2.2.2.2.2.2.1 a))
  rw [e, triu_entry]
  exact triu_at r i

/-- The block of the mask of the sums over a chunk. -/
theorem block_same (t : Fin cfg0.N) (r i : Fin 256) : (iblk m c 12 t : Vec Ideal S256x256 .bf16) (ix2 r i)
    = (if r.val / 128 = i.val / 128 then (1 : EReal) else 0) := by
  have e : (iblk m c 12 t : Vec Ideal S256x256 .bf16) = (V m c main_v22 : Vec Ideal S256x256 .bf16) := funext fun y =>
    congrArg (V m c main_v22 : Vec Ideal S256x256 .bf16) (funext fun a => Fin.ext (whole_at 256 256 y _ (index_in t).2.2.2.2.2.2.2.2.2.2.2.2 a))
  rw [e, same_entry]
  exact same_at r i

/-- A point's blocks hold their parts of the arguments. -/
theorem tile (t : Fin cfg0.N) : Tile (args m c) (bat t) (blk t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) (iblk m c 12 t) where
  prev := block_prev m c t
  mid := block_mid m c t
  next := block_next m c t
  norm := block_norm m c t
  sc := block_sc m c t
  sh := block_sh m c t
  w := block_w m c t
  cw := block_cw m c t
  al n := (congrFun (block_al m c t) _).trans (lanes8_at _ n)
  dt n := (congrFun (block_dt m c t) _).trans (lanes8_at _ n)
  tril := block_tril m c t
  triu := block_triu m c t
  same := block_same m c t

/-- The last step for every result: the body's block at an index, a target read at that index. -/
theorem last {s : ℕ} {φ : FTy} (t : Fin cfg0.N) (T : FVec Ideal (⟨3, ![2, 16384, s]⟩ : Shape) φ) (out : FVec Ideal (⟨3, ![1, 256, s]⟩ : Shape) φ)
    (x : (⟨3, ![1, 256, s]⟩ : Shape).Idx) (y : (⟨3, ![2, 16384, s]⟩ : Shape).Idx) (i : Fin 3 → ℕ) (hi : i = ![t.val / 64, t.val % 64, 0])
    (hy : ∀ a : Fin 3, (y a).val = i a * (![1, 256, s] : Fin 3 → ℕ) a + 1 * (x a).val)
    (h : ∀ (r : Fin 256) (k : Fin s), out (ix3 0 r k) = T (ix3 (bat t) (tok (blk t) r) k)) : out x = T y :=
  (congrArg out (eq_ix3_one x)).trans ((h (x 1) (x 2)).trans (congrArg T (funext fun a => Fin.ext ((hy a).trans (tile_at s t x i hi a)).symm)))

/-- The queries' array. -/
theorem arr13 : (dats m 0 c).arrAt 13 cfg0.N = (args m c).queries :=
  (dats m 0 c).arrAt_eq_of_covers 13 _ (by decide +kernel) fun t _ x => (congrFun (after0_13 m c t) x).trans
    (last t (args m c).queries _ x (((cfg0.win 13).blk t).view.emb x) _ (index_out t).1 (fun _ => rfl) ((tile m c t).out13 _ (coord_eq t)))

/-- The keys' array. -/
theorem arr14 : (dats m 0 c).arrAt 14 cfg0.N = (args m c).keys :=
  (dats m 0 c).arrAt_eq_of_covers 14 _ (by decide +kernel) fun t _ x => (congrFun (after0_14 m c t) x).trans
    (last t (args m c).keys _ x (((cfg0.win 14).blk t).view.emb x) _ (index_out t).2.1 (fun _ => rfl) ((tile m c t).out14 _ (coord_eq t)))

/-- The values' array. -/
theorem arr15 : (dats m 0 c).arrAt 15 cfg0.N = (args m c).values :=
  (dats m 0 c).arrAt_eq_of_covers 15 _ (by decide +kernel) fun t _ x => (congrFun (after0_15 m c t) x).trans
    (last t (args m c).values _ x (((cfg0.win 15).blk t).view.emb x) _ (index_out t).2.2.1 (fun _ => rfl) ((tile m c t).out15 _ (coord_eq t)))

/-- The decays' and write strengths' array. -/
theorem arr16 : (dats m 0 c).arrAt 16 cfg0.N = (args m c).lanes :=
  (dats m 0 c).arrAt_eq_of_covers 16 _ (by decide +kernel) fun t _ x => (congrFun (after0_16 m c t) x).trans
    (last t (args m c).lanes _ x (((cfg0.win 16).blk t).view.emb x) _ (index_out t).2.2.2.1 (fun _ => rfl) ((tile m c t).out16 _))

/-- The gates' array. -/
theorem arr17 : (dats m 0 c).arrAt 17 cfg0.N = (args m c).gates :=
  (dats m 0 c).arrAt_eq_of_covers 17 _ (by decide +kernel) fun t _ x => (congrFun (after0_17 m c t) x).trans
    (last t (args m c).gates _ x (((cfg0.win 17).blk t).view.emb x) _ (index_out t).2.2.2.2.1 (fun _ => rfl) ((tile m c t).out17 _))

/-- The Fourier channels' array. -/
theorem arr18 : (dats m 0 c).arrAt 18 cfg0.N = (args m c).fouriers :=
  (dats m 0 c).arrAt_eq_of_covers 18 _ (by decide +kernel) fun t _ x => (congrFun (after0_18 m c t) x).trans
    (last t (args m c).fouriers _ x (((cfg0.win 18).blk t).view.emb x) _ (index_out t).2.2.2.2.2.1 (fun _ => rfl) ((tile m c t).out18 _))

/-- The convolution channels' array. -/
theorem arr19 : (dats m 0 c).arrAt 19 cfg0.N = (args m c).channels :=
  (dats m 0 c).arrAt_eq_of_covers 19 _ (by decide +kernel) fun t _ x => (congrFun (after0_19 m c t) x).trans
    (last t (args m c).channels _ x (((cfg0.win 19).blk t).view.emb x) _ (index_out t).2.2.2.2.2.2 (fun _ => rfl) ((tile m c t).out19 _))

end Cert.Kernel2Ideal.Input

end
-- ==== Proof.RefWindow.lean ====
/- The reference's running sums over a chunk, read at an index. -/
module

public import proofs.«01_k».proof.Proof.InputModel
public import proofs.«01_k».proof.Proof.Gen.Reference2Ideal.Run

@[expose] public section

noncomputable section

open Idealize.ShloMosaic Idealize.ShloMosaic.TcCoe Idealize.SL.Sem
open scoped BigOperators

namespace Cert.Reference2Ideal.Input

open Cert.Reference2Ideal Cert.Reference2Ideal.Gen Cert.Reference2Ideal.Value Cert.Input

/-- The sums of the entries up to each one along the third axis. -/
def running (x : FVec Ideal S2x128x128x4 .f32) : FVec Ideal S2x128x128x4 .f32 :=
  Host.reduceWindowAdd ![1, 1, 128, 1] ![1, 1, 1, 1] ![0, 0, 127, 0] ![0, 0, 0, 0] x (broadcastInDim S_ ![] bcast_S_S_ (constant S_ .f32 0x00000000#32)) reduceWindows_S2x128x128x4_S2x128x128x4_w1s1p0_0_w1s1p0_0_w128s1p127_0_w1s1p0_0 h_S_

/-- What the window's place `w` adds at an index: the entry under it, or zero in the padding. -/
def under (x : FVec Ideal S2x128x128x4 .f32) (j : S2x128x128x4.Idx) (w : (⟨4, ![1, 1, 128, 1]⟩ : Shape).Idx) : EReal :=
  if hin : ∀ a : Fin 4, (![0, 0, 127, 0] : Fin 4 → ℕ) a ≤ (j a).val * (![1, 1, 1, 1] : Fin 4 → ℕ) a + (w a).val
      ∧ (j a).val * (![1, 1, 1, 1] : Fin 4 → ℕ) a + (w a).val - (![0, 0, 127, 0] : Fin 4 → ℕ) a < S2x128x128x4.size a then
    x (fun a => ⟨(j a).val * (![1, 1, 1, 1] : Fin 4 → ℕ) a + (w a).val - (![0, 0, 127, 0] : Fin 4 → ℕ) a, (hin a).2⟩)
  else 0

/-- The running sum is the sum over the window's places. -/
theorem running_sum (x : FVec Ideal S2x128x128x4 .f32) (j : S2x128x128x4.Idx) :
    (running x j : EReal) = ∑ w : (⟨4, ![1, 1, 128, 1]⟩ : Shape).Idx, under x j w := by
  rw [sum_idx_eq_foldl]
  have hz : (broadcastInDim S_ ![] bcast_S_S_ (constant (F := Ideal) S_ .f32 0x00000000#32) (Shape.Idx.first h_S_) : EReal) = 0 := Ideal.ofBits_zero_f32
  unfold under
  rw [← hz]
  refine (show (running x j : EReal) = Ideal.hostReduceWindowAdd ![1, 1, 128, 1] ![1, 1, 1, 1] ![0, 0, 127, 0] ![0, 0, 0, 0]
    reduceWindows_S2x128x128x4_S2x128x128x4_w1s1p0_0_w1s1p0_0_w128s1p127_0_w1s1p0_0 x _ j from rfl).trans ?_
  unfold Ideal.hostReduceWindowAdd Host.reduceWindow
  dsimp only
  congr!

/-- A place under which the entry `i + c - 127` lies. -/
theorem under_at (x : FVec Ideal S2x128x128x4 .f32) (b : Fin 2) (n i : Fin 128) (h : Fin 4) (c : Fin 128) :
    under x (ix4 b n i h) (ix4 0 0 c 0) = if hc : 127 ≤ i.val + c.val then (x (ix4 b n ⟨i.val + c.val - 127, by omega⟩ h) : EReal) else 0 := by
  unfold under
  by_cases hc : 127 ≤ i.val + c.val
  · rw [dif_pos hc, dif_pos]
    · refine congrArg x (funext fun a => Fin.ext ?_)
      fin_cases a
      · show b.val * 1 + 0 - 0 = b.val; omega
      · show n.val * 1 + 0 - 0 = n.val; omega
      · show i.val * 1 + c.val - 127 = i.val + c.val - 127; omega
      · show h.val * 1 + 0 - 0 = h.val; omega
    · intro a
      fin_cases a
      · show 0 ≤ b.val * 1 + 0 ∧ b.val * 1 + 0 - 0 < 2; omega
      · show 0 ≤ n.val * 1 + 0 ∧ n.val * 1 + 0 - 0 < 128; omega
      · show 127 ≤ i.val * 1 + c.val ∧ i.val * 1 + c.val - 127 < 128; omega
      · show 0 ≤ h.val * 1 + 0 ∧ h.val * 1 + 0 - 0 < 4; omega
  · rw [dif_neg hc, dif_neg]
    intro hin
    have h2 : 127 ≤ i.val * 1 + c.val := (hin 2).1
    omega

/-- The running sum at an index: the entries up to it. -/
theorem running_at (x : FVec Ideal S2x128x128x4 .f32) (b : Fin 2) (n i : Fin 128) (h : Fin 4) :
    (running x (ix4 b n i h) : EReal) = ∑ k : Fin 128, if k.val ≤ i.val then (x (ix4 b n k h) : EReal) else 0 := by
  rw [running_sum, sum_idx4, Fin.sum_univ_one, Fin.sum_univ_one]
  simp only [Fin.sum_univ_one]
  rw [← Equiv.sum_comp (Equiv.addRight (i + 1)) (fun k : Fin 128 => if k.val ≤ i.val then (x (ix4 b n k h) : EReal) else 0)]
  refine Finset.sum_congr rfl fun c _ => ?_
  rw [under_at]
  have hv : (Equiv.addRight (i + 1) c).val = (c.val + (i.val + 1) % 128) % 128 := rfl
  by_cases hc : 127 ≤ i.val + c.val
  · rw [dif_pos hc, if_pos (by omega)]
    exact congrArg (fun k => x (ix4 b n k h)) (Fin.ext (by rw [hv]; dsimp only; omega))
  · rw [dif_neg hc, if_neg (by omega)]

end Cert.Reference2Ideal.Input

end
-- ==== Proof.RefInput.lean ====
/- The reference of the input projection, read at an index. -/
module

public import proofs.«01_k».proof.Proof.RefWindow

@[expose] public section

noncomputable section

open Idealize.ShloMosaic Idealize.ShloMosaic.TcCoe Idealize.SL.Sem
open scoped BigOperators

namespace Cert.Reference2Ideal.Input

open Cert.Reference2Ideal Cert.Reference2Ideal.Gen Cert.Reference2Ideal.Value Cert.Input

/-- The normalized stream. -/
def normed (x : FVec Ideal S2x16384x1024 .f32) (nw : FVec Ideal S1024 .f32) (sc sh : FVec Ideal S2x1x1024 .f32) : FVec Ideal S2x16384x1024 .f32 :=
  addf (mulf (mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 nw))) (broadcastInDim S2x16384x1024 ![0, 1, 2] bcast_S2x1x1024_S2x16384x1024_0_1_2 (addf (broadcastInDim S2x1x1024 ![] bcast_S_S2x1x1024 (constant S_ .f32 0x3F800000#32)) sc))) (broadcastInDim S2x16384x1024 ![0, 1, 2] bcast_S2x1x1024_S2x16384x1024_0_1_2 sh)

/-- Its projection. -/
def proj (h : FVec Ideal S2x16384x1024 .f32) (w : FVec Ideal S1024x2832 .f32) : FVec Ideal S2x16384x2832 .f32 :=
  Host.dotGeneral dot_S2x16384x1024_S1024x2832_S2x16384x2832_2_0_01_1_n_n none h w

/-- The convolution's columns, a row of zeros before and after. -/
def padded (p : FVec Ideal S2x16384x2832 .f32) : FVec Ideal S2x16386x1536 .f32 :=
  pad S2x16386x1536 ![0, 1, 0] ![0, 1, 0] ![0, 0, 0] (extractStridedSlice S2x16384x1536 ![0, 0, 0] p slices_S2x16384x2832_S2x16384x1536_0_0_0) (sitofp .f32 (constantI S_ 32 0#32)) pads_S2x16384x1536_S2x16386x1536_000_110_000 h_S_

/-- The convolution's weighted sums. -/
def taps (q : FVec Ideal S2x16386x1536 .f32) (cw : FVec Ideal S3x1536 .f32) : FVec Ideal S2x16384x1536 .f32 :=
  addf (addf (mulf (broadcastInDim S2x16384x1536 ![0, 1, 2] bcast_S1x1x1536_S2x16384x1536_0_1_2 (broadcastInDim S1x1x1536 ![2] bcast_S1536_S1x1x1536_2 (shapeCast _ (extractStridedSlice S1x1536 ![0, 0] cw slices_S3x1536_S1x1536_0_0) shapeCasts_S1x1536_S1536))) (extractStridedSlice S2x16384x1536 ![0, 0, 0] q slices_S2x16386x1536_S2x16384x1536_0_0_0)) (mulf (broadcastInDim S2x16384x1536 ![0, 1, 2] bcast_S1x1x1536_S2x16384x1536_0_1_2 (broadcastInDim S1x1x1536 ![2] bcast_S1536_S1x1x1536_2 (shapeCast _ (extractStridedSlice S1x1536 ![1, 0] cw slices_S3x1536_S1x1536_1_0) shapeCasts_S1x1536_S1536))) (extractStridedSlice S2x16384x1536 ![0, 1, 0] q slices_S2x16386x1536_S2x16384x1536_0_1_0))) (mulf (broadcastInDim S2x16384x1536 ![0, 1, 2] bcast_S1x1x1536_S2x16384x1536_0_1_2 (broadcastInDim S1x1x1536 ![2] bcast_S1536_S1x1x1536_2 (shapeCast _ (extractStridedSlice S1x1536 ![2, 0] cw slices_S3x1536_S1x1536_2_0) shapeCasts_S1x1536_S1536))) (extractStridedSlice S2x16384x1536 ![0, 2, 0] q slices_S2x16386x1536_S2x16384x1536_0_2_0))

/-- Those through silu. -/
def silu (s : FVec Ideal S2x16384x1536 .f32) : FVec Ideal S2x16384x1536 .f32 :=
  mulf s (Host.divf (broadcastInDim S2x16384x1536 ![] bcast_S_S2x16384x1536 (constant S_ .f32 0x3F800000#32)) (addf (broadcastInDim S2x16384x1536 ![] bcast_S_S2x16384x1536 (constant S_ .f32 0x3F800000#32)) (Host.exp (Host.negf s))))

/-- Rows divided by their root sums of squares. -/
def units (y : FVec Ideal S2x16384x4x128 .f32) : FVec Ideal S2x16384x4x128 .f32 :=
  mulf y (broadcastInDim S2x16384x4x128 ![0, 1, 2, 3] bcast_S2x16384x4x1_S2x16384x4x128_0_1_2_3 (Host.rsqrt (addf (broadcastInDim S2x16384x4x1 ![0, 1, 2] bcast_S2x16384x4_S2x16384x4x1_0_1_2 (Host.reduceAdd (mulf y y) (constant S_ .f32 0x00000000#32) reducesTo_S2x16384x4x128_S2x16384x4_d3 h_S_)) (broadcastInDim S2x16384x4x1 ![] bcast_S_S2x16384x4x1 (constant S_ .f32 0x358637BD#32)))))

/-- The queries' columns, by head. -/
def first (s : FVec Ideal S2x16384x1536 .f32) : FVec Ideal S2x16384x4x128 .f32 :=
  shapeCast _ (extractStridedSlice S2x16384x512 ![0, 0, 0] s slices_S2x16384x1536_S2x16384x512_0_0_0) shapeCasts_S2x16384x512_S2x16384x4x128

/-- The keys' columns, by head. -/
def second (s : FVec Ideal S2x16384x1536 .f32) : FVec Ideal S2x16384x4x128 .f32 :=
  shapeCast _ (extractStridedSlice S2x16384x512 ![0, 0, 512] s slices_S2x16384x1536_S2x16384x512_0_0_512) shapeCasts_S2x16384x512_S2x16384x4x128

/-- The queries. -/
def queries (s : FVec Ideal S2x16384x1536 .f32) : FVec Ideal S2x16384x512 .f32 :=
  shapeCast _ (Host.divf (units (first s)) (broadcastInDim S2x16384x4x128 ![] bcast_S_S2x16384x4x128 (Host.sqrt (constant S_ .f32 0x43000000#32)))) shapeCasts_S2x16384x4x128_S2x16384x512

/-- The keys. -/
def keys (s : FVec Ideal S2x16384x1536 .f32) : FVec Ideal S2x16384x512 .f32 :=
  shapeCast _ (units (second s)) shapeCasts_S2x16384x4x128_S2x16384x512

/-- The values. -/
def values (s : FVec Ideal S2x16384x1536 .f32) : FVec Ideal S2x16384x512 .f32 :=
  extractStridedSlice S2x16384x512 ![0, 0, 1024] s slices_S2x16384x1536_S2x16384x512_0_0_1024

/-- The decays' columns, by direction and head, with their biases. -/
def biased (p : FVec Ideal S2x16384x2832 .f32) (dt : FVec Ideal S2x4 .f32) : FVec Ideal S2x16384x2x4 .f32 :=
  addf (shapeCast _ (extractStridedSlice S2x16384x8 ![0, 0, 2048] p slices_S2x16384x2832_S2x16384x8_0_0_2048) shapeCasts_S2x16384x8_S2x16384x2x4) (broadcastInDim S2x16384x2x4 ![0, 1, 2, 3] bcast_S1x1x2x4_S2x16384x2x4_0_1_2_3 (broadcastInDim S1x1x2x4 ![2, 3] bcast_S2x4_S1x1x2x4_2_3 dt))

/-- The log decays. -/
def decays (u : FVec Ideal S2x16384x2x4 .f32) (al : FVec Ideal S2x4 .f32) : FVec Ideal S2x16384x2x4 .f32 :=
  mulf (broadcastInDim S2x16384x2x4 ![0, 1, 2, 3] bcast_S1x1x2x4_S2x16384x2x4_0_1_2_3 (broadcastInDim S1x1x2x4 ![2, 3] bcast_S2x4_S1x1x2x4_2_3 (Host.negf (Host.exp al)))) (select (cmpf .une (subf u (broadcastInDim S2x16384x2x4 ![] bcast_S_S2x16384x2x4 (constant S_ .f32 0x00000000#32))) (subf u (broadcastInDim S2x16384x2x4 ![] bcast_S_S2x16384x2x4 (constant S_ .f32 0x00000000#32)))) (addf u (broadcastInDim S2x16384x2x4 ![] bcast_S_S2x16384x2x4 (constant S_ .f32 0x00000000#32))) (addf (maximumf u (broadcastInDim S2x16384x2x4 ![] bcast_S_S2x16384x2x4 (constant S_ .f32 0x00000000#32))) (Host.log1p (Host.exp (Host.negf (Host.absf (subf u (broadcastInDim S2x16384x2x4 ![] bcast_S_S2x16384x2x4 (constant S_ .f32 0x00000000#32)))))))))

/-- Those, by chunk. -/
def chunked (g : FVec Ideal S2x16384x2x4 .f32) : FVec Ideal S2x128x128x2x4 .f32 :=
  shapeCast _ g shapeCasts_S2x16384x2x4_S2x128x128x2x4

/-- The forward heads' sums up to a token. -/
def fore (g : FVec Ideal S2x128x128x2x4 .f32) : FVec Ideal S2x16384x4 .f32 :=
  shapeCast _ (running (shapeCast _ (extractStridedSlice S2x128x128x1x4 ![0, 0, 0, 0, 0] g slices_S2x128x128x2x4_S2x128x128x1x4_0_0_0_0_0) shapeCasts_S2x128x128x1x4_S2x128x128x4)) shapeCasts_S2x128x128x4_S2x16384x4

/-- The backward heads' sums from a token on. -/
def back (g : FVec Ideal S2x128x128x2x4 .f32) : FVec Ideal S2x16384x4 .f32 :=
  shapeCast _ (Host.reverse [2] (running (Host.reverse [2] (shapeCast _ (extractStridedSlice S2x128x128x1x4 ![0, 0, 0, 1, 0] g slices_S2x128x128x2x4_S2x128x128x1x4_0_0_0_1_0) shapeCasts_S2x128x128x1x4_S2x128x128x4)))) shapeCasts_S2x128x128x4_S2x16384x4

/-- The write strengths. -/
def betas (p : FVec Ideal S2x16384x2832 .f32) : FVec Ideal S2x16384x8 .f32 :=
  Host.divf (broadcastInDim S2x16384x8 ![] bcast_S_S2x16384x8 (constant S_ .f32 0x3F800000#32)) (addf (broadcastInDim S2x16384x8 ![] bcast_S_S2x16384x8 (constant S_ .f32 0x3F800000#32)) (Host.exp (Host.negf (extractStridedSlice S2x16384x8 ![0, 0, 2056] p slices_S2x16384x2832_S2x16384x8_0_0_2056))))

/-- The sums over a chunk. -/
def totals (g : FVec Ideal S2x128x128x2x4 .f32) : FVec Ideal S2x16384x8 .f32 :=
  shapeCast _ (broadcastInDim S2x128x128x2x4 ![0, 1, 2, 3, 4] bcast_S2x128x1x2x4_S2x128x128x2x4_0_1_2_3_4 (broadcastInDim S2x128x1x2x4 ![0, 1, 3, 4] bcast_S2x128x2x4_S2x128x1x2x4_0_1_3_4 (Host.reduceAdd g (constant S_ .f32 0x00000000#32) reducesTo_S2x128x128x2x4_S2x128x2x4_d2 h_S_))) shapeCasts_S2x128x128x2x4_S2x16384x8

/-- All of them, side by side, and zeros. -/
def lanes (f k : FVec Ideal S2x16384x4 .f32) (b t : FVec Ideal S2x16384x8 .f32) : FVec Ideal S2x16384x128 .f32 :=
  concatenate S2x16384x128 2 [⟨S2x16384x4, f⟩, ⟨S2x16384x4, k⟩, ⟨S2x16384x8, b⟩, ⟨S2x16384x8, t⟩, ⟨S2x16384x104, broadcastInDim S2x16384x104 ![] bcast_S_S2x16384x104 (constant (F := Ideal) S_ .f32 0x00000000#32)⟩] concatenates_S2x16384x4_S2x16384x4_S2x16384x8_S2x16384x8_S2x16384x104_S2x16384x128_d2

/-- The normalized stream at an index. -/
theorem normed_at (x : FVec Ideal S2x16384x1024 .f32) (nw : FVec Ideal S1024 .f32) (sc sh : FVec Ideal S2x1x1024 .f32) (b : Fin 2) (l : Fin 16384)
    (d : Fin 1024) : (normed x nw sc sh (ix3 b l d) : EReal) = Norm.stream x nw sc sh b l d := by
  pointwise [normed]
  rfl

/-- The projection at an index. -/
theorem proj_at (h : FVec Ideal S2x16384x1024 .f32) (w : FVec Ideal S1024x2832 .f32) (b : Fin 2) (l : Fin 16384) (j : Fin 2832) :
    (proj h w (ix3 b l j) : EReal) = ∑ d : Fin 1024, h (ix3 b l d) * w (ix2 d j) := by
  pointwise [proj]

/-- The padded columns at an index. -/
theorem padded_at (p : FVec Ideal S2x16384x2832 .f32) (b : Fin 2) (r : Fin 16386) (j : Fin 1536) :
    (padded p (ix3 b r j) : EReal) = if h : 1 ≤ r.val ∧ r.val - 1 < 16384 then p (ix3 b ⟨r.val - 1, h.2⟩ ⟨j.val, by omega⟩) else 0 := by
  pointwise [padded]
  have hz : (FloatOps.sitofp (F := Ideal) .f32 (0#32) : EReal) = 0 := by
    show ((((0#32 : BitVec 32).toInt : ℝ)) : EReal) = 0
    simp
  rw [hz]

/-- The weighted sums at an index. -/
theorem taps_at (q : FVec Ideal S2x16386x1536 .f32) (cw : FVec Ideal S3x1536 .f32) (b : Fin 2) (l : Fin 16384) (j : Fin 1536) :
    (taps q cw (ix3 b l j) : EReal) = cw (ix2 0 j) * q (ix3 b ⟨l.val, by omega⟩ j) + cw (ix2 1 j) * q (ix3 b ⟨1 + l.val, by omega⟩ j)
      + cw (ix2 2 j) * q (ix3 b ⟨2 + l.val, by omega⟩ j) := by
  pointwise [taps]

/-- The silu at an index. -/
theorem silu_at (s : FVec Ideal S2x16384x1536 .f32) (b : Fin 2) (l : Fin 16384) (j : Fin 1536) :
    (silu s (ix3 b l j) : EReal) = s (ix3 b l j) * Ideal.logistic (s (ix3 b l j)) := by
  pointwise [silu]
  rfl

/-- The unit rows at an index. -/
theorem units_at (y : FVec Ideal S2x16384x4x128 .f32) (b : Fin 2) (l : Fin 16384) (h : Fin 4) (k : Fin 128) :
    (units y (ix4 b l h k) : EReal) = unit (fun k => y (ix4 b l h k)) k := by
  pointwise [units]
  rfl

/-- The queries' columns at an index. -/
theorem first_at (s : FVec Ideal S2x16384x1536 .f32) (b : Fin 2) (l : Fin 16384) (h : Fin 4) (k : Fin 128) :
    (first s (ix4 b l h k) : EReal) = s (ix3 b l ⟨h.val * 128 + k.val, by omega⟩) := by
  pointwise [first]

/-- The keys' columns at an index. -/
theorem second_at (s : FVec Ideal S2x16384x1536 .f32) (b : Fin 2) (l : Fin 16384) (h : Fin 4) (k : Fin 128) :
    (second s (ix4 b l h k) : EReal) = s (ix3 b l ⟨512 + (h.val * 128 + k.val), by omega⟩) := by
  pointwise [second]

/-- The queries at an index. -/
theorem queries_at (s : FVec Ideal S2x16384x1536 .f32) (b : Fin 2) (l : Fin 16384) (k : Fin 512) :
    (queries s (ix3 b l k) : EReal) = units (first s) (ix4 b l ⟨k.val / 128, by omega⟩ ⟨k.val % 128, by omega⟩) * (((Real.sqrt 128)⁻¹ : ℝ) : EReal) := by
  unfold queries
  generalize units (first s) = y
  pointwise
  rw [show Ideal.ofBits .f32 1124073472#32 = ((128 : ℝ) : EReal) by simp [Ideal.ofBits, Ideal.ieee, -EReal.coe_mul]; norm_num, Ideal.sqrt_coe,
    if_neg (by norm_num), Ideal.div_coe (by positivity), one_div]

/-- The keys at an index. -/
theorem keys_at (s : FVec Ideal S2x16384x1536 .f32) (b : Fin 2) (l : Fin 16384) (k : Fin 512) :
    (keys s (ix3 b l k) : EReal) = units (second s) (ix4 b l ⟨k.val / 128, by omega⟩ ⟨k.val % 128, by omega⟩) := by
  unfold keys
  generalize units (second s) = y
  pointwise

/-- The values at an index. -/
theorem values_at (s : FVec Ideal S2x16384x1536 .f32) (b : Fin 2) (l : Fin 16384) (k : Fin 512) :
    (values s (ix3 b l k) : EReal) = s (ix3 b l ⟨1024 + k.val, by omega⟩) := by
  pointwise [values]

/-- The biased columns at an index. -/
theorem biased_at (p : FVec Ideal S2x16384x2832 .f32) (dt : FVec Ideal S2x4 .f32) (b : Fin 2) (l : Fin 16384) (e : Fin 2) (h : Fin 4) :
    (biased p dt (ix4 b l e h) : EReal) = p (ix3 b l ⟨2048 + (e.val * 4 + h.val), by omega⟩) + dt (ix2 e h) := by
  pointwise [biased]

/-- The log decays at an index. -/
theorem decays_at (u : FVec Ideal S2x16384x2x4 .f32) (al : FVec Ideal S2x4 .f32) (b : Fin 2) (l : Fin 16384) (e : Fin 2) (h : Fin 4) :
    (decays u al (ix4 b l e h) : EReal) = -(Ideal.exp (al (ix2 e h))) * softplus (u (ix4 b l e h)) := by
  pointwise [decays]
  rw [if_neg (fun h => h rfl)]
  rfl

/-- The chunked decays at an index. -/
theorem chunked_at (g : FVec Ideal S2x16384x2x4 .f32) (b : Fin 2) (n i : Fin 128) (e : Fin 2) (h : Fin 4) :
    (chunked g (ix5 b n i e h) : EReal) = g (ix4 b ⟨n.val * 128 + i.val, by omega⟩ e h) := by
  pointwise [chunked]

/-- The forward sums at an index. -/
theorem fore_at (g : FVec Ideal S2x128x128x2x4 .f32) (b : Fin 2) (l : Fin 16384) (h : Fin 4) :
    (fore g (ix3 b l h) : EReal) = ∑ k : Fin 128, if k.val ≤ l.val % 128 then (g (ix5 b ⟨l.val / 128, by omega⟩ k 0 h) : EReal) else 0 := by
  pointwise [fore]
  rw [running_at]
  refine Finset.sum_congr rfl fun k _ => ?_
  pointwise

/-- The backward sums at an index. -/
theorem back_at (g : FVec Ideal S2x128x128x2x4 .f32) (b : Fin 2) (l : Fin 16384) (h : Fin 4) :
    (back g (ix3 b l h) : EReal) = ∑ k : Fin 128, if l.val % 128 ≤ k.val then (g (ix5 b ⟨l.val / 128, by omega⟩ k 1 h) : EReal) else 0 := by
  pointwise [back]
  refine (running_at _ b ⟨l.val / 128, by omega⟩ (Fin.rev ⟨l.val % 128, by omega⟩) h).trans ?_
  refine (Equiv.sum_comp Fin.revPerm _).symm.trans (Finset.sum_congr rfl fun k _ => ?_)
  pointwise
  refine if_congr ?_ (congrArg (fun i => g (ix5 b ⟨l.val / 128, by omega⟩ i 1 h)) (Fin.rev_rev k)) rfl
  show 128 - (k.val + 1) ≤ 128 - (l.val % 128 + 1) ↔ l.val % 128 ≤ k.val
  omega

/-- The write strengths at an index. -/
theorem betas_at (p : FVec Ideal S2x16384x2832 .f32) (b : Fin 2) (l : Fin 16384) (e : Fin 8) :
    (betas p (ix3 b l e) : EReal) = Ideal.logistic (p (ix3 b l ⟨2056 + e.val, by omega⟩)) := by
  pointwise [betas]
  rfl

/-- The sums over a chunk at an index. -/
theorem totals_at (g : FVec Ideal S2x128x128x2x4 .f32) (b : Fin 2) (l : Fin 16384) (e : Fin 8) :
    (totals g (ix3 b l e) : EReal) = ∑ k : Fin 128, g (ix5 b ⟨l.val / 128, by omega⟩ k ⟨e.val / 4, by omega⟩ ⟨e.val % 4, by omega⟩) := by
  pointwise [totals]

/-- The lanes at an index. -/
theorem lanes_at (f k : FVec Ideal S2x16384x4 .f32) (w t : FVec Ideal S2x16384x8 .f32) (b : Fin 2) (l : Fin 16384) (e : Fin 128) :
    (lanes f k w t (ix3 b l e) : EReal) = if h : e.val < 4 then f (ix3 b l ⟨e.val, h⟩)
      else if h : e.val - 4 < 4 then k (ix3 b l ⟨e.val - 4, h⟩)
      else if h : e.val - 4 - 4 < 8 then w (ix3 b l ⟨e.val - 4 - 4, h⟩)
      else if h : e.val - 4 - 4 - 8 < 8 then t (ix3 b l ⟨e.val - 4 - 4 - 8, h⟩) else 0 := by
  pointwise [lanes]

variable (m : (ℓ : Loc nD τ sig) → Buf (Elt Ideal) ℓ) (c : Dev nD)

/-- The reference's arguments. -/
def args : Args where
  x := m ((c.tc : Thread nD τ).loc main_arg0)
  nw := m ((c.tc : Thread nD τ).loc main_arg1)
  sc := m ((c.tc : Thread nD τ).loc main_arg2)
  sh := m ((c.tc : Thread nD τ).loc main_arg3)
  w := m ((c.tc : Thread nD τ).loc main_arg4)
  cw := m ((c.tc : Thread nD τ).loc main_arg5)
  al := m ((c.tc : Thread nD τ).loc main_arg6)
  dt := m ((c.tc : Thread nD τ).loc main_arg7)

section

variable (a : Args)

/-- The projection of the arguments. -/
def wide : FVec Ideal S2x16384x2832 .f32 := proj (normed a.x a.nw a.sc a.sh) a.w

/-- The convolution of the arguments. -/
def short : FVec Ideal S2x16384x1536 .f32 := silu (taps (padded (wide a)) a.cw)

/-- The decays of the arguments, by chunk. -/
def rates : FVec Ideal S2x128x128x2x4 .f32 := chunked (decays (biased (wide a) a.dt) a.al)

/-- The projection is the model's. -/
theorem wide_at (b : Fin 2) (l : Fin 16384) (j : Fin 2832) : (wide a (ix3 b l j) : EReal) = a.proj b l j := by
  unfold wide Args.proj
  rw [proj_at]
  exact Finset.sum_congr rfl fun d _ => by rw [normed_at]

/-- The convolution is the model's. -/
theorem short_at (b : Fin 2) (l : Fin 16384) (j : Fin 1536) : (short a (ix3 b l j) : EReal) = a.conv b l j := by
  have h0 : (padded (wide a) (ix3 b ⟨l.val, by omega⟩ j) : EReal) = a.before b l ⟨j.val, by omega⟩ := by
    rw [padded_at]
    unfold Args.before
    by_cases hl : 0 < l.val
    · rw [dif_pos ⟨hl, by dsimp only; omega⟩, if_pos hl, wide_at]
    · rw [dif_neg (fun h => hl h.1), if_neg hl]
  have h1 : (padded (wide a) (ix3 b ⟨1 + l.val, by omega⟩ j) : EReal) = a.proj b l ⟨j.val, by omega⟩ := by
    rw [padded_at, dif_pos ⟨by dsimp only; omega, by dsimp only; omega⟩, wide_at]
    exact congrArg (fun i => a.proj b i _) (Fin.ext (by dsimp only; omega))
  have h2 : (padded (wide a) (ix3 b ⟨2 + l.val, by omega⟩ j) : EReal) = a.after b l ⟨j.val, by omega⟩ := by
    rw [padded_at]
    unfold Args.after
    by_cases hl : l.val + 1 < 16384
    · rw [dif_pos ⟨by dsimp only; omega, by dsimp only; omega⟩, dif_pos hl, wide_at]
      exact congrArg (fun i => a.proj b i _) (Fin.ext (by dsimp only; omega))
    · rw [dif_neg (fun h => hl (by have := h.2; dsimp only at this; omega)), dif_neg hl]
  unfold short Args.conv tap
  rw [silu_at, taps_at, h0, h1, h2]

/-- A chunk's decays are the model's. -/
theorem rates_at (b : Fin 2) (n i : Fin 128) (e : Fin 2) (h : Fin 4) :
    (rates a (ix5 b n i e h) : EReal) = a.decay b ⟨n.val * 128 + i.val, by omega⟩ ⟨e.val * 4 + h.val, by omega⟩ := by
  unfold rates Args.decay
  rw [chunked_at, decays_at, biased_at, wide_at]
  have he : (⟨(e.val * 4 + h.val) / 4, by omega⟩ : Fin 2) = e := Fin.ext (by dsimp only; omega)
  have hh : (⟨(e.val * 4 + h.val) % 4, by omega⟩ : Fin 4) = h := Fin.ext (by dsimp only; omega)
  simp only [he, hh]

/-- A head's query is the model's. -/
theorem query_model (b : Fin 2) (l : Fin 16384) (h : Fin 4) (k : Fin 128) :
    units (first (short a)) (ix4 b l h k) * (((Real.sqrt 128)⁻¹ : ℝ) : EReal) = a.query b l h k := by
  unfold Args.query
  rw [units_at]
  simp only [first_at, short_at]

/-- The queries are the model's. -/
theorem queries_eq : queries (short a) = a.queries := by
  funext y
  refine (congrArg _ (eq_ix3 y)).trans ((queries_at (short a) (y 0) (y 1) (y 2)).trans ?_)
  exact query_model a (y 0) (y 1) _ _

/-- A head's key is the model's. -/
theorem key_model (b : Fin 2) (l : Fin 16384) (h : Fin 4) (k : Fin 128) :
    units (second (short a)) (ix4 b l h k) = a.key b l h k := by
  unfold Args.key
  rw [units_at]
  simp only [second_at, short_at]

/-- The keys are the model's. -/
theorem keys_eq : keys (short a) = a.keys := by
  funext y
  refine (congrArg _ (eq_ix3 y)).trans ((keys_at (short a) (y 0) (y 1) (y 2)).trans ?_)
  exact key_model a (y 0) (y 1) _ _

/-- The values are the model's. -/
theorem values_eq : values (short a) = a.values := by
  funext y
  refine (congrArg _ (eq_ix3 y)).trans ((values_at (short a) (y 0) (y 1) (y 2)).trans ((short_at a _ _ _).trans ?_))
  exact congrArg (a.conv (y 0) (y 1)) (Fin.ext (by dsimp only; omega))

/-- A lane is the model's. -/
theorem lane_model (b : Fin 2) (l : Fin 16384) (e : Fin 128) :
    lanes (fore (rates a)) (back (rates a)) (betas (wide a)) (totals (rates a)) (ix3 b l e) = a.lane b l e := by
  rw [lanes_at]
  have hd (l : Fin 16384) {i j : Fin 8} (h : i.val = j.val) : a.decay b l i = a.decay b l j := congrArg (a.decay b l) (Fin.ext h)
  unfold Args.lane
  by_cases h1 : e.val < 4
  · rw [dif_pos h1, dif_pos h1, fore_at]
    refine Finset.sum_congr rfl fun k _ => if_congr Iff.rfl ?_ rfl
    rw [rates_at]
    exact hd _ (by dsimp only; simp)
  rw [dif_neg h1, dif_neg h1]
  by_cases h2 : e.val < 8
  · rw [dif_pos (show e.val - 4 < 4 by omega), dif_pos h2, back_at]
    refine Finset.sum_congr rfl fun k _ => if_congr Iff.rfl ?_ rfl
    rw [rates_at]
    exact hd _ (by show 1 * 4 + (e.val - 4) = e.val; omega)
  rw [dif_neg (show ¬ e.val - 4 < 4 by omega), dif_neg h2]
  by_cases h3 : e.val < 16
  · rw [dif_pos (show e.val - 4 - 4 < 8 by omega), dif_pos h3, betas_at, wide_at]
    exact congrArg (fun j => Ideal.logistic (a.proj b l j)) (Fin.ext (by dsimp only; omega))
  rw [dif_neg (show ¬ e.val - 4 - 4 < 8 by omega), dif_neg h3]
  by_cases h4 : e.val < 24
  · rw [dif_pos (show e.val - 4 - 4 - 8 < 8 by omega), dif_pos h4, totals_at]
    refine Finset.sum_congr rfl fun k _ => ?_
    rw [rates_at, if_pos trivial]
    exact hd _ (by dsimp only; omega)
  rw [dif_neg (show ¬ e.val - 4 - 4 - 8 < 8 by omega), dif_neg h4]

/-- The decays and write strengths are the model's. -/
theorem lanes_eq : lanes (fore (rates a)) (back (rates a)) (betas (wide a)) (totals (rates a)) = a.lanes :=
  funext fun y => (congrArg _ (eq_ix3 y)).trans (lane_model a (y 0) (y 1) (y 2))

end

/-- The queries of the run. -/
theorem out_queries : res_main_v56 m c = (args m c).queries :=
  (show res_main_v56 m c = queries (short (args m c)) from rfl).trans (queries_eq _)

/-- The keys of the run. -/
theorem out_keys : res_main_v67 m c = (args m c).keys :=
  (show res_main_v67 m c = keys (short (args m c)) from rfl).trans (keys_eq _)

/-- The values of the run. -/
theorem out_values : res_main_v68 m c = (args m c).values :=
  (show res_main_v68 m c = values (short (args m c)) from rfl).trans (values_eq _)

/-- The decays and write strengths of the run. -/
theorem out_lanes : res_main_v103 m c = (args m c).lanes :=
  (show res_main_v103 m c = lanes (fore (rates (args m c))) (back (rates (args m c))) (betas (wide (args m c))) (totals (rates (args m c)))
    from rfl).trans (lanes_eq _)

/-- The gates of the run. -/
theorem out_gates (a : Args) : (truncf .bf16 (extractStridedSlice S2x16384x512 ![0, 0, 1536] (wide a) slices_S2x16384x2832_S2x16384x512_0_0_1536)
    bitsLt_bf16_f32) = a.gates := by
  funext y
  refine (congrArg _ (eq_ix3 y)).trans (Eq.trans ?_ (wide_at a (y 0) (y 1) _))
  pointwise

/-- The Fourier channels of the run. -/
theorem out_fouriers (a : Args) : extractStridedSlice S2x16384x256 ![0, 0, 2064] (wide a) slices_S2x16384x2832_S2x16384x256_0_0_2064 = a.fouriers := by
  funext y
  refine (congrArg _ (eq_ix3 y)).trans (Eq.trans ?_ (wide_at a (y 0) (y 1) _))
  pointwise

/-- The convolution channels of the run. -/
theorem out_channels (a : Args) : (truncf .bf16 (extractStridedSlice S2x16384x512 ![0, 0, 2320] (wide a) slices_S2x16384x2832_S2x16384x512_0_0_2320)
    bitsLt_bf16_f32) = a.channels := by
  funext y
  refine (congrArg _ (eq_ix3 y)).trans (Eq.trans ?_ (wide_at a (y 0) (y 1) _))
  pointwise

end Cert.Reference2Ideal.Input

end
-- ==== Proof.InputClaim.lean ====
/- The input projection: the kernel's results are the reference's, and the reference keeps its arguments. -/
module

public import proofs.«01_k».proof.Defs
public import proofs.«01_k».proof.Proof.InputArrays
public import proofs.«01_k».proof.Proof.RefInput
public import Idealize.ShloMosaic.Adequacy

@[expose] public section

noncomputable section

namespace Cert.Proof

open Idealize.ShloMosaic Idealize.SL.Sem

/-- The kernel's results are the reference's, over the extended reals. -/
theorem input_eq : Cert.algebraic_Kernel2Ideal_Reference2Ideal (hKernel2Ideal := Cert.Kernel2Ideal.Gen.facts)
    (hReference2Ideal := Cert.Reference2Ideal.Gen.facts) := by
  intro m g m' g' _ hagree
  refine ⟨fun c => (Cert.Kernel2Ideal.Input.args m c).queries, fun c => (Cert.Kernel2Ideal.Input.args m c).keys,
    fun c => (Cert.Kernel2Ideal.Input.args m c).values, fun c => (Cert.Kernel2Ideal.Input.args m c).lanes,
    fun c => (Cert.Kernel2Ideal.Input.args m c).gates, fun c => (Cert.Kernel2Ideal.Input.args m c).fouriers,
    fun c => (Cert.Kernel2Ideal.Input.args m c).channels, ?_, ?_⟩
  · refine (θ_run _ _ _).mono (fun r h c => ?_) (Cert.Kernel2Ideal.Value.run_blocks m g)
    obtain ⟨r0, r1, r2, r3, r4, r5, r6, kept⟩ := h c
    exact ⟨r0.trans (Cert.Kernel2Ideal.Input.arr13 m c), r1.trans (Cert.Kernel2Ideal.Input.arr14 m c),
      r2.trans (Cert.Kernel2Ideal.Input.arr15 m c), r3.trans (Cert.Kernel2Ideal.Input.arr16 m c),
      r4.trans (Cert.Kernel2Ideal.Input.arr17 m c), r5.trans (Cert.Kernel2Ideal.Input.arr18 m c),
      r6.trans (Cert.Kernel2Ideal.Input.arr19 m c), kept⟩
  · refine (θ_run _ _ _).mono (fun r h c => ?_) (Cert.Reference2Ideal.Value.run m' g')
    obtain ⟨r0, r1, r2, r3, r4, r5, r6, kept⟩ := h c
    have ha : Cert.Reference2Ideal.Input.args m' c = Cert.Kernel2Ideal.Input.args m c := by
      obtain ⟨h0, h1, h2, h3, h4, h5, h6, h7⟩ := hagree c
      unfold Cert.Reference2Ideal.Input.args Cert.Kernel2Ideal.Input.args
      rw [h0, h1, h2, h3, h4, h5, h6, h7]
    exact ⟨r0.trans ((Cert.Reference2Ideal.Input.out_queries m' c).trans (congrArg Cert.Input.Args.queries ha)),
      r1.trans ((Cert.Reference2Ideal.Input.out_keys m' c).trans (congrArg Cert.Input.Args.keys ha)),
      r2.trans ((Cert.Reference2Ideal.Input.out_values m' c).trans (congrArg Cert.Input.Args.values ha)),
      r3.trans ((Cert.Reference2Ideal.Input.out_lanes m' c).trans (congrArg Cert.Input.Args.lanes ha)),
      r4.trans ((Cert.Reference2Ideal.Input.out_gates (Cert.Reference2Ideal.Input.args m' c)).trans (congrArg Cert.Input.Args.gates ha)),
      r5.trans ((Cert.Reference2Ideal.Input.out_fouriers (Cert.Reference2Ideal.Input.args m' c)).trans (congrArg Cert.Input.Args.fouriers ha)),
      r6.trans ((Cert.Reference2Ideal.Input.out_channels (Cert.Reference2Ideal.Input.args m' c)).trans (congrArg Cert.Input.Args.channels ha)),
      kept⟩

/-- The reference runs, keeps its arguments and leaves no semaphore raised: it has none. -/
theorem frame_input : Cert.quiescent_Reference2Ideal (hReference2Ideal := Cert.Reference2Ideal.Gen.facts) := fun m ρ _ =>
  (θ_run Cert.Reference2Ideal.defs _ _).mono
    (fun r h => ⟨fun c => (h c).2.2.2.2.2.2.2, sem_eq_zero_of_no_sems (by decide) r.2⟩) (Cert.Reference2Ideal.Value.run m ρ)

end Cert.Proof

end
-- ==== Proof.MixModel.lean ====
/- The output projection of the gated norm's heads beside the other channels, in extended reals. -/
module

public import Idealize.ShloMosaic.PureOps.Ideal.Laws
public import Idealize.ShloMosaic.Lib.Pointwise

@[expose] public section

noncomputable section

open Idealize.ShloMosaic
open scoped BigOperators

namespace Cert.Mix

/-- A head's row of 128 entries, normalized by its root mean square and weighted. -/
def normed (o w : Fin 128 → EReal) (d : Fin 128) : EReal :=
  o d * Ideal.rsqrt (Ideal.div (∑ k : Fin 128, o k * o k) (Ideal.ofBits .f32 1124073472#32) + Ideal.ofBits .f32 897988541#32) * w d

/-- That row gated by `z`. -/
def gated (o w z : Fin 128 → EReal) (d : Fin 128) : EReal := normed o w d * (z d * Ideal.logistic (z d))

/-- Four heads' rows and the rows of the Fourier and the convolution channels, through one column of the projection. -/
def project (g : Fin 4 → Fin 128 → EReal) (yf yc : Fin 256 → EReal) (w : Fin 1024 → EReal) : EReal :=
  (∑ k : Fin 256, yf k * w ⟨512 + k.val, by omega⟩) + (∑ k : Fin 256, yc k * w ⟨768 + k.val, by omega⟩)
  + (∑ k : Fin 128, g 0 k * w ⟨0 + k.val, by omega⟩) + (∑ k : Fin 128, g 1 k * w ⟨128 + k.val, by omega⟩)
  + (∑ k : Fin 128, g 2 k * w ⟨256 + k.val, by omega⟩) + (∑ k : Fin 128, g 3 k * w ⟨384 + k.val, by omega⟩)

/-- A sum over the 1024 channels, by head and by the other two stretches. -/
theorem sum_channels (f : Fin 1024 → EReal) : ∑ j : Fin 1024, f j
    = (∑ k : Fin 256, f ⟨512 + k.val, by omega⟩) + (∑ k : Fin 256, f ⟨768 + k.val, by omega⟩)
    + (∑ k : Fin 128, f ⟨0 + k.val, by omega⟩) + (∑ k : Fin 128, f ⟨128 + k.val, by omega⟩)
    + (∑ k : Fin 128, f ⟨256 + k.val, by omega⟩) + (∑ k : Fin 128, f ⟨384 + k.val, by omega⟩) := by
  have e0 : ∑ k : Fin 128, f ⟨k.val, by omega⟩ = ∑ k : Fin 128, f ⟨0 + k.val, by omega⟩ :=
    Finset.sum_congr rfl fun k _ => congrArg f (Fin.ext (Nat.zero_add _).symm)
  have e1 := Fin.sum_univ_add (a := 512) (b := 512) f
  have e2 := Fin.sum_univ_add (a := 256) (b := 256) (fun k : Fin 512 => f ⟨512 + k.val, by omega⟩)
  have e3 := Fin.sum_univ_add (a := 256) (b := 256) (fun k : Fin 512 => f ⟨k.val, by omega⟩)
  have e4 := Fin.sum_univ_add (a := 128) (b := 128) (fun k : Fin 256 => f ⟨k.val, by omega⟩)
  have e5 := Fin.sum_univ_add (a := 128) (b := 128) (fun k : Fin 256 => f ⟨256 + k.val, by omega⟩)
  have e6 : ∑ k : Fin 256, f ⟨512 + (256 + k.val), by omega⟩ = ∑ k : Fin 256, f ⟨768 + k.val, by omega⟩ :=
    Finset.sum_congr rfl fun k _ => congrArg f (Fin.ext (by dsimp only; omega))
  have e7 : ∑ k : Fin 128, f ⟨256 + (128 + k.val), by omega⟩ = ∑ k : Fin 128, f ⟨384 + k.val, by omega⟩ :=
    Finset.sum_congr rfl fun k _ => congrArg f (Fin.ext (by dsimp only; omega))
  refine e1.trans ?_
  refine (congrArg₂ (· + ·) (e3.trans (congrArg₂ (· + ·) (e4.trans (congrArg (· + _) e0)) (e5.trans (congrArg (_ + ·) e7))))
    (e2.trans (congrArg (_ + ·) e6))).trans ?_
  dsimp only [Fin.val_castAdd, Fin.val_natAdd]
  abel

/-- The whole output at an index: the residual plus the gated projection. -/
def out (of ob z : FVec Ideal (⟨3, ![2, 16384, 512]⟩ : Shape) .bf16) (yf yc : FVec Ideal (⟨3, ![2, 16384, 256]⟩ : Shape) .f32)
    (x : FVec Ideal (⟨3, ![2, 16384, 1024]⟩ : Shape) .f32) (gt : FVec Ideal (⟨3, ![2, 1, 1024]⟩ : Shape) .f32)
    (gn : FVec Ideal (⟨1, ![128]⟩ : Shape) .f32) (w : FVec Ideal (⟨2, ![1024, 1024]⟩ : Shape) .f32)
    (b : Fin 2) (l : Fin 16384) (n : Fin 1024) : EReal :=
  x (ix3 b l n) + gt (ix3 b 0 n) * project
    (fun h => gated (fun k => of (ix3 b l ⟨h.val * 128 + k.val, by omega⟩) + ob (ix3 b l ⟨h.val * 128 + k.val, by omega⟩))
      (fun k => gn (ix1 k)) (fun k => z (ix3 b l ⟨h.val * 128 + k.val, by omega⟩)))
    (fun k => yf (ix3 b l k)) (fun k => yc (ix3 b l k)) (fun j => w (ix2 j n))

end Cert.Mix

end
-- ==== Proof.Mix.lean ====
/- The kernel of the output projection: what its result array ends holding. -/
module

public import proofs.«01_k».proof.Proof.MixModel
public import proofs.«01_k».proof.Proof.Gen.Kernel3Ideal.Value
public import Idealize.ShloMosaic.Lib.StableHlo.RunRead

@[expose] public section

noncomputable section

open Idealize.ShloMosaic Idealize.ShloMosaic.TcCoe Idealize.SL.Sem

namespace Cert.Kernel3Ideal.Mix

open Cert.Kernel3Ideal Cert.Kernel3Ideal.Gen Cert.Kernel3Ideal.Value Cert.Mix

/-- The other channels' part of the projection. -/
theorem pay2_at (yf yc : FVec Ideal S1x1024x256 .f32) (wf wc : FVec Ideal S256x1024 .bf16) (r n : Fin 1024) :
    (k0_pay2 (F := Ideal) yf wf yc wc (ix2 r n) : EReal)
      = (∑ k : Fin 256, yf (ix3 0 r k) * wf (ix2 k n)) + ∑ k : Fin 256, yc (ix3 0 r k) * wc (ix2 k n) := by
  pointwise [k0_pay2]

/-- The first head's normalized rows. -/
theorem pay3_at (of ob : FVec Ideal S1x1024x128 .bf16) (gn : FVec Ideal S1x128 .f32) (r : Fin 1024) (k : Fin 128) :
    (k0_pay3 (F := Ideal) of ob gn (ix2 r k) : EReal)
      = normed (fun k => of (ix3 0 r k) + ob (ix3 0 r k)) (fun k => gn (ix2 0 k)) k := by
  pointwise [k0_pay3]
  rfl

/-- The first head added. -/
theorem pay4_at (a : FVec Ideal S1024x1024 .f32) (o : FVec Ideal S1024x128 .f32) (z : FVec Ideal S1x1024x128 .bf16)
    (w : FVec Ideal S128x1024 .bf16) (r n : Fin 1024) :
    (k0_pay4 (F := Ideal) a o z w (ix2 r n) : EReal)
      = a (ix2 r n) + ∑ k : Fin 128, o (ix2 r k) * (z (ix3 0 r k) * Ideal.logistic (z (ix3 0 r k))) * w (ix2 k n) := by
  pointwise [k0_pay4]

/-- The second head's gated rows. -/
theorem pay5_at (of ob : FVec Ideal S1x1024x128 .bf16) (gn : FVec Ideal S1x128 .f32) (z : FVec Ideal S1x1024x128 .bf16) (r : Fin 1024) (k : Fin 128) :
    (k0_pay5 (F := Ideal) of ob gn z (ix2 r k) : EReal)
      = gated (fun k => of (ix3 0 r k) + ob (ix3 0 r k)) (fun k => gn (ix2 0 k)) (fun k => z (ix3 0 r k)) k := by
  pointwise [k0_pay5]
  rfl

/-- The second and the third head added. -/
theorem pay6_at (a : FVec Ideal S1024x1024 .f32) (g : FVec Ideal S1024x128 .bf16) (w1 : FVec Ideal S128x1024 .bf16)
    (of ob : FVec Ideal S1x1024x128 .bf16) (gn : FVec Ideal S1x128 .f32) (z : FVec Ideal S1x1024x128 .bf16)
    (w2 : FVec Ideal S128x1024 .bf16) (r n : Fin 1024) :
    (k0_pay6 (F := Ideal) a g w1 of ob gn z w2 (ix2 r n) : EReal)
      = a (ix2 r n) + (∑ k : Fin 128, g (ix2 r k) * w1 (ix2 k n))
        + ∑ k : Fin 128, gated (fun k => of (ix3 0 r k) + ob (ix3 0 r k)) (fun k => gn (ix2 0 k)) (fun k => z (ix3 0 r k)) k * w2 (ix2 k n) := by
  pointwise [k0_pay6]
  rfl

/-- The fourth head added, then the gate and the residual. -/
theorem pay8_at (a : FVec Ideal S1024x1024 .f32) (of ob : FVec Ideal S1x1024x128 .bf16) (gn : FVec Ideal S1x128 .f32)
    (z : FVec Ideal S1x1024x128 .bf16) (w : FVec Ideal S128x1024 .bf16) (x : FVec Ideal S1x1024x1024 .f32) (gt : FVec Ideal S1x1x1024 .f32) (r n : Fin 1024) :
    (k0_pay1 (F := Ideal) (k0_pay8 a (k0_pay7 of) ob gn z w x gt) (ix3 0 r n) : EReal)
      = x (ix3 0 r n) + gt (ix3 0 0 n) * (a (ix2 r n)
        + ∑ k : Fin 128, gated (fun k => of (ix3 0 r k) + ob (ix3 0 r k)) (fun k => gn (ix2 0 k)) (fun k => z (ix3 0 r k)) k * w (ix2 k n)) := by
  pointwise [k0_pay1, k0_pay8, k0_pay7]
  rfl

/-- A head's lanes of a block of rows. -/
def lanes (x : Vec Ideal S1x1024x512 .bf16) (o : ℕ) (ho : o + 128 ≤ 512) : Vec Ideal S1x1024x128 .bf16 :=
  fun y => x (ix3 0 (y 1) ⟨o + (y 2).val, by have h : (y 2).val < 128 := (y 2).isLt; omega⟩)

/-- A stretch of `n` rows of the projection. -/
def rows (n : ℕ) (w : Vec Ideal S1024x1024 .bf16) (o : ℕ) (ho : o + n ≤ 1024) : Vec Ideal (⟨2, ![n, 1024]⟩ : Shape) .bf16 :=
  fun y => w (ix2 ⟨o + (y 0).val, by have h : (y 0).val < n := (y 0).isLt; omega⟩ (y 1))

/-- A head's lanes of a block of rows, loaded. -/
theorem ld_head (x : Vec Ideal S1x1024x512 .bf16) (o : ℕ) (ho : o + 128 ≤ 512) (inb : ∀ a, (![0, 0, o] : Fin 3 → ℕ) a + S1x1024x128.size a ≤ S1x1024x512.size a) :
    View.ld (Val := Elt Ideal) x (Rect.unit (s := S1x1024x512) ![0, 0, o] S1x1024x128.size inb) = lanes x o ho := by
  funext y
  refine congrArg x (funext fun a => Fin.ext ?_)
  have h : (y 0).val < 1 := (y 0).isLt
  fin_cases a
  · show 0 + 1 * (y 0).val = 0; omega
  · show 0 + 1 * (y 1).val = (y 1).val; omega
  · show o + 1 * (y 2).val = o + (y 2).val; omega

/-- A stretch of rows of the projection, loaded. -/
theorem ld_rows (n : ℕ) (w : Vec Ideal S1024x1024 .bf16) (o : ℕ) (ho : o + n ≤ 1024)
    (inb : ∀ a, (![o, 0] : Fin 2 → ℕ) a + (![n, 1024] : Fin 2 → ℕ) a ≤ S1024x1024.size a) :
    View.ld (Val := Elt Ideal) w (Rect.unit (s := S1024x1024) ![o, 0] ![n, 1024] inb) = rows n w o ho := by
  funext y
  refine congrArg w (funext fun a => Fin.ext ?_)
  fin_cases a
  · show o + 1 * (y 0).val = o + (y 0).val; omega
  · show 0 + 1 * (y 1).val = (y 1).val; omega

/-- The gated rows of the head whose lanes start at `o`, of a block. -/
def head (of ob z : FVec Ideal S1x1024x512 .bf16) (gn : FVec Ideal S1x128 .f32) (r : Fin 1024) (h : Fin 4) : Fin 128 → EReal :=
  gated (fun k => of (ix3 0 r ⟨h.val * 128 + k.val, by omega⟩) + ob (ix3 0 r ⟨h.val * 128 + k.val, by omega⟩))
    (fun k => gn (ix2 0 k)) (fun k => z (ix3 0 r ⟨h.val * 128 + k.val, by omega⟩))

/-- The block a point stores. -/
theorem out9_at (of ob z : FVec Ideal S1x1024x512 .bf16) (yf yc : FVec Ideal S1x1024x256 .f32) (x : FVec Ideal S1x1024x1024 .f32)
    (gt : FVec Ideal S1x1x1024 .f32) (gn : FVec Ideal S1x128 .f32) (w : FVec Ideal S1024x1024 .bf16) (r n : Fin 1024) :
    (out0_9 (F := Ideal) of ob z yf yc x gt gn w (ix3 0 r n) : EReal)
      = x (ix3 0 r n) + gt (ix3 0 0 n) * project (head of ob z gn r) (fun k => yf (ix3 0 r k)) (fun k => yc (ix3 0 r k))
        (fun j => w (ix2 j n)) := by
  unfold out0_9
  rw [View.canon_unit_zero (by decide), View.ld_unit_zero (by decide),
    View.ld_unit_zero (by decide), View.ld_unit_zero (by decide),
    View.ld_unit_zero (by decide), View.ld_unit_zero (by decide), ld_head of 0 (by omega), ld_head of 128 (by omega),
    ld_head of 256 (by omega), ld_head of 384 (by omega), ld_head ob 0 (by omega), ld_head ob 128 (by omega),
    ld_head ob 256 (by omega), ld_head ob 384 (by omega), ld_head z 0 (by omega), ld_head z 128 (by omega),
    ld_head z 256 (by omega), ld_head z 384 (by omega),
    ld_rows 128 w 0 (by omega), ld_rows 128 w 128 (by omega), ld_rows 128 w 256 (by omega), ld_rows 128 w 384 (by omega),
    ld_rows 256 w 512 (by omega), ld_rows 256 w 768 (by omega), pay8_at, pay6_at, pay4_at, pay2_at]
  simp only [pay3_at, pay5_at]
  rfl

variable (m : (ℓ : Loc nD τ sig) → Buf (Elt Ideal) ℓ) (c : Dev nD)

/-- The result: the residual plus the gated projection of the kernel's arguments. -/
def target : Vec Ideal S2x16384x1024 .f32 := fun y =>
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (y 0) (y 1) (y 2)

/-- An index of a block whose first axis has one entry. -/
theorem eq_ix3_one (x : S1x1024x1024.Idx) : x = ix3 (n0 := 1) (n1 := 1024) (n2 := 1024) 0 (x 1) (x 2) := by
  refine (eq_ix3 x).trans ?_
  congr 1
  exact Subsingleton.elim _ _

/-- The batch entry of a point. -/
def bat (t : Fin cfg0.N) : Fin 2 := ⟨t.val / 16, by have h : t.val < 32 := lt_of_lt_of_eq t.isLt N_0; omega⟩

/-- The time step of row `r` of a point's tile. -/
def step (t : Fin cfg0.N) (r : Fin 1024) : Fin 16384 := ⟨t.val % 16 * 1024 + r.val, by omega⟩

/-- Where the windows stand at each point. -/
theorem index_all : ∀ t : Fin grid0.N,
    win0_0.index t = ![t.val / 16, t.val % 16, 0] ∧ win0_1.index t = ![t.val / 16, t.val % 16, 0]
    ∧ win0_2.index t = ![t.val / 16, t.val % 16, 0] ∧ win0_3.index t = ![t.val / 16, t.val % 16, 0]
    ∧ win0_4.index t = ![t.val / 16, t.val % 16, 0] ∧ win0_5.index t = ![t.val / 16, t.val % 16, 0]
    ∧ win0_6.index t = ![t.val / 16, 0, 0] ∧ win0_7.index t = ![0, 0] ∧ win0_8.index t = ![0, 0]
    ∧ win0_9.index t = ![t.val / 16, t.val % 16, 0] := by decide +kernel

/-- The norm's weight as the region finds it: the argument as one row. -/
theorem weight_entry : V m c main_v1
    = shapeCast S1x128 (m ((c : Thread nD τ).loc main_arg7) : FVec Ideal S128 .f32) shapeCasts_S128_S1x128 := by
  after_reads_simp
  rfl

/-- The projection as the region finds it: the argument. -/
theorem proj_entry : V m c main_v0 = m ((c : Thread nD τ).loc main_arg8) := by
  after_reads_simp
  rfl

/-- Where row `r` of a tile of `s` lanes lies in its array. -/
theorem tile_at (s : ℕ) (t : Fin cfg0.N) (r : Fin 1024) (k : Fin s) (i : Fin 3 → ℕ) (hi : i = ![t.val / 16, t.val % 16, 0])
    (a : Fin 3) : i a * (![1, 1024, s] : Fin 3 → ℕ) a + 1 * ((ix3 (0 : Fin 1) r k) a).val = ((ix3 (bat t) (step t r) k) a).val := by
  subst hi
  fin_cases a
  · show t.val / 16 * 1 + 1 * 0 = t.val / 16; omega
  · show t.val % 16 * 1024 + 1 * r.val = t.val % 16 * 1024 + r.val; omega
  · show 0 * s + 1 * k.val = k.val; omega

/-- The block of the forward heads. -/
theorem block_of (t : Fin cfg0.N) (r : Fin 1024) (k : Fin 512) : (iblk m c 0 t : Vec Ideal S1x1024x512 .bf16) (ix3 0 r k)
    = (m ((c : Thread nD τ).loc main_arg0) : Vec Ideal S2x16384x512 .bf16) (ix3 (bat t) (step t r) k) :=
  (congrFun (V_main_arg0 m c) _).trans (congrArg _ (funext fun a => Fin.ext (tile_at 512 t r k _ (index_all t).1 a)))

/-- The block of the backward heads. -/
theorem block_ob (t : Fin cfg0.N) (r : Fin 1024) (k : Fin 512) : (iblk m c 1 t : Vec Ideal S1x1024x512 .bf16) (ix3 0 r k)
    = (m ((c : Thread nD τ).loc main_arg1) : Vec Ideal S2x16384x512 .bf16) (ix3 (bat t) (step t r) k) :=
  (congrFun (V_main_arg1 m c) _).trans (congrArg _ (funext fun a => Fin.ext (tile_at 512 t r k _ (index_all t).2.1 a)))

/-- The block of the gates. -/
theorem block_z (t : Fin cfg0.N) (r : Fin 1024) (k : Fin 512) : (iblk m c 2 t : Vec Ideal S1x1024x512 .bf16) (ix3 0 r k)
    = (m ((c : Thread nD τ).loc main_arg2) : Vec Ideal S2x16384x512 .bf16) (ix3 (bat t) (step t r) k) :=
  (congrFun (V_main_arg2 m c) _).trans (congrArg _ (funext fun a => Fin.ext (tile_at 512 t r k _ (index_all t).2.2.1 a)))

/-- The block of the Fourier channels. -/
theorem block_yf (t : Fin cfg0.N) (r : Fin 1024) (k : Fin 256) : (iblk m c 3 t : Vec Ideal S1x1024x256 .f32) (ix3 0 r k)
    = (m ((c : Thread nD τ).loc main_arg3) : Vec Ideal S2x16384x256 .f32) (ix3 (bat t) (step t r) k) :=
  (congrFun (V_main_arg3 m c) _).trans (congrArg _ (funext fun a => Fin.ext (tile_at 256 t r k _ (index_all t).2.2.2.1 a)))

/-- The block of the convolution channels. -/
theorem block_yc (t : Fin cfg0.N) (r : Fin 1024) (k : Fin 256) : (iblk m c 4 t : Vec Ideal S1x1024x256 .f32) (ix3 0 r k)
    = (m ((c : Thread nD τ).loc main_arg4) : Vec Ideal S2x16384x256 .f32) (ix3 (bat t) (step t r) k) :=
  (congrFun (V_main_arg4 m c) _).trans (congrArg _ (funext fun a => Fin.ext (tile_at 256 t r k _ (index_all t).2.2.2.2.1 a)))

/-- The block of the residual. -/
theorem block_x (t : Fin cfg0.N) (r k : Fin 1024) : (iblk m c 5 t : Vec Ideal S1x1024x1024 .f32) (ix3 0 r k)
    = (m ((c : Thread nD τ).loc main_arg5) : Vec Ideal S2x16384x1024 .f32) (ix3 (bat t) (step t r) k) :=
  (congrFun (V_main_arg5 m c) _).trans (congrArg _ (funext fun a => Fin.ext (tile_at 1024 t r k _ (index_all t).2.2.2.2.2.1 a)))

/-- The block of the residual's gate. -/
theorem block_gt (t : Fin cfg0.N) (k : Fin 1024) : (iblk m c 6 t : Vec Ideal S1x1x1024 .f32) (ix3 0 0 k)
    = (m ((c : Thread nD τ).loc main_arg6) : Vec Ideal S2x1x1024 .f32) (ix3 (bat t) 0 k) := by
  refine (congrFun (V_main_arg6 m c) _).trans (congrArg _ (funext fun a => Fin.ext ?_))
  show win0_6.index t a * S1x1x1024.size a + 1 * _ = _
  rw [(index_all t).2.2.2.2.2.2.1]
  fin_cases a
  · show t.val / 16 * 1 + 1 * 0 = t.val / 16; omega
  · show 0 * 1 + 1 * 0 = 0; omega
  · show 0 * 1024 + 1 * k.val = k.val; omega

/-- The block of the norm's weight. -/
theorem block_gn (t : Fin cfg0.N) (k : Fin 128) : (iblk m c 7 t : Vec Ideal S1x128 .f32) (ix2 0 k)
    = (m ((c : Thread nD τ).loc main_arg7) : Vec Ideal S128 .f32) (ix1 k) := by
  have e : (iblk m c 7 t : Vec Ideal S1x128 .f32) (ix2 0 k) = (V m c main_v1 : Vec Ideal S1x128 .f32) (ix2 0 k) := by
    refine congrArg (V m c main_v1 : Vec Ideal S1x128 .f32) (funext fun a => Fin.ext ?_)
    show win0_7.index t a * S1x128.size a + 1 * _ = _
    rw [(index_all t).2.2.2.2.2.2.2.1]
    fin_cases a
    · show 0 * 1 + 1 * 0 = 0; omega
    · show 0 * 128 + 1 * k.val = k.val; omega
  rw [e, weight_entry]
  generalize (m ((c : Thread nD τ).loc main_arg7) : FVec Ideal S128 .f32) = w
  pointwise

/-- The block of the projection: all of it. -/
theorem block_p (t : Fin cfg0.N) (j k : Fin 1024) : (iblk m c 8 t : Vec Ideal S1024x1024 .bf16) (ix2 j k)
    = (m ((c : Thread nD τ).loc main_arg8) : Vec Ideal S1024x1024 .f32) (ix2 j k) := by
  refine (congrFun (proj_entry m c) _).trans (congrArg _ (funext fun a => Fin.ext ?_))
  show win0_8.index t a * S1024x1024.size a + 1 * _ = _
  rw [(index_all t).2.2.2.2.2.2.2.2.1]
  fin_cases a
  · show 0 * 1024 + 1 * j.val = j.val; omega
  · show 0 * 1024 + 1 * k.val = k.val; omega

/-- The block a point stores, of the kernel's arguments. -/
theorem out_block (t : Fin cfg0.N) (r n : Fin 1024) :
    (out0_9 (F := Ideal) (iblk m c 0 t) (iblk m c 1 t) (iblk m c 2 t) (iblk m c 3 t) (iblk m c 4 t) (iblk m c 5 t) (iblk m c 6 t)
      (iblk m c 7 t) (iblk m c 8 t) (ix3 0 r n) : EReal) = target m c (ix3 (bat t) (step t r) n) := by
  rw [out9_at]
  unfold head
  simp only [block_of, block_ob, block_z, block_yf, block_yc, block_x, block_gt, block_gn, block_p]
  rfl

/-- The result array ends holding the residual plus the gated projection. -/
theorem target_eq : (dats m 0 c).arrAt 9 cfg0.N = target m c :=
  (dats m 0 c).arrAt_eq_of_cover 9 (target m c)
    (fun t _ => by
      rw [flushed9]
      funext x
      have e : (((cfg0.win 9).blk t).view.read (Elt Ideal) (target m c)) x
          = target m c (ix3 (n0 := 2) (n1 := 16384) (n2 := 1024) (bat t) (step t (x 1)) (x 2)) := by
        refine congrArg (target m c) (funext fun a => Fin.ext ?_)
        show win0_9.index t a * S1x1024x1024.size a + 1 * (x a).val = _
        rw [(index_all t).2.2.2.2.2.2.2.2.2]
        have h0 : (x 0).val < 1 := (x 0).isLt
        fin_cases a
        · show t.val / 16 * 1 + 1 * (x 0).val = t.val / 16; omega
        · show t.val % 16 * 1024 + 1 * (x 1).val = t.val % 16 * 1024 + (x 1).val; omega
        · show 0 * 1024 + 1 * (x 2).val = (x 2).val; omega
      rw [e]
      exact (congrArg _ (eq_ix3_one x)).trans (out_block m c t (x 1) (x 2)))
    (fun i => by
      have h0 : (i 0).val < 2 := (i 0).isLt
      have h1 : (i 1).val < 16384 := (i 1).isLt
      have h2 : (i 2).val < 1024 := (i 2).isLt
      have hN : cfg0.N = 32 := N_0
      obtain ⟨t, ht⟩ : ∃ t : Fin cfg0.N, t.val = (i 0).val * 16 + (i 1).val / 1024 :=
        ⟨⟨(i 0).val * 16 + (i 1).val / 1024, by omega⟩, rfl⟩
      refine ⟨t, flush0_9 t, ?_⟩
      show i ∈ ((View.whole main_v2).slice (win0_9.rect t)).set
      rw [View.set_slice_whole, Rect.mem_set_unit]
      intro a
      show win0_9.index t a * S1x1024x1024.size a ≤ (i a).val ∧ (i a).val < win0_9.index t a * S1x1024x1024.size a + S1x1024x1024.size a
      rw [(index_all t).2.2.2.2.2.2.2.2.2]
      fin_cases a
      · show t.val / 16 * 1 ≤ (i 0).val ∧ (i 0).val < t.val / 16 * 1 + 1; omega
      · show t.val % 16 * 1024 ≤ (i 1).val ∧ (i 1).val < t.val % 16 * 1024 + 1024; omega
      · show 0 * 1024 ≤ (i 2).val ∧ (i 2).val < 0 * 1024 + 1024; omega)

end Cert.Kernel3Ideal.Mix

end
-- ==== Proof.RefMix.lean ====
/- The reference of the output projection, read at an index. -/
module

public import proofs.«01_k».proof.Proof.MixModel
public import proofs.«01_k».proof.Proof.Gen.Reference3Ideal.Run

@[expose] public section

noncomputable section

open Idealize.ShloMosaic Idealize.ShloMosaic.TcCoe Idealize.SL.Sem

namespace Cert.Reference3Ideal.Mix

open Cert.Reference3Ideal Cert.Reference3Ideal.Gen Cert.Reference3Ideal.Value Cert.Mix

/-- The summed outputs of the two directions, by head. -/
def both (of ob : FVec Ideal S2x16384x512 .bf16) : FVec Ideal S2x16384x4x128 .f32 :=
  shapeCast _ (addf (extf .f32 of bitsLt_bf16_f32) (extf .f32 ob bitsLt_bf16_f32)) shapeCasts_S2x16384x512_S2x16384x4x128

/-- Those, normalized and weighted. -/
def scaled (o : FVec Ideal S2x16384x4x128 .f32) (gn : FVec Ideal S128 .f32) : FVec Ideal S2x16384x4x128 .f32 :=
  mulf (mulf o (broadcastInDim S2x16384x4x128 ![0, 1, 2, 3] bcast_S2x16384x4x1_S2x16384x4x128_0_1_2_3 (Host.rsqrt (addf (Host.divf (broadcastInDim S2x16384x4x1 ![0, 1, 2] bcast_S2x16384x4_S2x16384x4x1_0_1_2 (Host.reduceAdd (mulf o o) (constant S_ .f32 0x00000000#32) reducesTo_S2x16384x4x128_S2x16384x4_d3 h_S_)) (broadcastInDim S2x16384x4x1 ![] bcast_S_S2x16384x4x1 (constant S_ .f32 0x43000000#32))) (broadcastInDim S2x16384x4x1 ![] bcast_S_S2x16384x4x1 (constant S_ .f32 0x358637BD#32)))))) (broadcastInDim S2x16384x4x128 ![0, 1, 2, 3] bcast_S1x1x1x128_S2x16384x4x128_0_1_2_3 (broadcastInDim S1x1x1x128 ![3] bcast_S128_S1x1x1x128_3 gn))

/-- The gate. -/
def gate (z : FVec Ideal S2x16384x4x128 .f32) : FVec Ideal S2x16384x4x128 .f32 :=
  mulf z (Host.divf (broadcastInDim S2x16384x4x128 ![] bcast_S_S2x16384x4x128 (constant S_ .f32 0x3F800000#32)) (addf (broadcastInDim S2x16384x4x128 ![] bcast_S_S2x16384x4x128 (constant S_ .f32 0x3F800000#32)) (Host.exp (Host.negf z))))

/-- The heads' rows, gated. -/
def heads (of ob z : FVec Ideal S2x16384x512 .bf16) (gn : FVec Ideal S128 .f32) : FVec Ideal S2x16384x512 .f32 :=
  shapeCast _ (mulf (scaled (both of ob) gn) (gate (shapeCast _ (extf .f32 z bitsLt_bf16_f32) shapeCasts_S2x16384x512_S2x16384x4x128))) shapeCasts_S2x16384x4x128_S2x16384x512

/-- All channels. -/
def channels (y : FVec Ideal S2x16384x512 .f32) (yf yc : FVec Ideal S2x16384x256 .f32) : FVec Ideal S2x16384x1024 .f32 :=
  concatenate S2x16384x1024 2 [⟨S2x16384x512, y⟩, ⟨S2x16384x256, yf⟩, ⟨S2x16384x256, yc⟩] concatenates_S2x16384x512_S2x16384x256_S2x16384x256_S2x16384x1024_d2

/-- The result. -/
def result (x : FVec Ideal S2x16384x1024 .f32) (gt : FVec Ideal S2x1x1024 .f32) (u : FVec Ideal S2x16384x1024 .f32) (w : FVec Ideal S1024x1024 .f32) : FVec Ideal S2x16384x1024 .f32 :=
  addf x (mulf (broadcastInDim S2x16384x1024 ![0, 1, 2] bcast_S2x1x1024_S2x16384x1024_0_1_2 gt) (Host.dotGeneral dot_S2x16384x1024_S1024x1024_S2x16384x1024_2_0_01_1_n_n none u w))

/-- The summed outputs at an index. -/
theorem both_at (of ob : FVec Ideal S2x16384x512 .bf16) (b : Fin 2) (l : Fin 16384) (h : Fin 4) (k : Fin 128) :
    (both of ob (ix4 b l h k) : EReal) = of (ix3 b l ⟨h.val * 128 + k.val, by omega⟩) + ob (ix3 b l ⟨h.val * 128 + k.val, by omega⟩) := by
  pointwise [both]

/-- The normalized rows at an index. -/
theorem scaled_at (o : FVec Ideal S2x16384x4x128 .f32) (gn : FVec Ideal S128 .f32) (b : Fin 2) (l : Fin 16384) (h : Fin 4) (k : Fin 128) :
    (scaled o gn (ix4 b l h k) : EReal) = normed (fun k => o (ix4 b l h k)) (fun k => gn (ix1 k)) k := by
  pointwise [scaled]
  rfl

/-- The gate at an index. -/
theorem gate_at (z : FVec Ideal S2x16384x4x128 .f32) (b : Fin 2) (l : Fin 16384) (h : Fin 4) (k : Fin 128) :
    (gate z (ix4 b l h k) : EReal) = z (ix4 b l h k) * Ideal.logistic (z (ix4 b l h k)) := by
  pointwise [gate]
  rfl

/-- The heads' rows at an index. -/
theorem heads_at (of ob z : FVec Ideal S2x16384x512 .bf16) (gn : FVec Ideal S128 .f32) (b : Fin 2) (l : Fin 16384) (h : Fin 4) (k : Fin 128) :
    (heads of ob z gn (ix3 b l ⟨h.val * 128 + k.val, by omega⟩) : EReal)
      = gated (fun k => of (ix3 b l ⟨h.val * 128 + k.val, by omega⟩) + ob (ix3 b l ⟨h.val * 128 + k.val, by omega⟩))
        (fun k => gn (ix1 k)) (fun k => z (ix3 b l ⟨h.val * 128 + k.val, by omega⟩)) k := by
  unfold gated
  simp only [← both_at]
  rw [← scaled_at]
  pointwise [heads]
  rw [gate_at]
  pointwise

/-- The heads' stretch of the channels. -/
theorem channels_y (y : FVec Ideal S2x16384x512 .f32) (yf yc : FVec Ideal S2x16384x256 .f32) (b : Fin 2) (l : Fin 16384) (k : Fin 512) :
    (channels y yf yc (ix3 b l ⟨k.val, by omega⟩) : EReal) = y (ix3 b l k) := by
  pointwise [channels]

/-- The Fourier channels. -/
theorem channels_f (y : FVec Ideal S2x16384x512 .f32) (yf yc : FVec Ideal S2x16384x256 .f32) (b : Fin 2) (l : Fin 16384) (k : Fin 256) :
    (channels y yf yc (ix3 b l ⟨512 + k.val, by omega⟩) : EReal) = yf (ix3 b l k) := by
  pointwise [channels]

/-- The convolution channels. -/
theorem channels_c (y : FVec Ideal S2x16384x512 .f32) (yf yc : FVec Ideal S2x16384x256 .f32) (b : Fin 2) (l : Fin 16384) (k : Fin 256) :
    (channels y yf yc (ix3 b l ⟨768 + k.val, by omega⟩) : EReal) = yc (ix3 b l k) := by
  pointwise [channels]
  rw [dif_neg (by omega), dif_neg (by omega)]
  congr 2
  exact Fin.ext (by dsimp only; omega)

/-- The result at an index. -/
theorem result_at (x : FVec Ideal S2x16384x1024 .f32) (gt : FVec Ideal S2x1x1024 .f32) (u : FVec Ideal S2x16384x1024 .f32) (w : FVec Ideal S1024x1024 .f32)
    (b : Fin 2) (l : Fin 16384) (n : Fin 1024) :
    (result x gt u w (ix3 b l n) : EReal) = x (ix3 b l n) + gt (ix3 b 0 n) * ∑ j : Fin 1024, u (ix3 b l j) * w (ix2 j n) := by
  pointwise [result]

/-- The result of the kernel's operands at an index. -/
theorem out_at (of ob z : FVec Ideal S2x16384x512 .bf16) (yf yc : FVec Ideal S2x16384x256 .f32) (x : FVec Ideal S2x16384x1024 .f32)
    (gt : FVec Ideal S2x1x1024 .f32) (gn : FVec Ideal S128 .f32) (w : FVec Ideal S1024x1024 .f32) (b : Fin 2) (l : Fin 16384) (n : Fin 1024) :
    (result x gt (channels (heads of ob z gn) yf yc) w (ix3 b l n) : EReal) = out of ob z yf yc x gt gn w b l n := by
  have hy : ∀ (h : Fin 4) (k : Fin 128), (channels (heads of ob z gn) yf yc (ix3 b l ⟨h.val * 128 + k.val, by omega⟩) : EReal) = _ :=
    fun h k => (channels_y (heads of ob z gn) yf yc b l ⟨h.val * 128 + k.val, by omega⟩).trans (heads_at of ob z gn b l h k)
  have h0 := hy 0
  have h1 := hy 1
  have h2 := hy 2
  have h3 := hy 3
  rw [result_at, sum_channels]
  simp only [channels_f, channels_c]
  unfold out project
  congr 2
  exact congrArg₂ (· + ·) (congrArg₂ (· + ·) (congrArg₂ (· + ·) (congrArg₂ (· + ·) rfl
      (Finset.sum_congr rfl fun k _ => congrArg (· * _) (h0 k))) (Finset.sum_congr rfl fun k _ => congrArg (· * _) (h1 k)))
    (Finset.sum_congr rfl fun k _ => congrArg (· * _) (h2 k))) (Finset.sum_congr rfl fun k _ => congrArg (· * _) (h3 k))

end Cert.Reference3Ideal.Mix

end
-- ==== Proof.MixClaim.lean ====
/- The output projection: the kernel's result is the reference's, and the reference keeps its arguments. -/
module

public import proofs.«01_k».proof.Defs
public import proofs.«01_k».proof.Proof.Mix
public import proofs.«01_k».proof.Proof.RefMix
public import Idealize.ShloMosaic.Adequacy

@[expose] public section

noncomputable section

namespace Cert.Proof

open Idealize.ShloMosaic Idealize.SL.Sem

/-- The kernel's result is the reference's, over the extended reals. -/
theorem mix_eq : Cert.algebraic_Kernel3Ideal_Reference3Ideal (hKernel3Ideal := Cert.Kernel3Ideal.Gen.facts)
    (hReference3Ideal := Cert.Reference3Ideal.Gen.facts) := by
  intro m g m' g' _ hagree
  refine ⟨Cert.Kernel3Ideal.Mix.target m, ?_, ?_⟩
  · refine (θ_run _ _ _).mono (fun r h c => ?_) (Cert.Kernel3Ideal.Value.run_blocks m g)
    have hc := h c
    exact ⟨hc.1.trans (Cert.Kernel3Ideal.Mix.target_eq m c), hc.2⟩
  · refine (θ_run _ _ _).mono (fun r h c => ?_) (Cert.Reference3Ideal.Value.run m' g')
    have hc := h c
    obtain ⟨h0, h1, h2, h3, h4, h5, h6, h7, h8⟩ := hagree c
    refine ⟨hc.1.trans ?_, hc.2⟩
    rw [h0, h1, h2, h3, h4, h5, h6, h7, h8]
    funext y
    exact (congrArg _ (eq_ix3 y)).trans (Cert.Reference3Ideal.Mix.out_at _ _ _ _ _ _ _ _ _ (y 0) (y 1) (y 2))

/-- The reference runs, keeps its arguments and leaves no semaphore raised: it has none. -/
theorem frame_mix : Cert.quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩) (Cert.Reference3Ideal.Value.run m ρ)

end Cert.Proof

end
-- ==== Proof.lean ====
/- The claims: the programs' frames, the idealizations, and that each kernel's results are its reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Pre_finite
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Sweep
public import proofs.«01_k».proof.Proof.RefScan
public import proofs.«01_k».proof.Proof.QueryClaim
public import proofs.«01_k».proof.Proof.FoldClaim
public import proofs.«01_k».proof.Proof.Modulation
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Pre_finite_conv
public import proofs.«01_k».proof.Proof.ConvClaim
public import proofs.«01_k».proof.Proof.InputClaim
public import proofs.«01_k».proof.Proof.MixClaim
public import Idealize.ShloMosaic.Adequacy
public import Idealize.ShloMosaic.Init

@[expose] public section

noncomputable section

namespace Cert.Proof

open Idealize.ShloMosaic Idealize.SL.Sem

/-- From equal arguments both programs recur over the same data. -/
theorem data_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0)
          = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1)
          = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2)
          = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3)
          = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4)
          = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5)
          = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6)
          = m ((c.tc : Thread Cert.KernelIdeal.nD Cert.KernelIdeal.τ).loc Cert.KernelIdeal.main_arg6)) :
    Cert.ReferenceIdeal.Scan.data m' c = Cert.KernelIdeal.Sweep.data m c := by
  obtain ⟨h0, h1, h2, h3, h4, h5, h6⟩ := h
  unfold Cert.ReferenceIdeal.Scan.data Cert.KernelIdeal.Sweep.data
  rw [h0, h1, h2, h3, h4, h5, h6]

/-- The kernel's results are the reference's, over the extended reals. -/
theorem recur_eq : Cert.algebraic_KernelIdeal_ReferenceIdeal (hKernelIdeal := Cert.KernelIdeal.Gen.facts)
    (hReferenceIdeal := Cert.ReferenceIdeal.Gen.facts) := by
  intro m g m' g' _ hagree
  refine ⟨Cert.KernelIdeal.Sweep.forward m, Cert.KernelIdeal.Sweep.backward m, Cert.KernelIdeal.Sweep.final m, ?_, ?_⟩
  · refine (θ_run _ _ _).mono (fun r h c => ?_) (Cert.KernelIdeal.Value.run_blocks m g)
    have hc := h c
    exact ⟨hc.1.trans (Cert.KernelIdeal.Sweep.forward_eq m c), hc.2.1.trans (Cert.KernelIdeal.Sweep.backward_eq m c),
      hc.2.2.1.trans (Cert.KernelIdeal.Sweep.final_eq m c), hc.2.2.2⟩
  · refine (θ_run _ _ _).mono (fun r h c => ?_) (Cert.ReferenceIdeal.Value.run m' g')
    have hc := h c
    have hd := data_eq m m' c (hagree c)
    refine ⟨hc.1.trans ((Cert.ReferenceIdeal.Scan.forward_eq m' c).trans ?_),
      hc.2.1.trans ((Cert.ReferenceIdeal.Scan.backward_eq m' c).trans ?_),
      hc.2.2.1.trans ((Cert.ReferenceIdeal.Scan.final_eq m' c).trans ?_), hc.2.2.2⟩
    · exact congrArg (fun D : Cert.Recur.Data => fun y : Cert.ReferenceIdeal.S2x16384x512.Idx => D.out 0 (y 0) (y 1) (y 2)) hd
    · exact congrArg (fun D : Cert.Recur.Data => fun y : Cert.ReferenceIdeal.S2x16384x512.Idx => D.out 1 (y 0) (y 1) (y 2)) hd
    · exact congrArg (fun D : Cert.Recur.Data => fun y : Cert.ReferenceIdeal.S16x128x128.Idx =>
        D.before (Cert.KernelIdeal.Tile.dir (y 0)) (Cert.KernelIdeal.Tile.bat (y 0)) (Cert.KernelIdeal.Tile.head (y 0)) 128 (y 1) (y 2)) hd

/-- The reference runs, keeps its arguments and leaves no semaphore raised: it has none. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2, sem_eq_zero_of_no_sems (by decide) r.2⟩) (Cert.ReferenceIdeal.Value.run m ρ)

/-- The one literal that is named, the rounded `1 / √128`, is its number. -/
theorem named : Cert.preserves_Kernel2_Kernel2Ideal :=
  IdealRules.named_const.statement Cert.Kernel2Ideal.κ "inv_sqrt_dk" .f32 0x3DB504F3#32 (((Real.sqrt 128)⁻¹ : ℝ) : EReal) rfl

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite.Gen.facts, Cert.Pre_finite_conv.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_input,
  fun m ρ _ => Cert.Kernel3.Gen.frame m ρ, fun m ρ _ => Cert.Kernel3Ideal.Gen.frame m ρ, frame_mix,
  fun m ρ _ => Cert.Kernel4.Gen.frame m ρ, fun m ρ _ => Cert.Kernel4Ideal.Gen.frame m ρ, frame_query,
  fun m ρ _ => Cert.Kernel5.Gen.frame m ρ, fun m ρ _ => Cert.Kernel5Ideal.Gen.frame m ρ, fun m ρ _ => Cert.Kernel5Ideal.Gen.frame m ρ,
  frame_fold, fun m ρ _ => frame_fold m ρ trivial,
  fun m ρ _ => Cert.Kernel6.Gen.frame m ρ, fun m ρ _ => Cert.Kernel6Ideal.Gen.frame m ρ, frame_modulation,
  fun m ρ _ => Cert.Kernel7.Gen.frame m ρ, fun m ρ _ => Cert.Kernel7Ideal.Gen.frame m ρ, fun m ρ _ => Cert.Kernel7Ideal.Gen.frame m ρ,
  frame_conv, fun m ρ _ => frame_conv m ρ trivial,
  trivial, recur_eq, named, input_eq, trivial, mix_eq, trivial, query_eq, trivial, fold_eq, trivial, modulation_eq,
  trivial, conv_eq⟩

end Cert.Proof

end
